-- ==== Defs.lean ====
def Pre_Kernel (m : (ℓ : Loc Cert.Kernel.nD Cert.Kernel.τ Cert.Kernel.sig) → Buf (Elt Bits) ℓ) : Prop :=
  True

def Pre_KernelIdeal [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Channel (m : (ℓ : Loc Cert.Channel.nD Cert.Channel.τ Cert.Channel.sig) → Buf (Elt Bits) ℓ) : Prop :=
  True

def Pre_ChannelIdeal (m : (ℓ : Loc Cert.ChannelIdeal.nD Cert.ChannelIdeal.τ Cert.ChannelIdeal.sig) → Buf (Elt Ideal) ℓ) : Prop :=
  True

def Pre_ChannelReferenceIdeal (m : (ℓ : Loc Cert.ChannelReferenceIdeal.nD Cert.ChannelReferenceIdeal.τ Cert.ChannelReferenceIdeal.sig) → Buf (Elt Ideal) ℓ) : Prop :=
  True

def Pre_Premix (m : (ℓ : Loc Cert.Premix.nD Cert.Premix.τ Cert.Premix.sig) → Buf (Elt Bits) ℓ) : Prop :=
  True

def Pre_PremixIdeal (m : (ℓ : Loc Cert.PremixIdeal.nD Cert.PremixIdeal.τ Cert.PremixIdeal.sig) → Buf (Elt Ideal) ℓ) : Prop :=
  True

def Pre_PremixReferenceIdeal (m : (ℓ : Loc Cert.PremixReferenceIdeal.nD Cert.PremixReferenceIdeal.τ Cert.PremixReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal [hPre_ada_finite : Cert.Pre_ada_finite.Facts] (m : (ℓ : Loc Cert.AdaIdeal.nD Cert.AdaIdeal.τ Cert.AdaIdeal.sig) → Buf (Elt Ideal) ℓ) : Prop :=
  ∀ c : Dev Cert.AdaIdeal.nD,
    (Cert.Pre_ada_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))) = (fun _ => 1#1)

def Pre_AdaIdeal_none (m : (ℓ : Loc Cert.AdaIdeal.nD Cert.AdaIdeal.τ Cert.AdaIdeal.sig) → Buf (Elt Ideal) ℓ) : Prop :=
  True

def Pre_AdaReferenceIdeal [hPre_ada_finite : Cert.Pre_ada_finite.Facts] (m : (ℓ : Loc Cert.AdaReferenceIdeal.nD Cert.AdaReferenceIdeal.τ Cert.AdaReferenceIdeal.sig) → Buf (Elt Ideal) ℓ) : Prop :=
  ∀ c : Dev Cert.AdaReferenceIdeal.nD,
    (Cert.Pre_ada_finite.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Channel [hChannel : Cert.Channel.Facts] : Prop :=
  ∀ (m : (ℓ : Loc Cert.Channel.nD Cert.Channel.τ Cert.Channel.sig) → Buf (Elt Bits) ℓ) (g : Dev Cert.Channel.nD → PrngReg), Pre_Channel m →
    θ_run (Cert.Channel.defs (F := Bits)) (onTc (τ := Cert.Channel.τ) (Cert.Channel.main (F := Bits))) ⟨m, fun _ => 0, g⟩ (fun r => (∀ c : Dev Cert.Channel.nD,
      r.2.mem ((c.tc : Thread Cert.Channel.nD Cert.Channel.τ).loc Cert.Channel.main_arg0) = m ((c.tc : Thread Cert.Channel.nD Cert.Channel.τ).loc Cert.Channel.main_arg0)
      ∧ r.2.mem ((c.tc : Thread Cert.Channel.nD Cert.Channel.τ).loc Cert.Channel.main_arg1) = m ((c.tc : Thread Cert.Channel.nD Cert.Channel.τ).loc Cert.Channel.main_arg1)
      ∧ r.2.mem ((c.tc : Thread Cert.Channel.nD Cert.Channel.τ).loc Cert.Channel.main_arg2) = m ((c.tc : Thread Cert.Channel.nD Cert.Channel.τ).loc Cert.Channel.main_arg2)
      ∧ r.2.mem ((c.tc : Thread Cert.Channel.nD Cert.Channel.τ).loc Cert.Channel.main_arg3) = m ((c.tc : Thread Cert.Channel.nD Cert.Channel.τ).loc Cert.Channel.main_arg3)
      ∧ r.2.mem ((c.tc : Thread Cert.Channel.nD Cert.Channel.τ).loc Cert.Channel.main_arg4) = m ((c.tc : Thread Cert.Channel.nD Cert.Channel.τ).loc Cert.Channel.main_arg4)
      ∧ r.2.mem ((c.tc : Thread Cert.Channel.nD Cert.Channel.τ).loc Cert.Channel.main_arg5) = m ((c.tc : Thread Cert.Channel.nD Cert.Channel.τ).loc Cert.Channel.main_arg5)
      ∧ r.2.mem ((c.tc : Thread Cert.Channel.nD Cert.Channel.τ).loc Cert.Channel.main_arg6) = m ((c.tc : Thread Cert.Channel.nD Cert.Channel.τ).loc Cert.Channel.main_arg6)
      ∧ r.2.mem ((c.tc : Thread Cert.Channel.nD Cert.Channel.τ).loc Cert.Channel.main_arg7) = m ((c.tc : Thread Cert.Channel.nD Cert.Channel.τ).loc Cert.Channel.main_arg7)
      ∧ r.2.mem ((c.tc : Thread Cert.Channel.nD Cert.Channel.τ).loc Cert.Channel.main_arg8) = m ((c.tc : Thread Cert.Channel.nD Cert.Channel.τ).loc Cert.Channel.main_arg8)
      ∧ r.2.mem ((c.tc : Thread Cert.Channel.nD Cert.Channel.τ).loc Cert.Channel.main_arg9) = m ((c.tc : Thread Cert.Channel.nD Cert.Channel.τ).loc Cert.Channel.main_arg9)
      ∧ r.2.mem ((c.tc : Thread Cert.Channel.nD Cert.Channel.τ).loc Cert.Channel.main_arg10) = m ((c.tc : Thread Cert.Channel.nD Cert.Channel.τ).loc Cert.Channel.main_arg10))
      ∧ r.2.sem = fun _ => 0)

def quiescent_ChannelIdeal [hChannelIdeal : Cert.ChannelIdeal.Facts] : Prop :=
  ∀ (m : (ℓ : Loc Cert.ChannelIdeal.nD Cert.ChannelIdeal.τ Cert.ChannelIdeal.sig) → Buf (Elt Ideal) ℓ) (g : Dev Cert.ChannelIdeal.nD → PrngReg), Pre_ChannelIdeal m →
    θ_run (Cert.ChannelIdeal.defs (F := Ideal)) (onTc (τ := Cert.ChannelIdeal.τ) (Cert.ChannelIdeal.main (F := Ideal))) ⟨m, fun _ => 0, g⟩ (fun r => (∀ c : Dev Cert.ChannelIdeal.nD,
      r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
      ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
      ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
      ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
      ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
      ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
      ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
      ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
      ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
      ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
      ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10))
      ∧ r.2.sem = fun _ => 0)

def quiescent_ChannelReferenceIdeal [hChannelReferenceIdeal : Cert.ChannelReferenceIdeal.Facts] : Prop :=
  ∀ (m : (ℓ : Loc Cert.ChannelReferenceIdeal.nD Cert.ChannelReferenceIdeal.τ Cert.ChannelReferenceIdeal.sig) → Buf (Elt Ideal) ℓ) (g : Dev Cert.ChannelReferenceIdeal.nD → PrngReg), Pre_ChannelReferenceIdeal m →
    θ_run (Cert.ChannelReferenceIdeal.defs (F := Ideal)) (onTc (τ := Cert.ChannelReferenceIdeal.τ) (Cert.ChannelReferenceIdeal.main (F := Ideal))) ⟨m, fun _ => 0, g⟩ (fun r => (∀ c : Dev Cert.ChannelReferenceIdeal.nD,
      r.2.mem ((c.tc : Thread Cert.ChannelReferenceIdeal.nD Cert.ChannelReferenceIdeal.τ).loc Cert.ChannelReferenceIdeal.main_arg0) = m ((c.tc : Thread Cert.ChannelReferenceIdeal.nD Cert.ChannelReferenceIdeal.τ).loc Cert.ChannelReferenceIdeal.main_arg0)
      ∧ r.2.mem ((c.tc : Thread Cert.ChannelReferenceIdeal.nD Cert.ChannelReferenceIdeal.τ).loc Cert.ChannelReferenceIdeal.main_arg1) = m ((c.tc : Thread Cert.ChannelReferenceIdeal.nD Cert.ChannelReferenceIdeal.τ).loc Cert.ChannelReferenceIdeal.main_arg1)
      ∧ r.2.mem ((c.tc : Thread Cert.ChannelReferenceIdeal.nD Cert.ChannelReferenceIdeal.τ).loc Cert.ChannelReferenceIdeal.main_arg2) = m ((c.tc : Thread Cert.ChannelReferenceIdeal.nD Cert.ChannelReferenceIdeal.τ).loc Cert.ChannelReferenceIdeal.main_arg2)
      ∧ r.2.mem ((c.tc : Thread Cert.ChannelReferenceIdeal.nD Cert.ChannelReferenceIdeal.τ).loc Cert.ChannelReferenceIdeal.main_arg3) = m ((c.tc : Thread Cert.ChannelReferenceIdeal.nD Cert.ChannelReferenceIdeal.τ).loc Cert.ChannelReferenceIdeal.main_arg3)
      ∧ r.2.mem ((c.tc : Thread Cert.ChannelReferenceIdeal.nD Cert.ChannelReferenceIdeal.τ).loc Cert.ChannelReferenceIdeal.main_arg4) = m ((c.tc : Thread Cert.ChannelReferenceIdeal.nD Cert.ChannelReferenceIdeal.τ).loc Cert.ChannelReferenceIdeal.main_arg4)
      ∧ r.2.mem ((c.tc : Thread Cert.ChannelReferenceIdeal.nD Cert.ChannelReferenceIdeal.τ).loc Cert.ChannelReferenceIdeal.main_arg5) = m ((c.tc : Thread Cert.ChannelReferenceIdeal.nD Cert.ChannelReferenceIdeal.τ).loc Cert.ChannelReferenceIdeal.main_arg5)
      ∧ r.2.mem ((c.tc : Thread Cert.ChannelReferenceIdeal.nD Cert.ChannelReferenceIdeal.τ).loc Cert.ChannelReferenceIdeal.main_arg6) = m ((c.tc : Thread Cert.ChannelReferenceIdeal.nD Cert.ChannelReferenceIdeal.τ).loc Cert.ChannelReferenceIdeal.main_arg6)
      ∧ r.2.mem ((c.tc : Thread Cert.ChannelReferenceIdeal.nD Cert.ChannelReferenceIdeal.τ).loc Cert.ChannelReferenceIdeal.main_arg7) = m ((c.tc : Thread Cert.ChannelReferenceIdeal.nD Cert.ChannelReferenceIdeal.τ).loc Cert.ChannelReferenceIdeal.main_arg7)
      ∧ r.2.mem ((c.tc : Thread Cert.ChannelReferenceIdeal.nD Cert.ChannelReferenceIdeal.τ).loc Cert.ChannelReferenceIdeal.main_arg8) = m ((c.tc : Thread Cert.ChannelReferenceIdeal.nD Cert.ChannelReferenceIdeal.τ).loc Cert.ChannelReferenceIdeal.main_arg8)
      ∧ r.2.mem ((c.tc : Thread Cert.ChannelReferenceIdeal.nD Cert.ChannelReferenceIdeal.τ).loc Cert.ChannelReferenceIdeal.main_arg9) = m ((c.tc : Thread Cert.ChannelReferenceIdeal.nD Cert.ChannelReferenceIdeal.τ).loc Cert.ChannelReferenceIdeal.main_arg9)
      ∧ r.2.mem ((c.tc : Thread Cert.ChannelReferenceIdeal.nD Cert.ChannelReferenceIdeal.τ).loc Cert.ChannelReferenceIdeal.main_arg10) = m ((c.tc : Thread Cert.ChannelReferenceIdeal.nD Cert.ChannelReferenceIdeal.τ).loc Cert.ChannelReferenceIdeal.main_arg10))
      ∧ r.2.sem = fun _ => 0)

def quiescent_Premix [hPremix : Cert.Premix.Facts] : Prop :=
  ∀ (m : (ℓ : Loc Cert.Premix.nD Cert.Premix.τ Cert.Premix.sig) → Buf (Elt Bits) ℓ) (g : Dev Cert.Premix.nD → PrngReg), Pre_Premix m →
    θ_run (Cert.Premix.defs (F := Bits)) (onTc (τ := Cert.Premix.τ) (Cert.Premix.main (F := Bits))) ⟨m, fun _ => 0, g⟩ (fun r => (∀ c : Dev Cert.Premix.nD,
      r.2.mem ((c.tc : Thread Cert.Premix.nD Cert.Premix.τ).loc Cert.Premix.main_arg0) = m ((c.tc : Thread Cert.Premix.nD Cert.Premix.τ).loc Cert.Premix.main_arg0)
      ∧ r.2.mem ((c.tc : Thread Cert.Premix.nD Cert.Premix.τ).loc Cert.Premix.main_arg1) = m ((c.tc : Thread Cert.Premix.nD Cert.Premix.τ).loc Cert.Premix.main_arg1)
      ∧ r.2.mem ((c.tc : Thread Cert.Premix.nD Cert.Premix.τ).loc Cert.Premix.main_arg2) = m ((c.tc : Thread Cert.Premix.nD Cert.Premix.τ).loc Cert.Premix.main_arg2)
      ∧ r.2.mem ((c.tc : Thread Cert.Premix.nD Cert.Premix.τ).loc Cert.Premix.main_arg3) = m ((c.tc : Thread Cert.Premix.nD Cert.Premix.τ).loc Cert.Premix.main_arg3)
      ∧ r.2.mem ((c.tc : Thread Cert.Premix.nD Cert.Premix.τ).loc Cert.Premix.main_arg4) = m ((c.tc : Thread Cert.Premix.nD Cert.Premix.τ).loc Cert.Premix.main_arg4)
      ∧ r.2.mem ((c.tc : Thread Cert.Premix.nD Cert.Premix.τ).loc Cert.Premix.main_arg5) = m ((c.tc : Thread Cert.Premix.nD Cert.Premix.τ).loc Cert.Premix.main_arg5)
      ∧ r.2.mem ((c.tc : Thread Cert.Premix.nD Cert.Premix.τ).loc Cert.Premix.main_arg6) = m ((c.tc : Thread Cert.Premix.nD Cert.Premix.τ).loc Cert.Premix.main_arg6)
      ∧ r.2.mem ((c.tc : Thread Cert.Premix.nD Cert.Premix.τ).loc Cert.Premix.main_arg7) = m ((c.tc : Thread Cert.Premix.nD Cert.Premix.τ).loc Cert.Premix.main_arg7)
      ∧ r.2.mem ((c.tc : Thread Cert.Premix.nD Cert.Premix.τ).loc Cert.Premix.main_arg8) = m ((c.tc : Thread Cert.Premix.nD Cert.Premix.τ).loc Cert.Premix.main_arg8)
      ∧ r.2.mem ((c.tc : Thread Cert.Premix.nD Cert.Premix.τ).loc Cert.Premix.main_arg9) = m ((c.tc : Thread Cert.Premix.nD Cert.Premix.τ).loc Cert.Premix.main_arg9)
      ∧ r.2.mem ((c.tc : Thread Cert.Premix.nD Cert.Premix.τ).loc Cert.Premix.main_arg10) = m ((c.tc : Thread Cert.Premix.nD Cert.Premix.τ).loc Cert.Premix.main_arg10)
      ∧ r.2.mem ((c.tc : Thread Cert.Premix.nD Cert.Premix.τ).loc Cert.Premix.main_arg11) = m ((c.tc : Thread Cert.Premix.nD Cert.Premix.τ).loc Cert.Premix.main_arg11)
      ∧ r.2.mem ((c.tc : Thread Cert.Premix.nD Cert.Premix.τ).loc Cert.Premix.main_arg12) = m ((c.tc : Thread Cert.Premix.nD Cert.Premix.τ).loc Cert.Premix.main_arg12))
      ∧ r.2.sem = fun _ => 0)

def quiescent_PremixIdeal [hPremixIdeal : Cert.PremixIdeal.Facts] : Prop :=
  ∀ (m : (ℓ : Loc Cert.PremixIdeal.nD Cert.PremixIdeal.τ Cert.PremixIdeal.sig) → Buf (Elt Ideal) ℓ) (g : Dev Cert.PremixIdeal.nD → PrngReg), Pre_PremixIdeal m →
    θ_run (Cert.PremixIdeal.defs (F := Ideal)) (onTc (τ := Cert.PremixIdeal.τ) (Cert.PremixIdeal.main (F := Ideal))) ⟨m, fun _ => 0, g⟩ (fun r => (∀ c : Dev Cert.PremixIdeal.nD,
      r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
      ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
      ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
      ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
      ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
      ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
      ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6)
      ∧ r.2.mem ((c.tc : Thread Cert.PremixIdeal.nD Cert.PremixIdeal.τ).loc Cert.PremixIdeal.main_arg7) = m ((c.tc : Thread Cert.PremixIdeal.nD Cert.PremixIdeal.τ).loc Cert.PremixIdeal.main_arg7)
      ∧ r.2.mem ((c.tc : Thread Cert.PremixIdeal.nD Cert.PremixIdeal.τ).loc Cert.PremixIdeal.main_arg8) = m ((c.tc : Thread Cert.PremixIdeal.nD Cert.PremixIdeal.τ).loc Cert.PremixIdeal.main_arg8)
      ∧ r.2.mem ((c.tc : Thread Cert.PremixIdeal.nD Cert.PremixIdeal.τ).loc Cert.PremixIdeal.main_arg9) = m ((c.tc : Thread Cert.PremixIdeal.nD Cert.PremixIdeal.τ).loc Cert.PremixIdeal.main_arg9)
      ∧ r.2.mem ((c.tc : Thread Cert.PremixIdeal.nD Cert.PremixIdeal.τ).loc Cert.PremixIdeal.main_arg10) = m ((c.tc : Thread Cert.PremixIdeal.nD Cert.PremixIdeal.τ).loc Cert.PremixIdeal.main_arg10)
      ∧ r.2.mem ((c.tc : Thread Cert.PremixIdeal.nD Cert.PremixIdeal.τ).loc Cert.PremixIdeal.main_arg11) = m ((c.tc : Thread Cert.PremixIdeal.nD Cert.PremixIdeal.τ).loc Cert.PremixIdeal.main_arg11)
      ∧ r.2.mem ((c.tc : Thread Cert.PremixIdeal.nD Cert.PremixIdeal.τ).loc Cert.PremixIdeal.main_arg12) = m ((c.tc : Thread Cert.PremixIdeal.nD Cert.PremixIdeal.τ).loc Cert.PremixIdeal.main_arg12))
      ∧ r.2.sem = fun _ => 0)

def quiescent_PremixReferenceIdeal [hPremixReferenceIdeal : Cert.PremixReferenceIdeal.Facts] : Prop :=
  ∀ (m : (ℓ : Loc Cert.PremixReferenceIdeal.nD Cert.PremixReferenceIdeal.τ Cert.PremixReferenceIdeal.sig) → Buf (Elt Ideal) ℓ) (g : Dev Cert.PremixReferenceIdeal.nD → PrngReg), Pre_PremixReferenceIdeal m →
    θ_run (Cert.PremixReferenceIdeal.defs (F := Ideal)) (onTc (τ := Cert.PremixReferenceIdeal.τ) (Cert.PremixReferenceIdeal.main (F := Ideal))) ⟨m, fun _ => 0, g⟩ (fun r => (∀ c : Dev Cert.PremixReferenceIdeal.nD,
      r.2.mem ((c.tc : Thread Cert.PremixReferenceIdeal.nD Cert.PremixReferenceIdeal.τ).loc Cert.PremixReferenceIdeal.main_arg0) = m ((c.tc : Thread Cert.PremixReferenceIdeal.nD Cert.PremixReferenceIdeal.τ).loc Cert.PremixReferenceIdeal.main_arg0)
      ∧ r.2.mem ((c.tc : Thread Cert.PremixReferenceIdeal.nD Cert.PremixReferenceIdeal.τ).loc Cert.PremixReferenceIdeal.main_arg1) = m ((c.tc : Thread Cert.PremixReferenceIdeal.nD Cert.PremixReferenceIdeal.τ).loc Cert.PremixReferenceIdeal.main_arg1)
      ∧ r.2.mem ((c.tc : Thread Cert.PremixReferenceIdeal.nD Cert.PremixReferenceIdeal.τ).loc Cert.PremixReferenceIdeal.main_arg2) = m ((c.tc : Thread Cert.PremixReferenceIdeal.nD Cert.PremixReferenceIdeal.τ).loc Cert.PremixReferenceIdeal.main_arg2)
      ∧ r.2.mem ((c.tc : Thread Cert.PremixReferenceIdeal.nD Cert.PremixReferenceIdeal.τ).loc Cert.PremixReferenceIdeal.main_arg3) = m ((c.tc : Thread Cert.PremixReferenceIdeal.nD Cert.PremixReferenceIdeal.τ).loc Cert.PremixReferenceIdeal.main_arg3)
      ∧ r.2.mem ((c.tc : Thread Cert.PremixReferenceIdeal.nD Cert.PremixReferenceIdeal.τ).loc Cert.PremixReferenceIdeal.main_arg4) = m ((c.tc : Thread Cert.PremixReferenceIdeal.nD Cert.PremixReferenceIdeal.τ).loc Cert.PremixReferenceIdeal.main_arg4)
      ∧ r.2.mem ((c.tc : Thread Cert.PremixReferenceIdeal.nD Cert.PremixReferenceIdeal.τ).loc Cert.PremixReferenceIdeal.main_arg5) = m ((c.tc : Thread Cert.PremixReferenceIdeal.nD Cert.PremixReferenceIdeal.τ).loc Cert.PremixReferenceIdeal.main_arg5)
      ∧ r.2.mem ((c.tc : Thread Cert.PremixReferenceIdeal.nD Cert.PremixReferenceIdeal.τ).loc Cert.PremixReferenceIdeal.main_arg6) = m ((c.tc : Thread Cert.PremixReferenceIdeal.nD Cert.PremixReferenceIdeal.τ).loc Cert.PremixReferenceIdeal.main_arg6)
      ∧ r.2.mem ((c.tc : Thread Cert.PremixReferenceIdeal.nD Cert.PremixReferenceIdeal.τ).loc Cert.PremixReferenceIdeal.main_arg7) = m ((c.tc : Thread Cert.PremixReferenceIdeal.nD Cert.PremixReferenceIdeal.τ).loc Cert.PremixReferenceIdeal.main_arg7)
      ∧ r.2.mem ((c.tc : Thread Cert.PremixReferenceIdeal.nD Cert.PremixReferenceIdeal.τ).loc Cert.PremixReferenceIdeal.main_arg8) = m ((c.tc : Thread Cert.PremixReferenceIdeal.nD Cert.PremixReferenceIdeal.τ).loc Cert.PremixReferenceIdeal.main_arg8)
      ∧ r.2.mem ((c.tc : Thread Cert.PremixReferenceIdeal.nD Cert.PremixReferenceIdeal.τ).loc Cert.PremixReferenceIdeal.main_arg9) = m ((c.tc : Thread Cert.PremixReferenceIdeal.nD Cert.PremixReferenceIdeal.τ).loc Cert.PremixReferenceIdeal.main_arg9)
      ∧ r.2.mem ((c.tc : Thread Cert.PremixReferenceIdeal.nD Cert.PremixReferenceIdeal.τ).loc Cert.PremixReferenceIdeal.main_arg10) = m ((c.tc : Thread Cert.PremixReferenceIdeal.nD Cert.PremixReferenceIdeal.τ).loc Cert.PremixReferenceIdeal.main_arg10)
      ∧ r.2.mem ((c.tc : Thread Cert.PremixReferenceIdeal.nD Cert.PremixReferenceIdeal.τ).loc Cert.PremixReferenceIdeal.main_arg11) = m ((c.tc : Thread Cert.PremixReferenceIdeal.nD Cert.PremixReferenceIdeal.τ).loc Cert.PremixReferenceIdeal.main_arg11)
      ∧ r.2.mem ((c.tc : Thread Cert.PremixReferenceIdeal.nD Cert.PremixReferenceIdeal.τ).loc Cert.PremixReferenceIdeal.main_arg12) = m ((c.tc : Thread Cert.PremixReferenceIdeal.nD Cert.PremixReferenceIdeal.τ).loc Cert.PremixReferenceIdeal.main_arg12))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] [hPre_ada_finite : Cert.Pre_ada_finite.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_none [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_none m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaReferenceIdeal [hAdaReferenceIdeal : Cert.AdaReferenceIdeal.Facts] [hPre_ada_finite : Cert.Pre_ada_finite.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Channel_ChannelIdeal : Prop :=
  True

def algebraic_ChannelIdeal_ChannelReferenceIdeal [hChannelIdeal : Cert.ChannelIdeal.Facts] [hChannelReferenceIdeal : Cert.ChannelReferenceIdeal.Facts] : Prop :=
  ∀ (m : (ℓ : Loc Cert.ChannelIdeal.nD Cert.ChannelIdeal.τ Cert.ChannelIdeal.sig) → Buf (Elt Ideal) ℓ) (g : Dev Cert.ChannelIdeal.nD → PrngReg)
    (m' : (ℓ : Loc Cert.ChannelReferenceIdeal.nD Cert.ChannelReferenceIdeal.τ Cert.ChannelReferenceIdeal.sig) → Buf (Elt Ideal) ℓ) (g' : Dev Cert.ChannelReferenceIdeal.nD → PrngReg), Pre_ChannelIdeal m →
    (∀ c : Dev Cert.ChannelIdeal.nD,
      m' ((c.tc : Thread Cert.ChannelReferenceIdeal.nD Cert.ChannelReferenceIdeal.τ).loc Cert.ChannelReferenceIdeal.main_arg0) = m ((c.tc : Thread Cert.ChannelIdeal.nD Cert.ChannelIdeal.τ).loc Cert.ChannelIdeal.main_arg0)
      ∧ m' ((c.tc : Thread Cert.ChannelReferenceIdeal.nD Cert.ChannelReferenceIdeal.τ).loc Cert.ChannelReferenceIdeal.main_arg1) = m ((c.tc : Thread Cert.ChannelIdeal.nD Cert.ChannelIdeal.τ).loc Cert.ChannelIdeal.main_arg1)
      ∧ m' ((c.tc : Thread Cert.ChannelReferenceIdeal.nD Cert.ChannelReferenceIdeal.τ).loc Cert.ChannelReferenceIdeal.main_arg2) = m ((c.tc : Thread Cert.ChannelIdeal.nD Cert.ChannelIdeal.τ).loc Cert.ChannelIdeal.main_arg2)
      ∧ m' ((c.tc : Thread Cert.ChannelReferenceIdeal.nD Cert.ChannelReferenceIdeal.τ).loc Cert.ChannelReferenceIdeal.main_arg3) = m ((c.tc : Thread Cert.ChannelIdeal.nD Cert.ChannelIdeal.τ).loc Cert.ChannelIdeal.main_arg3)
      ∧ m' ((c.tc : Thread Cert.ChannelReferenceIdeal.nD Cert.ChannelReferenceIdeal.τ).loc Cert.ChannelReferenceIdeal.main_arg4) = m ((c.tc : Thread Cert.ChannelIdeal.nD Cert.ChannelIdeal.τ).loc Cert.ChannelIdeal.main_arg4)
      ∧ m' ((c.tc : Thread Cert.ChannelReferenceIdeal.nD Cert.ChannelReferenceIdeal.τ).loc Cert.ChannelReferenceIdeal.main_arg5) = m ((c.tc : Thread Cert.ChannelIdeal.nD Cert.ChannelIdeal.τ).loc Cert.ChannelIdeal.main_arg5)
      ∧ m' ((c.tc : Thread Cert.ChannelReferenceIdeal.nD Cert.ChannelReferenceIdeal.τ).loc Cert.ChannelReferenceIdeal.main_arg6) = m ((c.tc : Thread Cert.ChannelIdeal.nD Cert.ChannelIdeal.τ).loc Cert.ChannelIdeal.main_arg6)
      ∧ m' ((c.tc : Thread Cert.ChannelReferenceIdeal.nD Cert.ChannelReferenceIdeal.τ).loc Cert.ChannelReferenceIdeal.main_arg7) = m ((c.tc : Thread Cert.ChannelIdeal.nD Cert.ChannelIdeal.τ).loc Cert.ChannelIdeal.main_arg7)
      ∧ m' ((c.tc : Thread Cert.ChannelReferenceIdeal.nD Cert.ChannelReferenceIdeal.τ).loc Cert.ChannelReferenceIdeal.main_arg8) = m ((c.tc : Thread Cert.ChannelIdeal.nD Cert.ChannelIdeal.τ).loc Cert.ChannelIdeal.main_arg8)
      ∧ m' ((c.tc : Thread Cert.ChannelReferenceIdeal.nD Cert.ChannelReferenceIdeal.τ).loc Cert.ChannelReferenceIdeal.main_arg9) = m ((c.tc : Thread Cert.ChannelIdeal.nD Cert.ChannelIdeal.τ).loc Cert.ChannelIdeal.main_arg9)
      ∧ m' ((c.tc : Thread Cert.ChannelReferenceIdeal.nD Cert.ChannelReferenceIdeal.τ).loc Cert.ChannelReferenceIdeal.main_arg10) = m ((c.tc : Thread Cert.ChannelIdeal.nD Cert.ChannelIdeal.τ).loc Cert.ChannelIdeal.main_arg10)) →
    ∃ (v0 : (c : Dev Cert.ChannelIdeal.nD) → Buf (Elt Ideal) ((c.tc : Thread Cert.ChannelIdeal.nD Cert.ChannelIdeal.τ).loc Cert.ChannelIdeal.main_v16)),
      θ_run (Cert.ChannelIdeal.defs (F := Ideal)) (onTc (τ := Cert.ChannelIdeal.τ) (Cert.ChannelIdeal.main (F := Ideal))) ⟨m, fun _ => 0, g⟩ (fun r => ∀ c : Dev Cert.ChannelIdeal.nD,
          r.2.mem ((c.tc : Thread Cert.ChannelIdeal.nD Cert.ChannelIdeal.τ).loc Cert.ChannelIdeal.main_v16) = v0 c
          ∧ r.2.mem ((c.tc : Thread Cert.ChannelIdeal.nD Cert.ChannelIdeal.τ).loc Cert.ChannelIdeal.main_arg0) = m ((c.tc : Thread Cert.ChannelIdeal.nD Cert.ChannelIdeal.τ).loc Cert.ChannelIdeal.main_arg0)
          ∧ r.2.mem ((c.tc : Thread Cert.ChannelIdeal.nD Cert.ChannelIdeal.τ).loc Cert.ChannelIdeal.main_arg1) = m ((c.tc : Thread Cert.ChannelIdeal.nD Cert.ChannelIdeal.τ).loc Cert.ChannelIdeal.main_arg1)
          ∧ r.2.mem ((c.tc : Thread Cert.ChannelIdeal.nD Cert.ChannelIdeal.τ).loc Cert.ChannelIdeal.main_arg2) = m ((c.tc : Thread Cert.ChannelIdeal.nD Cert.ChannelIdeal.τ).loc Cert.ChannelIdeal.main_arg2)
          ∧ r.2.mem ((c.tc : Thread Cert.ChannelIdeal.nD Cert.ChannelIdeal.τ).loc Cert.ChannelIdeal.main_arg3) = m ((c.tc : Thread Cert.ChannelIdeal.nD Cert.ChannelIdeal.τ).loc Cert.ChannelIdeal.main_arg3)
          ∧ r.2.mem ((c.tc : Thread Cert.ChannelIdeal.nD Cert.ChannelIdeal.τ).loc Cert.ChannelIdeal.main_arg4) = m ((c.tc : Thread Cert.ChannelIdeal.nD Cert.ChannelIdeal.τ).loc Cert.ChannelIdeal.main_arg4)
          ∧ r.2.mem ((c.tc : Thread Cert.ChannelIdeal.nD Cert.ChannelIdeal.τ).loc Cert.ChannelIdeal.main_arg5) = m ((c.tc : Thread Cert.ChannelIdeal.nD Cert.ChannelIdeal.τ).loc Cert.ChannelIdeal.main_arg5)
          ∧ r.2.mem ((c.tc : Thread Cert.ChannelIdeal.nD Cert.ChannelIdeal.τ).loc Cert.ChannelIdeal.main_arg6) = m ((c.tc : Thread Cert.ChannelIdeal.nD Cert.ChannelIdeal.τ).loc Cert.ChannelIdeal.main_arg6)
          ∧ r.2.mem ((c.tc : Thread Cert.ChannelIdeal.nD Cert.ChannelIdeal.τ).loc Cert.ChannelIdeal.main_arg7) = m ((c.tc : Thread Cert.ChannelIdeal.nD Cert.ChannelIdeal.τ).loc Cert.ChannelIdeal.main_arg7)
          ∧ r.2.mem ((c.tc : Thread Cert.ChannelIdeal.nD Cert.ChannelIdeal.τ).loc Cert.ChannelIdeal.main_arg8) = m ((c.tc : Thread Cert.ChannelIdeal.nD Cert.ChannelIdeal.τ).loc Cert.ChannelIdeal.main_arg8)
          ∧ r.2.mem ((c.tc : Thread Cert.ChannelIdeal.nD Cert.ChannelIdeal.τ).loc Cert.ChannelIdeal.main_arg9) = m ((c.tc : Thread Cert.ChannelIdeal.nD Cert.ChannelIdeal.τ).loc Cert.ChannelIdeal.main_arg9)
          ∧ r.2.mem ((c.tc : Thread Cert.ChannelIdeal.nD Cert.ChannelIdeal.τ).loc Cert.ChannelIdeal.main_arg10) = m ((c.tc : Thread Cert.ChannelIdeal.nD Cert.ChannelIdeal.τ).loc Cert.ChannelIdeal.main_arg10))
      ∧ θ_run (Cert.ChannelReferenceIdeal.defs (F := Ideal)) (onTc (τ := Cert.ChannelReferenceIdeal.τ) (Cert.ChannelReferenceIdeal.main (F := Ideal))) ⟨m', fun _ => 0, g'⟩ (fun r => ∀ c : Dev Cert.ChannelReferenceIdeal.nD,
          r.2.mem ((c.tc : Thread Cert.ChannelReferenceIdeal.nD Cert.ChannelReferenceIdeal.τ).loc Cert.ChannelReferenceIdeal.main_v75) = v0 c
          ∧ r.2.mem ((c.tc : Thread Cert.ChannelReferenceIdeal.nD Cert.ChannelReferenceIdeal.τ).loc Cert.ChannelReferenceIdeal.main_arg0) = m' ((c.tc : Thread Cert.ChannelReferenceIdeal.nD Cert.ChannelReferenceIdeal.τ).loc Cert.ChannelReferenceIdeal.main_arg0)
          ∧ r.2.mem ((c.tc : Thread Cert.ChannelReferenceIdeal.nD Cert.ChannelReferenceIdeal.τ).loc Cert.ChannelReferenceIdeal.main_arg1) = m' ((c.tc : Thread Cert.ChannelReferenceIdeal.nD Cert.ChannelReferenceIdeal.τ).loc Cert.ChannelReferenceIdeal.main_arg1)
          ∧ r.2.mem ((c.tc : Thread Cert.ChannelReferenceIdeal.nD Cert.ChannelReferenceIdeal.τ).loc Cert.ChannelReferenceIdeal.main_arg2) = m' ((c.tc : Thread Cert.ChannelReferenceIdeal.nD Cert.ChannelReferenceIdeal.τ).loc Cert.ChannelReferenceIdeal.main_arg2)
          ∧ r.2.mem ((c.tc : Thread Cert.ChannelReferenceIdeal.nD Cert.ChannelReferenceIdeal.τ).loc Cert.ChannelReferenceIdeal.main_arg3) = m' ((c.tc : Thread Cert.ChannelReferenceIdeal.nD Cert.ChannelReferenceIdeal.τ).loc Cert.ChannelReferenceIdeal.main_arg3)
          ∧ r.2.mem ((c.tc : Thread Cert.ChannelReferenceIdeal.nD Cert.ChannelReferenceIdeal.τ).loc Cert.ChannelReferenceIdeal.main_arg4) = m' ((c.tc : Thread Cert.ChannelReferenceIdeal.nD Cert.ChannelReferenceIdeal.τ).loc Cert.ChannelReferenceIdeal.main_arg4)
          ∧ r.2.mem ((c.tc : Thread Cert.ChannelReferenceIdeal.nD Cert.ChannelReferenceIdeal.τ).loc Cert.ChannelReferenceIdeal.main_arg5) = m' ((c.tc : Thread Cert.ChannelReferenceIdeal.nD Cert.ChannelReferenceIdeal.τ).loc Cert.ChannelReferenceIdeal.main_arg5)
          ∧ r.2.mem ((c.tc : Thread Cert.ChannelReferenceIdeal.nD Cert.ChannelReferenceIdeal.τ).loc Cert.ChannelReferenceIdeal.main_arg6) = m' ((c.tc : Thread Cert.ChannelReferenceIdeal.nD Cert.ChannelReferenceIdeal.τ).loc Cert.ChannelReferenceIdeal.main_arg6)
          ∧ r.2.mem ((c.tc : Thread Cert.ChannelReferenceIdeal.nD Cert.ChannelReferenceIdeal.τ).loc Cert.ChannelReferenceIdeal.main_arg7) = m' ((c.tc : Thread Cert.ChannelReferenceIdeal.nD Cert.ChannelReferenceIdeal.τ).loc Cert.ChannelReferenceIdeal.main_arg7)
          ∧ r.2.mem ((c.tc : Thread Cert.ChannelReferenceIdeal.nD Cert.ChannelReferenceIdeal.τ).loc Cert.ChannelReferenceIdeal.main_arg8) = m' ((c.tc : Thread Cert.ChannelReferenceIdeal.nD Cert.ChannelReferenceIdeal.τ).loc Cert.ChannelReferenceIdeal.main_arg8)
          ∧ r.2.mem ((c.tc : Thread Cert.ChannelReferenceIdeal.nD Cert.ChannelReferenceIdeal.τ).loc Cert.ChannelReferenceIdeal.main_arg9) = m' ((c.tc : Thread Cert.ChannelReferenceIdeal.nD Cert.ChannelReferenceIdeal.τ).loc Cert.ChannelReferenceIdeal.main_arg9)
          ∧ r.2.mem ((c.tc : Thread Cert.ChannelReferenceIdeal.nD Cert.ChannelReferenceIdeal.τ).loc Cert.ChannelReferenceIdeal.main_arg10) = m' ((c.tc : Thread Cert.ChannelReferenceIdeal.nD Cert.ChannelReferenceIdeal.τ).loc Cert.ChannelReferenceIdeal.main_arg10))

def preserves_Premix_PremixIdeal : Prop :=
  True

def algebraic_PremixIdeal_PremixReferenceIdeal [hPremixIdeal : Cert.PremixIdeal.Facts] [hPremixReferenceIdeal : Cert.PremixReferenceIdeal.Facts] : Prop :=
  ∀ (m : (ℓ : Loc Cert.PremixIdeal.nD Cert.PremixIdeal.τ Cert.PremixIdeal.sig) → Buf (Elt Ideal) ℓ) (g : Dev Cert.PremixIdeal.nD → PrngReg)
    (m' : (ℓ : Loc Cert.PremixReferenceIdeal.nD Cert.PremixReferenceIdeal.τ Cert.PremixReferenceIdeal.sig) → Buf (Elt Ideal) ℓ) (g' : Dev Cert.PremixReferenceIdeal.nD → PrngReg), Pre_PremixIdeal m →
    (∀ c : Dev Cert.PremixIdeal.nD,
      m' ((c.tc : Thread Cert.PremixReferenceIdeal.nD Cert.PremixReferenceIdeal.τ).loc Cert.PremixReferenceIdeal.main_arg0) = m ((c.tc : Thread Cert.PremixIdeal.nD Cert.PremixIdeal.τ).loc Cert.PremixIdeal.main_arg0)
      ∧ m' ((c.tc : Thread Cert.PremixReferenceIdeal.nD Cert.PremixReferenceIdeal.τ).loc Cert.PremixReferenceIdeal.main_arg1) = m ((c.tc : Thread Cert.PremixIdeal.nD Cert.PremixIdeal.τ).loc Cert.PremixIdeal.main_arg1)
      ∧ m' ((c.tc : Thread Cert.PremixReferenceIdeal.nD Cert.PremixReferenceIdeal.τ).loc Cert.PremixReferenceIdeal.main_arg2) = m ((c.tc : Thread Cert.PremixIdeal.nD Cert.PremixIdeal.τ).loc Cert.PremixIdeal.main_arg2)
      ∧ m' ((c.tc : Thread Cert.PremixReferenceIdeal.nD Cert.PremixReferenceIdeal.τ).loc Cert.PremixReferenceIdeal.main_arg3) = m ((c.tc : Thread Cert.PremixIdeal.nD Cert.PremixIdeal.τ).loc Cert.PremixIdeal.main_arg3)
      ∧ m' ((c.tc : Thread Cert.PremixReferenceIdeal.nD Cert.PremixReferenceIdeal.τ).loc Cert.PremixReferenceIdeal.main_arg4) = m ((c.tc : Thread Cert.PremixIdeal.nD Cert.PremixIdeal.τ).loc Cert.PremixIdeal.main_arg4)
      ∧ m' ((c.tc : Thread Cert.PremixReferenceIdeal.nD Cert.PremixReferenceIdeal.τ).loc Cert.PremixReferenceIdeal.main_arg5) = m ((c.tc : Thread Cert.PremixIdeal.nD Cert.PremixIdeal.τ).loc Cert.PremixIdeal.main_arg5)
      ∧ m' ((c.tc : Thread Cert.PremixReferenceIdeal.nD Cert.PremixReferenceIdeal.τ).loc Cert.PremixReferenceIdeal.main_arg6) = m ((c.tc : Thread Cert.PremixIdeal.nD Cert.PremixIdeal.τ).loc Cert.PremixIdeal.main_arg6)
      ∧ m' ((c.tc : Thread Cert.PremixReferenceIdeal.nD Cert.PremixReferenceIdeal.τ).loc Cert.PremixReferenceIdeal.main_arg7) = m ((c.tc : Thread Cert.PremixIdeal.nD Cert.PremixIdeal.τ).loc Cert.PremixIdeal.main_arg7)
      ∧ m' ((c.tc : Thread Cert.PremixReferenceIdeal.nD Cert.PremixReferenceIdeal.τ).loc Cert.PremixReferenceIdeal.main_arg8) = m ((c.tc : Thread Cert.PremixIdeal.nD Cert.PremixIdeal.τ).loc Cert.PremixIdeal.main_arg8)
      ∧ m' ((c.tc : Thread Cert.PremixReferenceIdeal.nD Cert.PremixReferenceIdeal.τ).loc Cert.PremixReferenceIdeal.main_arg9) = m ((c.tc : Thread Cert.PremixIdeal.nD Cert.PremixIdeal.τ).loc Cert.PremixIdeal.main_arg9)
      ∧ m' ((c.tc : Thread Cert.PremixReferenceIdeal.nD Cert.PremixReferenceIdeal.τ).loc Cert.PremixReferenceIdeal.main_arg10) = m ((c.tc : Thread Cert.PremixIdeal.nD Cert.PremixIdeal.τ).loc Cert.PremixIdeal.main_arg10)
      ∧ m' ((c.tc : Thread Cert.PremixReferenceIdeal.nD Cert.PremixReferenceIdeal.τ).loc Cert.PremixReferenceIdeal.main_arg11) = m ((c.tc : Thread Cert.PremixIdeal.nD Cert.PremixIdeal.τ).loc Cert.PremixIdeal.main_arg11)
      ∧ m' ((c.tc : Thread Cert.PremixReferenceIdeal.nD Cert.PremixReferenceIdeal.τ).loc Cert.PremixReferenceIdeal.main_arg12) = m ((c.tc : Thread Cert.PremixIdeal.nD Cert.PremixIdeal.τ).loc Cert.PremixIdeal.main_arg12)) →
    ∃ (v0 : (c : Dev Cert.PremixIdeal.nD) → Buf (Elt Ideal) ((c.tc : Thread Cert.PremixIdeal.nD Cert.PremixIdeal.τ).loc Cert.PremixIdeal.main_v36_0)) (v1 : (c : Dev Cert.PremixIdeal.nD) → Buf (Elt Ideal) ((c.tc : Thread Cert.PremixIdeal.nD Cert.PremixIdeal.τ).loc Cert.PremixIdeal.main_v36_1)) (v2 : (c : Dev Cert.PremixIdeal.nD) → Buf (Elt Ideal) ((c.tc : Thread Cert.PremixIdeal.nD Cert.PremixIdeal.τ).loc Cert.PremixIdeal.main_v36_2)) (v3 : (c : Dev Cert.PremixIdeal.nD) → Buf (Elt Ideal) ((c.tc : Thread Cert.PremixIdeal.nD Cert.PremixIdeal.τ).loc Cert.PremixIdeal.main_v36_3)) (v4 : (c : Dev Cert.PremixIdeal.nD) → Buf (Elt Ideal) ((c.tc : Thread Cert.PremixIdeal.nD Cert.PremixIdeal.τ).loc Cert.PremixIdeal.main_v36_4)) (v5 : (c : Dev Cert.PremixIdeal.nD) → Buf (Elt Ideal) ((c.tc : Thread Cert.PremixIdeal.nD Cert.PremixIdeal.τ).loc Cert.PremixIdeal.main_v36_5)) (v6 : (c : Dev Cert.PremixIdeal.nD) → Buf (Elt Ideal) ((c.tc : Thread Cert.PremixIdeal.nD Cert.PremixIdeal.τ).loc Cert.PremixIdeal.main_v36_6)),
      θ_run (Cert.PremixIdeal.defs (F := Ideal)) (onTc (τ := Cert.PremixIdeal.τ) (Cert.PremixIdeal.main (F := Ideal))) ⟨m, fun _ => 0, g⟩ (fun r => ∀ c : Dev Cert.PremixIdeal.nD,
          r.2.mem ((c.tc : Thread Cert.PremixIdeal.nD Cert.PremixIdeal.τ).loc Cert.PremixIdeal.main_v36_0) = v0 c
          ∧ r.2.mem ((c.tc : Thread Cert.PremixIdeal.nD Cert.PremixIdeal.τ).loc Cert.PremixIdeal.main_v36_1) = v1 c
          ∧ r.2.mem ((c.tc : Thread Cert.PremixIdeal.nD Cert.PremixIdeal.τ).loc Cert.PremixIdeal.main_v36_2) = v2 c
          ∧ r.2.mem ((c.tc : Thread Cert.PremixIdeal.nD Cert.PremixIdeal.τ).loc Cert.PremixIdeal.main_v36_3) = v3 c
          ∧ r.2.mem ((c.tc : Thread Cert.PremixIdeal.nD Cert.PremixIdeal.τ).loc Cert.PremixIdeal.main_v36_4) = v4 c
          ∧ r.2.mem ((c.tc : Thread Cert.PremixIdeal.nD Cert.PremixIdeal.τ).loc Cert.PremixIdeal.main_v36_5) = v5 c
          ∧ r.2.mem ((c.tc : Thread Cert.PremixIdeal.nD Cert.PremixIdeal.τ).loc Cert.PremixIdeal.main_v36_6) = v6 c
          ∧ r.2.mem ((c.tc : Thread Cert.PremixIdeal.nD Cert.PremixIdeal.τ).loc Cert.PremixIdeal.main_arg0) = m ((c.tc : Thread Cert.PremixIdeal.nD Cert.PremixIdeal.τ).loc Cert.PremixIdeal.main_arg0)
          ∧ r.2.mem ((c.tc : Thread Cert.PremixIdeal.nD Cert.PremixIdeal.τ).loc Cert.PremixIdeal.main_arg1) = m ((c.tc : Thread Cert.PremixIdeal.nD Cert.PremixIdeal.τ).loc Cert.PremixIdeal.main_arg1)
          ∧ r.2.mem ((c.tc : Thread Cert.PremixIdeal.nD Cert.PremixIdeal.τ).loc Cert.PremixIdeal.main_arg2) = m ((c.tc : Thread Cert.PremixIdeal.nD Cert.PremixIdeal.τ).loc Cert.PremixIdeal.main_arg2)
          ∧ r.2.mem ((c.tc : Thread Cert.PremixIdeal.nD Cert.PremixIdeal.τ).loc Cert.PremixIdeal.main_arg3) = m ((c.tc : Thread Cert.PremixIdeal.nD Cert.PremixIdeal.τ).loc Cert.PremixIdeal.main_arg3)
          ∧ r.2.mem ((c.tc : Thread Cert.PremixIdeal.nD Cert.PremixIdeal.τ).loc Cert.PremixIdeal.main_arg4) = m ((c.tc : Thread Cert.PremixIdeal.nD Cert.PremixIdeal.τ).loc Cert.PremixIdeal.main_arg4)
          ∧ r.2.mem ((c.tc : Thread Cert.PremixIdeal.nD Cert.PremixIdeal.τ).loc Cert.PremixIdeal.main_arg5) = m ((c.tc : Thread Cert.PremixIdeal.nD Cert.PremixIdeal.τ).loc Cert.PremixIdeal.main_arg5)
          ∧ r.2.mem ((c.tc : Thread Cert.PremixIdeal.nD Cert.PremixIdeal.τ).loc Cert.PremixIdeal.main_arg6) = m ((c.tc : Thread Cert.PremixIdeal.nD Cert.PremixIdeal.τ).loc Cert.PremixIdeal.main_arg6)
          ∧ r.2.mem ((c.tc : Thread Cert.PremixIdeal.nD Cert.PremixIdeal.τ).loc Cert.PremixIdeal.main_arg7) = m ((c.tc : Thread Cert.PremixIdeal.nD Cert.PremixIdeal.τ).loc Cert.PremixIdeal.main_arg7)
          ∧ r.2.mem ((c.tc : Thread Cert.PremixIdeal.nD Cert.PremixIdeal.τ).loc Cert.PremixIdeal.main_arg8) = m ((c.tc : Thread Cert.PremixIdeal.nD Cert.PremixIdeal.τ).loc Cert.PremixIdeal.main_arg8)
          ∧ r.2.mem ((c.tc : Thread Cert.PremixIdeal.nD Cert.PremixIdeal.τ).loc Cert.PremixIdeal.main_arg9) = m ((c.tc : Thread Cert.PremixIdeal.nD Cert.PremixIdeal.τ).loc Cert.PremixIdeal.main_arg9)
          ∧ r.2.mem ((c.tc : Thread Cert.PremixIdeal.nD Cert.PremixIdeal.τ).loc Cert.PremixIdeal.main_arg10) = m ((c.tc : Thread Cert.PremixIdeal.nD Cert.PremixIdeal.τ).loc Cert.PremixIdeal.main_arg10)
          ∧ r.2.mem ((c.tc : Thread Cert.PremixIdeal.nD Cert.PremixIdeal.τ).loc Cert.PremixIdeal.main_arg11) = m ((c.tc : Thread Cert.PremixIdeal.nD Cert.PremixIdeal.τ).loc Cert.PremixIdeal.main_arg11)
          ∧ r.2.mem ((c.tc : Thread Cert.PremixIdeal.nD Cert.PremixIdeal.τ).loc Cert.PremixIdeal.main_arg12) = m ((c.tc : Thread Cert.PremixIdeal.nD Cert.PremixIdeal.τ).loc Cert.PremixIdeal.main_arg12))
      ∧ θ_run (Cert.PremixReferenceIdeal.defs (F := Ideal)) (onTc (τ := Cert.PremixReferenceIdeal.τ) (Cert.PremixReferenceIdeal.main (F := Ideal))) ⟨m', fun _ => 0, g'⟩ (fun r => ∀ c : Dev Cert.PremixReferenceIdeal.nD,
          r.2.mem ((c.tc : Thread Cert.PremixReferenceIdeal.nD Cert.PremixReferenceIdeal.τ).loc Cert.PremixReferenceIdeal.main_v94) = v0 c
          ∧ r.2.mem ((c.tc : Thread Cert.PremixReferenceIdeal.nD Cert.PremixReferenceIdeal.τ).loc Cert.PremixReferenceIdeal.main_v95) = v1 c
          ∧ r.2.mem ((c.tc : Thread Cert.PremixReferenceIdeal.nD Cert.PremixReferenceIdeal.τ).loc Cert.PremixReferenceIdeal.main_v96) = v2 c
          ∧ r.2.mem ((c.tc : Thread Cert.PremixReferenceIdeal.nD Cert.PremixReferenceIdeal.τ).loc Cert.PremixReferenceIdeal.main_v97) = v3 c
          ∧ r.2.mem ((c.tc : Thread Cert.PremixReferenceIdeal.nD Cert.PremixReferenceIdeal.τ).loc Cert.PremixReferenceIdeal.main_v98) = v4 c
          ∧ r.2.mem ((c.tc : Thread Cert.PremixReferenceIdeal.nD Cert.PremixReferenceIdeal.τ).loc Cert.PremixReferenceIdeal.main_v99) = v5 c
          ∧ r.2.mem ((c.tc : Thread Cert.PremixReferenceIdeal.nD Cert.PremixReferenceIdeal.τ).loc Cert.PremixReferenceIdeal.main_v100) = v6 c
          ∧ r.2.mem ((c.tc : Thread Cert.PremixReferenceIdeal.nD Cert.PremixReferenceIdeal.τ).loc Cert.PremixReferenceIdeal.main_arg0) = m' ((c.tc : Thread Cert.PremixReferenceIdeal.nD Cert.PremixReferenceIdeal.τ).loc Cert.PremixReferenceIdeal.main_arg0)
          ∧ r.2.mem ((c.tc : Thread Cert.PremixReferenceIdeal.nD Cert.PremixReferenceIdeal.τ).loc Cert.PremixReferenceIdeal.main_arg1) = m' ((c.tc : Thread Cert.PremixReferenceIdeal.nD Cert.PremixReferenceIdeal.τ).loc Cert.PremixReferenceIdeal.main_arg1)
          ∧ r.2.mem ((c.tc : Thread Cert.PremixReferenceIdeal.nD Cert.PremixReferenceIdeal.τ).loc Cert.PremixReferenceIdeal.main_arg2) = m' ((c.tc : Thread Cert.PremixReferenceIdeal.nD Cert.PremixReferenceIdeal.τ).loc Cert.PremixReferenceIdeal.main_arg2)
          ∧ r.2.mem ((c.tc : Thread Cert.PremixReferenceIdeal.nD Cert.PremixReferenceIdeal.τ).loc Cert.PremixReferenceIdeal.main_arg3) = m' ((c.tc : Thread Cert.PremixReferenceIdeal.nD Cert.PremixReferenceIdeal.τ).loc Cert.PremixReferenceIdeal.main_arg3)
          ∧ r.2.mem ((c.tc : Thread Cert.PremixReferenceIdeal.nD Cert.PremixReferenceIdeal.τ).loc Cert.PremixReferenceIdeal.main_arg4) = m' ((c.tc : Thread Cert.PremixReferenceIdeal.nD Cert.PremixReferenceIdeal.τ).loc Cert.PremixReferenceIdeal.main_arg4)
          ∧ r.2.mem ((c.tc : Thread Cert.PremixReferenceIdeal.nD Cert.PremixReferenceIdeal.τ).loc Cert.PremixReferenceIdeal.main_arg5) = m' ((c.tc : Thread Cert.PremixReferenceIdeal.nD Cert.PremixReferenceIdeal.τ).loc Cert.PremixReferenceIdeal.main_arg5)
          ∧ r.2.mem ((c.tc : Thread Cert.PremixReferenceIdeal.nD Cert.PremixReferenceIdeal.τ).loc Cert.PremixReferenceIdeal.main_arg6) = m' ((c.tc : Thread Cert.PremixReferenceIdeal.nD Cert.PremixReferenceIdeal.τ).loc Cert.PremixReferenceIdeal.main_arg6)
          ∧ r.2.mem ((c.tc : Thread Cert.PremixReferenceIdeal.nD Cert.PremixReferenceIdeal.τ).loc Cert.PremixReferenceIdeal.main_arg7) = m' ((c.tc : Thread Cert.PremixReferenceIdeal.nD Cert.PremixReferenceIdeal.τ).loc Cert.PremixReferenceIdeal.main_arg7)
          ∧ r.2.mem ((c.tc : Thread Cert.PremixReferenceIdeal.nD Cert.PremixReferenceIdeal.τ).loc Cert.PremixReferenceIdeal.main_arg8) = m' ((c.tc : Thread Cert.PremixReferenceIdeal.nD Cert.PremixReferenceIdeal.τ).loc Cert.PremixReferenceIdeal.main_arg8)
          ∧ r.2.mem ((c.tc : Thread Cert.PremixReferenceIdeal.nD Cert.PremixReferenceIdeal.τ).loc Cert.PremixReferenceIdeal.main_arg9) = m' ((c.tc : Thread Cert.PremixReferenceIdeal.nD Cert.PremixReferenceIdeal.τ).loc Cert.PremixReferenceIdeal.main_arg9)
          ∧ r.2.mem ((c.tc : Thread Cert.PremixReferenceIdeal.nD Cert.PremixReferenceIdeal.τ).loc Cert.PremixReferenceIdeal.main_arg10) = m' ((c.tc : Thread Cert.PremixReferenceIdeal.nD Cert.PremixReferenceIdeal.τ).loc Cert.PremixReferenceIdeal.main_arg10)
          ∧ r.2.mem ((c.tc : Thread Cert.PremixReferenceIdeal.nD Cert.PremixReferenceIdeal.τ).loc Cert.PremixReferenceIdeal.main_arg11) = m' ((c.tc : Thread Cert.PremixReferenceIdeal.nD Cert.PremixReferenceIdeal.τ).loc Cert.PremixReferenceIdeal.main_arg11)
          ∧ r.2.mem ((c.tc : Thread Cert.PremixReferenceIdeal.nD Cert.PremixReferenceIdeal.τ).loc Cert.PremixReferenceIdeal.main_arg12) = m' ((c.tc : Thread Cert.PremixReferenceIdeal.nD Cert.PremixReferenceIdeal.τ).loc Cert.PremixReferenceIdeal.main_arg12))

def preserves_Ada_AdaIdeal : Prop :=
  True

def algebraic_AdaIdeal_AdaReferenceIdeal [hAdaIdeal : Cert.AdaIdeal.Facts] [hAdaReferenceIdeal : Cert.AdaReferenceIdeal.Facts] [hPre_ada_finite : Cert.Pre_ada_finite.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v6) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hChannel : Cert.Channel.Facts) (hChannelIdeal : Cert.ChannelIdeal.Facts) (hChannelReferenceIdeal : Cert.ChannelReferenceIdeal.Facts) (hPremix : Cert.Premix.Facts) (hPremixIdeal : Cert.PremixIdeal.Facts) (hPremixReferenceIdeal : Cert.PremixReferenceIdeal.Facts) (hAda : Cert.Ada.Facts) (hAdaIdeal : Cert.AdaIdeal.Facts) (hAdaReferenceIdeal : Cert.AdaReferenceIdeal.Facts) (hPre_inputs_finite : Cert.Pre_inputs_finite.Facts) (hPre_ada_finite : Cert.Pre_ada_finite.Facts),
    quiescent_Kernel (hKernel := hKernel)
    ∧ quiescent_KernelIdeal (hKernelIdeal := hKernelIdeal) (hPre_inputs_finite := hPre_inputs_finite)
    ∧ quiescent_KernelIdeal_pre_none (hKernelIdeal := hKernelIdeal)
    ∧ quiescent_ReferenceIdeal (hReferenceIdeal := hReferenceIdeal) (hPre_inputs_finite := hPre_inputs_finite)
    ∧ quiescent_Channel (hChannel := hChannel)
    ∧ quiescent_ChannelIdeal (hChannelIdeal := hChannelIdeal)
    ∧ quiescent_ChannelReferenceIdeal (hChannelReferenceIdeal := hChannelReferenceIdeal)
    ∧ quiescent_Premix (hPremix := hPremix)
    ∧ quiescent_PremixIdeal (hPremixIdeal := hPremixIdeal)
    ∧ quiescent_PremixReferenceIdeal (hPremixReferenceIdeal := hPremixReferenceIdeal)
    ∧ quiescent_Ada (hAda := hAda)
    ∧ quiescent_AdaIdeal (hAdaIdeal := hAdaIdeal) (hPre_ada_finite := hPre_ada_finite)
    ∧ quiescent_AdaIdeal_pre_none (hAdaIdeal := hAdaIdeal)
    ∧ quiescent_AdaReferenceIdeal (hAdaReferenceIdeal := hAdaReferenceIdeal) (hPre_ada_finite := hPre_ada_finite)
    ∧ preserves_Kernel_KernelIdeal
    ∧ algebraic_KernelIdeal_ReferenceIdeal (hKernelIdeal := hKernelIdeal) (hReferenceIdeal := hReferenceIdeal) (hPre_inputs_finite := hPre_inputs_finite)
    ∧ preserves_Channel_ChannelIdeal
    ∧ algebraic_ChannelIdeal_ChannelReferenceIdeal (hChannelIdeal := hChannelIdeal) (hChannelReferenceIdeal := hChannelReferenceIdeal)
    ∧ preserves_Premix_PremixIdeal
    ∧ algebraic_PremixIdeal_PremixReferenceIdeal (hPremixIdeal := hPremixIdeal) (hPremixReferenceIdeal := hPremixReferenceIdeal)
    ∧ preserves_Ada_AdaIdeal
    ∧ algebraic_AdaIdeal_AdaReferenceIdeal (hAdaIdeal := hAdaIdeal) (hAdaReferenceIdeal := hAdaReferenceIdeal) (hPre_ada_finite := hPre_ada_finite)
-- ==== Pre_ada_finite.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S8x1024 .f32) (main_arg1 : FVec F S1x1024x6144 .f32) (main_arg2 : FVec F S1x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1x1024x6144 .f32 := Host.absf main_arg1
  let main_cst_0 : FVec F S_ .f32 := constant S_ .f32 0x7F800000#32
  let main_v5 : FVec F S1x1024x6144 .f32 := broadcastInDim S1x1024x6144 ![] bcast_S_S1x1024x6144 main_cst_0
  let main_v6 : IVec S1x1024x6144 1 := cmpf .olt main_v4 main_v5
  let main_c_1 : IVec S_ 1 := constantI S_ 1 1#1
  let main_v7 : IVec S_ 1 := (fun x v => Host.reduce IntOp.andi x v reducesTo_S1x1024x6144_S_d0_1_2 h_S_) main_v6 main_c_1
  let main_v8 : IVec S_ 1 := andi main_v3 main_v7
  main_v8
-- ==== Pre_inputs_finite.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : FVec F S1x64 .f32 := Host.absf main_arg4
  let main_cst_6 : FVec F S_ .f32 := constant S_ .f32 0x7F800000#32
  let main_v19 : FVec F S1x64 .f32 := broadcastInDim S1x64 ![] bcast_S_S1x64 main_cst_6
  let main_v20 : IVec S1x64 1 := cmpf .olt main_v18 main_v19
  let main_c_7 : IVec S_ 1 := constantI S_ 1 1#1
  let main_v21 : IVec S_ 1 := (fun x v => Host.reduce IntOp.andi x v reducesTo_S1x64_S_d0_1 h_S_) main_v20 main_c_7
  let main_v22 : IVec S_ 1 := andi main_v17 main_v21
  let main_v23 : FVec F S1x64 .f32 := Host.absf main_arg5
  let main_cst_8 : FVec F S_ .f32 := constant S_ .f32 0x7F800000#32
  let main_v24 : FVec F S1x64 .f32 := broadcastInDim S1x64 ![] bcast_S_S1x64 main_cst_8
  let main_v25 : IVec S1x64 1 := cmpf .olt main_v23 main_v24
  let main_c_9 : IVec S_ 1 := constantI S_ 1 1#1
  let main_v26 : IVec S_ 1 := (fun x v => Host.reduce IntOp.andi x v reducesTo_S1x64_S_d0_1 h_S_) main_v25 main_c_9
  let main_v27 : FVec F S1x64 .f32 := Host.absf main_arg6
  let main_cst_10 : FVec F S_ .f32 := constant S_ .f32 0x7F800000#32
  let main_v28 : FVec F S1x64 .f32 := broadcastInDim S1x64 ![] bcast_S_S1x64 main_cst_10
  let main_v29 : IVec S1x64 1 := cmpf .olt main_v27 main_v28
  let main_c_11 : IVec S_ 1 := constantI S_ 1 1#1
  let main_v30 : IVec S_ 1 := (fun x v => Host.reduce IntOp.andi x v reducesTo_S1x64_S_d0_1 h_S_) main_v29 main_c_11
  let main_v31 : IVec S_ 1 := andi main_v26 main_v30
  let main_v32 : IVec S_ 1 := andi main_v13 main_v22
  let main_v33 : IVec S_ 1 := andi main_v32 main_v31
  main_v33

def fn {F : FTy → Type} [FloatOps F] (main_arg0 : FVec F S8x4096x512 .f32) (main_arg1 : FVec F S8x4096x512 .f32) (main_arg2 : FVec F S8x4096x512 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  let main_v9 : FVec F S8x4096x512 .f32 := Host.absf main_arg2
  let main_cst_2 : FVec F S_ .f32 := constant S_ .f32 0x7F800000#32
  let main_v10 : FVec F S8x4096x512 .f32 := broadcastInDim S8x4096x512 ![] bcast_S_S8x4096x512 main_cst_2
  let main_v11 : IVec S8x4096x512 1 := cmpf .olt main_v9 main_v10
  let main_c_3 : IVec S_ 1 := constantI S_ 1 1#1
  let main_v12 : IVec S_ 1 := (fun x v => Host.reduce IntOp.andi x v reducesTo_S8x4096x512_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩
abbrev S64 : Shape := ⟨1, ![64]⟩
abbrev S4x64 : Shape := ⟨2, ![4, 64]⟩
abbrev S128 : Shape := ⟨1, ![128]⟩
abbrev S1x4096x128 : Shape := ⟨3, ![1, 4096, 128]⟩
abbrev S1x512x128 : Shape := ⟨3, ![1, 512, 128]⟩
abbrev S1024x128 : Shape := ⟨2, ![1024, 128]⟩
abbrev S1024x256 : Shape := ⟨2, ![1024, 256]⟩
abbrev S1024x512 : Shape := ⟨2, ![1024, 512]⟩
abbrev S512x128 : Shape := ⟨2, ![512, 128]⟩
abbrev S512x512 : Shape := ⟨2, ![512, 512]⟩
abbrev S512x256 : Shape := ⟨2, ![512, 256]⟩
abbrev S32x512 : Shape := ⟨2, ![32, 512]⟩
abbrev S32x128 : Shape := ⟨2, ![32, 128]⟩
abbrev S32 : Shape := ⟨1, ![32]⟩
abbrev S32x1 : Shape := ⟨2, ![32, 1]⟩
abbrev S32x256 : Shape := ⟨2, ![32, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 26
  | .vmem => 15
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S8x4096x512, .bf16⟩
  | .hbm, ⟨12, _⟩ => ⟨S8x4096x512, .bf16⟩
  | .hbm, ⟨13, _⟩ => ⟨S8x4096x512, .bf16⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S4x64, .f32⟩
  | .hbm, ⟨23, _⟩ => ⟨S128, .f32⟩
  | .hbm, ⟨24, _⟩ => ⟨S1x128, .f32⟩
  | .hbm, ⟨25, _⟩ => ⟨S8x4096x512, .bf16⟩
  | .local _ .vmem, ⟨0, _⟩ => ⟨S4x64, .f32⟩
  | .local _ .vmem, ⟨1, _⟩ => ⟨S1x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x512x128, .bf16⟩
  | .local _ .vmem, ⟨9, _⟩ => ⟨S1x512x128, .bf16⟩
  | .local _ .vmem, ⟨10, _⟩ => ⟨S1024x128, .bf16⟩
  | .local _ .vmem, ⟨11, _⟩ => ⟨S1024x128, .f32⟩
  | .local _ .vmem, ⟨12, _⟩ => ⟨S1024x256, .f32⟩
  | .local _ .vmem, ⟨13, _⟩ => ⟨S1024x512, .f32⟩
  | .local _ .vmem, ⟨14, _⟩ => ⟨S1024x512, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 8], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_mult1 : BitVec 32 :=
  let c0_i32_505 : BitVec 32 := 0#32
  c0_i32_505
@[reducible] def k0_t1_loop (i : grid0.Coords) : Scf.Loop 32 :=
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_7 : BitVec 32 := 1#32
  ⟨c0_i32_6, v15, c1_i32_7⟩
def k0_mult2 (i : grid0.Coords) (k0_t1 : Fin (k0_t1_loop i).trips) : BitVec 32 :=
  let c0_i32_6 : BitVec 32 := 0#32
  let c1_i32_7 : BitVec 32 := 1#32
  let arg14 : BitVec 32 := Scf.iv c0_i32_6 c1_i32_7 k0_t1
  let c512_i32_505 : BitVec 32 := 512#32
  let v1109 : BitVec 32 := Scalar.muli arg14 c512_i32_505
  v1109
def k0_off1 (i : grid0.Coords) (k0_t1 : Fin (k0_t1_loop i).trips) : Fin 3 → Nat :=
  let c0_506 : Index := 0#32
  let c0_i32_6 : BitVec 32 := 0#32
  let c1_i32_7 : BitVec 32 := 1#32
  let arg14 : BitVec 32 := Scf.iv c0_i32_6 c1_i32_7 k0_t1
  let c512_i32_505 : BitVec 32 := 512#32
  let v1109 : BitVec 32 := Scalar.muli arg14 c512_i32_505
  let v1110 : BitVec 32 := v1109
  let v1111 : Index := Scalar.indexCast v1110
  let c0_507 : Index := 0#32
  ![0, v1111.toNat, 0]
def k0_mult3 (i : grid0.Coords) (k0_t1 : Fin (k0_t1_loop i).trips) : BitVec 32 :=
  let c0_i32_6 : BitVec 32 := 0#32
  let c1_i32_7 : BitVec 32 := 1#32
  let arg14 : BitVec 32 := Scf.iv c0_i32_6 c1_i32_7 k0_t1
  let c512_i32_505 : BitVec 32 := 512#32
  let v1109 : BitVec 32 := Scalar.muli arg14 c512_i32_505
  let v1110 : BitVec 32 := v1109
  let c512_i32_717 : BitVec 32 := 512#32
  let v1500 : BitVec 32 := Scalar.addi v1110 c512_i32_717
  v1500
def k0_off2 (i : grid0.Coords) (k0_t1 : Fin (k0_t1_loop i).trips) : Fin 3 → Nat :=
  let c0_720 : Index := 0#32
  let c0_i32_6 : BitVec 32 := 0#32
  let c1_i32_7 : BitVec 32 := 1#32
  let arg14 : BitVec 32 := Scf.iv c0_i32_6 c1_i32_7 k0_t1
  let c512_i32_505 : BitVec 32 := 512#32
  let v1109 : BitVec 32 := Scalar.muli arg14 c512_i32_505
  let v1110 : BitVec 32 := v1109
  let c512_i32_717 : BitVec 32 := 512#32
  let v1500 : BitVec 32 := Scalar.addi v1110 c512_i32_717
  let v1501 : BitVec 32 := v1500
  let v1503 : Index := Scalar.indexCast v1501
  let c0_721 : Index := 0#32
  ![0, v1503.toNat, 0]
def k0_mult4 (i : grid0.Coords) (k0_t1 : Fin (k0_t1_loop i).trips) : BitVec 32 :=
  let c0_i32_6 : BitVec 32 := 0#32
  let c1_i32_7 : BitVec 32 := 1#32
  let arg14 : BitVec 32 := Scf.iv c0_i32_6 c1_i32_7 k0_t1
  let c512_i32_505 : BitVec 32 := 512#32
  let v1109 : BitVec 32 := Scalar.muli arg14 c512_i32_505
  let v1110 : BitVec 32 := v1109
  let c512_i32_940 : BitVec 32 := 512#32
  let v1901 : BitVec 32 := Scalar.addi v1110 c512_i32_940
  v1901
@[reducible] def k0_t2_loop (i : grid0.Coords) : Scf.Loop 32 :=
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let v12 : BitVec 32 := Scalar.addi c0_i32_6 v11
  let c1_i32_8 : BitVec 32 := 1#32
  ⟨v15, v12, c1_i32_8⟩
def k0_mult5 (i : grid0.Coords) (k0_t2 : Fin (k0_t2_loop i).trips) : BitVec 32 :=
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg14 : BitVec 32 := Scf.iv v15 c1_i32_8 k0_t2
  let c512_i32_505 : BitVec 32 := 512#32
  let v1109 : BitVec 32 := Scalar.muli arg14 c512_i32_505
  v1109
def k0_off3 (i : grid0.Coords) (k0_t2 : Fin (k0_t2_loop i).trips) : Fin 3 → Nat :=
  let c0_506 : Index := 0#32
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg14 : BitVec 32 := Scf.iv v15 c1_i32_8 k0_t2
  let c512_i32_505 : BitVec 32 := 512#32
  let v1109 : BitVec 32 := Scalar.muli arg14 c512_i32_505
  let v1110 : BitVec 32 := v1109
  let v1111 : Index := Scalar.indexCast v1110
  let c0_507 : Index := 0#32
  ![0, v1111.toNat, 0]
def k0_mult6 (i : grid0.Coords) (k0_t2 : Fin (k0_t2_loop i).trips) : BitVec 32 :=
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg14 : BitVec 32 := Scf.iv v15 c1_i32_8 k0_t2
  let c512_i32_505 : BitVec 32 := 512#32
  let v1109 : BitVec 32 := Scalar.muli arg14 c512_i32_505
  let v1110 : BitVec 32 := v1109
  let c512_i32_717 : BitVec 32 := 512#32
  let v1500 : BitVec 32 := Scalar.addi v1110 c512_i32_717
  v1500
def k0_off4 (i : grid0.Coords) (k0_t2 : Fin (k0_t2_loop i).trips) : Fin 3 → Nat :=
  let c0_720 : Index := 0#32
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg14 : BitVec 32 := Scf.iv v15 c1_i32_8 k0_t2
  let c512_i32_505 : BitVec 32 := 512#32
  let v1109 : BitVec 32 := Scalar.muli arg14 c512_i32_505
  let v1110 : BitVec 32 := v1109
  let c512_i32_717 : BitVec 32 := 512#32
  let v1500 : BitVec 32 := Scalar.addi v1110 c512_i32_717
  let v1501 : BitVec 32 := v1500
  let v1503 : Index := Scalar.indexCast v1501
  let c0_721 : Index := 0#32
  ![0, v1503.toNat, 0]
def k0_mult7 (i : grid0.Coords) (k0_t2 : Fin (k0_t2_loop i).trips) : BitVec 32 :=
  let c0_i32_6 : BitVec 32 := 0#32
  let arg2 : BitVec 32 := BitVec.ofNat 32 (i 2).val
  let v11 : BitVec 32 := Scalar.subi arg2 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg14 : BitVec 32 := Scf.iv v15 c1_i32_8 k0_t2
  let c512_i32_505 : BitVec 32 := 512#32
  let v1109 : BitVec 32 := Scalar.muli arg14 c512_i32_505
  let v1110 : BitVec 32 := v1109
  let c512_i32_940 : BitVec 32 := 512#32
  let v1901 : BitVec 32 := Scalar.addi v1110 c512_i32_940
  v1901
def k0_mult8 (i : grid0.Coords) : BitVec 32 :=
  let arg2 : BitVec 32 := BitVec.ofNat 32 (i 2).val
  let c512_i32 : BitVec 32 := 512#32
  let v16 : BitVec 32 := Scalar.muli arg2 c512_i32
  v16
def k0_off5 (i : grid0.Coords) : Fin 3 → Nat :=
  let c0_9 : Index := 0#32
  let arg2 : BitVec 32 := BitVec.ofNat 32 (i 2).val
  let c512_i32 : BitVec 32 := 512#32
  let v16 : BitVec 32 := Scalar.muli arg2 c512_i32
  let v17 : BitVec 32 := v16
  let v18 : Index := Scalar.indexCast v17
  let c0_10 : Index := 0#32
  ![0, v18.toNat, 0]
def k0_mult9 (i : grid0.Coords) : BitVec 32 :=
  let arg2 : BitVec 32 := BitVec.ofNat 32 (i 2).val
  let c1_i32_12 : BitVec 32 := 1#32
  let v23 : BitVec 32 := Scalar.addi arg2 c1_i32_12
  let c7_i32 : BitVec 32 := 7#32
  let v24 : BitVec 32 := Scalar.minsi v23 c7_i32
  let c512_i32_13 : BitVec 32 := 512#32
  let v25 : BitVec 32 := Scalar.muli v24 c512_i32_13
  v25
def k0_off6 (i : grid0.Coords) : Fin 3 → Nat :=
  let c0_14 : Index := 0#32
  let arg2 : BitVec 32 := BitVec.ofNat 32 (i 2).val
  let c1_i32_12 : BitVec 32 := 1#32
  let v23 : BitVec 32 := Scalar.addi arg2 c1_i32_12
  let c7_i32 : BitVec 32 := 7#32
  let v24 : BitVec 32 := Scalar.minsi v23 c7_i32
  let c512_i32_13 : BitVec 32 := 512#32
  let v25 : BitVec 32 := Scalar.muli v24 c512_i32_13
  let v26 : BitVec 32 := v25
  let v27 : Index := Scalar.indexCast v26
  let c0_15 : Index := 0#32
  ![0, v27.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S1x64 : Shape := ⟨2, ![1, 64]⟩
abbrev S1x128 : Shape := ⟨2, ![1, 128]⟩
abbrev S64 : Shape := ⟨1, ![64]⟩
abbrev S_ : Shape := ⟨0, ![]⟩
abbrev S8x4096x4x2x64 : Shape := ⟨5, ![8, 4096, 4, 2, 64]⟩
abbrev S8x4096x4x128 : Shape := ⟨4, ![8, 4096, 4, 128]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S128 : Shape := ⟨1, ![128]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x4096x4x2x64, .f32⟩
  | .hbm, ⟨24, _⟩ => ⟨S8x4096x4x2x64, .f32⟩
  | .hbm, ⟨25, _⟩ => ⟨S8x4096x4x128, .f32⟩
  | .hbm, ⟨26, _⟩ => ⟨S8x4x2x4096x4096, .f32⟩
  | .hbm, ⟨27, _⟩ => ⟨S_, .f32⟩
  | .hbm, ⟨28, _⟩ => ⟨S8x4x2x4096x4096, .f32⟩
  | .hbm, ⟨29, _⟩ => ⟨S8x4x2x4096x4096, .f32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S8x4x2x4096x4096, .i1⟩
  | .hbm, ⟨39, _⟩ => ⟨S8x4x2x4096x4096, .f32⟩
  | .hbm, ⟨40, _⟩ => ⟨S8x4x2x4096x4096, .f32⟩
  | .hbm, ⟨41, _⟩ => ⟨S_, .f32⟩
  | .hbm, ⟨42, _⟩ => ⟨S8x4x2x4096, .f32⟩
  | .hbm, ⟨43, _⟩ => ⟨S_, .f32⟩
  | .hbm, ⟨44, _⟩ => ⟨S8x4x2x4096, .f32⟩
  | .hbm, ⟨45, _⟩ => ⟨S8x4x2x4096, .f32⟩
  | .hbm, ⟨46, _⟩ => ⟨S8x4x2x4096x1, .f32⟩
  | .hbm, ⟨47, _⟩ => ⟨S8x4x2x4096x4096, .f32⟩
  | .hbm, ⟨48, _⟩ => ⟨S8x4x2x4096x4096, .f32⟩
  | .hbm, ⟨49, _⟩ => ⟨S8x4x2x4096x4096, .f32⟩
  | .hbm, ⟨50, _⟩ => ⟨S_, .f32⟩
  | .hbm, ⟨51, _⟩ => ⟨S8x4x2x4096, .f32⟩
  | .hbm, ⟨52, _⟩ => ⟨S8x4x2x4096x1, .f32⟩
  | .hbm, ⟨53, _⟩ => ⟨S8x4x2x4096x4096, .f32⟩
  | .hbm, ⟨54, _⟩ => ⟨S8x4x2x4096x4096, .f32⟩
  | .hbm, ⟨55, _⟩ => ⟨S8x4x1x4096x4096, .f32⟩
  | .hbm, ⟨56, _⟩ => ⟨S8x4x4096x4096, .f32⟩
  | .hbm, ⟨57, _⟩ => ⟨S8x4x1x4096x4096, .f32⟩
  | .hbm, ⟨58, _⟩ => ⟨S8x4x4096x4096, .f32⟩
  | .hbm, ⟨59, _⟩ => ⟨S8x4x4096x4096, .f32⟩
  | .hbm, ⟨60, _⟩ => ⟨S8x4x4096x4096, .f32⟩
  | .hbm, ⟨61, _⟩ => ⟨S8x4x4096x4096, .f32⟩
  | .hbm, ⟨62, _⟩ => ⟨S8x4x128x4096, .f32⟩
  | .hbm, ⟨63, _⟩ => ⟨S8x4096x4x128, .f32⟩
  | .hbm, ⟨64, _⟩ => ⟨S8x4096x4x128, .f32⟩
  | .hbm, ⟨65, _⟩ => ⟨S_, .f32⟩
  | .hbm, ⟨66, _⟩ => ⟨S8x4096x4, .f32⟩
  | .hbm, ⟨67, _⟩ => ⟨S8x4096x4x1, .f32⟩
  | .hbm, ⟨68, _⟩ => ⟨S_, .f32⟩
  | .hbm, ⟨69, _⟩ => ⟨S8x4096x4x1, .f32⟩
  | .hbm, ⟨70, _⟩ => ⟨S8x4096x4x1, .f32⟩
  | .hbm, ⟨71, _⟩ => ⟨S_, .f32⟩
  | .hbm, ⟨72, _⟩ => ⟨S8x4096x4x1, .f32⟩
  | .hbm, ⟨73, _⟩ => ⟨S8x4096x4x1, .f32⟩
  | .hbm, ⟨74, _⟩ => ⟨S8x4096x4x1, .f32⟩
  | .hbm, ⟨75, _⟩ => ⟨S8x4096x4x128, .f32⟩
  | .hbm, ⟨76, _⟩ => ⟨S8x4096x4x128, .f32⟩
  | .hbm, ⟨77, _⟩ => ⟨S128, .f32⟩
  | .hbm, ⟨78, _⟩ => ⟨S1x1x1x128, .f32⟩
  | .hbm, ⟨79, _⟩ => ⟨S8x4096x4x128, .f32⟩
  | .hbm, ⟨80, _⟩ => ⟨S8x4096x4x128, .f32⟩
  | .hbm, ⟨81, _⟩ => ⟨S_, .f32⟩
  | .hbm, ⟨82, _⟩ => ⟨S8x4096x4x128, .f32⟩
  | .hbm, ⟨83, _⟩ => ⟨S8x4096x4x128, .f32⟩
  | .hbm, ⟨84, _⟩ => ⟨S8x4096x512, .f32⟩
  | .hbm, ⟨85, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Channel.lean ====
abbrev S8x4096x512 : Shape := ⟨3, ![8, 4096, 512]⟩
abbrev S8x4096x1024 : Shape := ⟨3, ![8, 4096, 1024]⟩
abbrev S8x6144 : Shape := ⟨2, ![8, 6144]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S8x6x1024 : Shape := ⟨3, ![8, 6, 1024]⟩
abbrev S1024 : Shape := ⟨1, ![1024]⟩
abbrev S3x1024 : Shape := ⟨2, ![3, 1024]⟩
abbrev S1024x1024 : Shape := ⟨2, ![1024, 1024]⟩
abbrev S1024x2816 : Shape := ⟨2, ![1024, 2816]⟩
abbrev S2816x1024 : Shape := ⟨2, ![2816, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S512x1024 : Shape := ⟨2, ![512, 1024]⟩
abbrev S512x2816 : Shape := ⟨2, ![512, 2816]⟩
abbrev S6x1024 : Shape := ⟨2, ![6, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024x768 : Shape := ⟨2, ![1024, 768]⟩
abbrev S512x768 : Shape := ⟨2, ![512, 768]⟩

abbrev nBuf : Space → Nat
  | .hbm => 28
  | .vmem => 17
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S8x6x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S3x1024, .f32⟩
  | .hbm, ⟨19, _⟩ => ⟨S1024x1024, .f32⟩
  | .hbm, ⟨20, _⟩ => ⟨S1024x1024, .bf16⟩
  | .hbm, ⟨21, _⟩ => ⟨S1024x2816, .f32⟩
  | .hbm, ⟨22, _⟩ => ⟨S1024x2816, .bf16⟩
  | .hbm, ⟨23, _⟩ => ⟨S1024x2816, .f32⟩
  | .hbm, ⟨24, _⟩ => ⟨S1024x2816, .bf16⟩
  | .hbm, ⟨25, _⟩ => ⟨S2816x1024, .f32⟩
  | .hbm, ⟨26, _⟩ => ⟨S2816x1024, .bf16⟩
  | .hbm, ⟨27, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S3x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x512x1024, .f32⟩
  | .local _ .vmem, ⟨14, _⟩ => ⟨S1x512x1024, .f32⟩
  | .local _ .vmem, ⟨15, _⟩ => ⟨S512x1024, .f32⟩
  | .local _ .vmem, ⟨16, _⟩ => ⟨S512x2816, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ChannelReferenceIdeal.lean ====
abbrev S8x4096x512 : Shape := ⟨3, ![8, 4096, 512]⟩
abbrev S8x4096x1024 : Shape := ⟨3, ![8, 4096, 1024]⟩
abbrev S8x6144 : Shape := ⟨2, ![8, 6144]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S8x1024 : Shape := ⟨2, ![8, 1024]⟩
abbrev S1024x1024 : Shape := ⟨2, ![1024, 1024]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .f32⟩
  | .hbm, ⟨3, _⟩ => ⟨S8x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4096x1024, .bf16⟩
  | .hbm, ⟨18, _⟩ => ⟨S8x4096x1024, .f32⟩
  | .hbm, ⟨19, _⟩ => ⟨S1024x1024, .f32⟩
  | .hbm, ⟨20, _⟩ => ⟨S8x4096x1024, .f32⟩
  | .hbm, ⟨21, _⟩ => ⟨S8x1x1024, .f32⟩
  | .hbm, ⟨22, _⟩ => ⟨S1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S1024x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S_, .f32⟩
  | .hbm, ⟨73, _⟩ => ⟨S8x4096x2816, .f32⟩
  | .hbm, ⟨74, _⟩ => ⟨S8x4096x2816, .f32⟩
  | .hbm, ⟨75, _⟩ => ⟨S_, .f32⟩
  | .hbm, ⟨76, _⟩ => ⟨S8x4096x2816, .f32⟩
  | .hbm, ⟨77, _⟩ => ⟨S8x4096x2816, .f32⟩
  | .hbm, ⟨78, _⟩ => ⟨S8x4096x2816, .f32⟩
  | .hbm, ⟨79, _⟩ => ⟨S1024x2816, .f32⟩
  | .hbm, ⟨80, _⟩ => ⟨S8x4096x2816, .f32⟩
  | .hbm, ⟨81, _⟩ => ⟨S8x4096x2816, .f32⟩
  | .hbm, ⟨82, _⟩ => ⟨S2816x1024, .f32⟩
  | .hbm, ⟨83, _⟩ => ⟨S8x4096x1024, .f32⟩
  | .hbm, ⟨84, _⟩ => ⟨S8x1x1024, .f32⟩
  | .hbm, ⟨85, _⟩ => ⟨S1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_cst_7 : Ref sig .tc := ⟨.hbm, 90, rfl⟩
abbrev main_v63 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]
-- ==== Premix.lean ====
abbrev S8x4096x1024 : Shape := ⟨3, ![8, 4096, 1024]⟩
abbrev S8x6144 : Shape := ⟨2, ![8, 6144]⟩
abbrev S1x1024 : Shape := ⟨2, ![1, 1024]⟩
abbrev S1x1024x3072 : Shape := ⟨3, ![1, 1024, 3072]⟩
abbrev S1x512 : Shape := ⟨2, ![1, 512]⟩
abbrev S1x1024x64 : Shape := ⟨3, ![1, 1024, 64]⟩
abbrev S1x1024x128 : Shape := ⟨3, ![1, 1024, 128]⟩
abbrev S8x6x1024 : Shape := ⟨3, ![8, 6, 1024]⟩
abbrev S1024x64 : Shape := ⟨2, ![1024, 64]⟩
abbrev S_ : Shape := ⟨0, ![]⟩
abbrev S1024x256 : Shape := ⟨2, ![1024, 256]⟩
abbrev S1 : Shape := ⟨1, ![1]⟩
abbrev S1024x128 : Shape := ⟨2, ![1024, 128]⟩
abbrev S1x1024x256 : Shape := ⟨3, ![1, 1024, 256]⟩
abbrev S3x1024x256 : Shape := ⟨3, ![3, 1024, 256]⟩
abbrev S1024 : Shape := ⟨1, ![1024]⟩
abbrev S3x1024 : Shape := ⟨2, ![3, 1024]⟩
abbrev S512 : Shape := ⟨1, ![512]⟩
abbrev S3x512 : Shape := ⟨2, ![3, 512]⟩
abbrev S1024x3072 : Shape := ⟨2, ![1024, 3072]⟩
abbrev S8x4096x512 : Shape := ⟨3, ![8, 4096, 512]⟩
abbrev S8x4096x256 : Shape := ⟨3, ![8, 4096, 256]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S8x1024 : Shape := ⟨2, ![8, 1024]⟩
abbrev S8x512 : Shape := ⟨2, ![8, 512]⟩
abbrev S1024x1024 : Shape := ⟨2, ![1024, 1024]⟩
abbrev S6x1024 : Shape := ⟨2, ![6, 1024]⟩
abbrev S1024x1 : Shape := ⟨2, ![1024, 1]⟩
abbrev S1024x512 : Shape := ⟨2, ![1024, 512]⟩

abbrev nBuf : Space → Nat
  | .hbm => 62
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1x1024, .f32⟩
  | .hbm, ⟨3, _⟩ => ⟨S1x1024x3072, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024x64, .f32⟩
  | .hbm, ⟨11, _⟩ => ⟨S1x1024x64, .f32⟩
  | .hbm, ⟨12, _⟩ => ⟨S1x1024x128, .f32⟩
  | .hbm, ⟨13, _⟩ => ⟨S8x6x1024, .f32⟩
  | .hbm, ⟨14, _⟩ => ⟨S1024x64, .f32⟩
  | .hbm, ⟨15, _⟩ => ⟨S_, .f32⟩
  | .hbm, ⟨16, _⟩ => ⟨S1024x256, .f32⟩
  | .hbm, ⟨17, _⟩ => ⟨S_, .i32⟩
  | .hbm, ⟨18, _⟩ => ⟨S1, .i32⟩
  | .hbm, ⟨19, _⟩ => ⟨S1024x256, .f32⟩
  | .hbm, ⟨20, _⟩ => ⟨S1024x64, .f32⟩
  | .hbm, ⟨21, _⟩ => ⟨S_, .f32⟩
  | .hbm, ⟨22, _⟩ => ⟨S1024x256, .f32⟩
  | .hbm, ⟨23, _⟩ => ⟨S_, .i32⟩
  | .hbm, ⟨24, _⟩ => ⟨S1, .i32⟩
  | .hbm, ⟨25, _⟩ => ⟨S1024x256, .f32⟩
  | .hbm, ⟨26, _⟩ => ⟨S1024x128, .f32⟩
  | .hbm, ⟨27, _⟩ => ⟨S_, .f32⟩
  | .hbm, ⟨28, _⟩ => ⟨S1024x256, .f32⟩
  | .hbm, ⟨29, _⟩ => ⟨S_, .i32⟩
  | .hbm, ⟨30, _⟩ => ⟨S1, .i32⟩
  | .hbm, ⟨31, _⟩ => ⟨S1024x256, .f32⟩
  | .hbm, ⟨32, _⟩ => ⟨S1x1024x256, .f32⟩
  | .hbm, ⟨33, _⟩ => ⟨S1x1024x256, .f32⟩
  | .hbm, ⟨34, _⟩ => ⟨S1x1024x256, .f32⟩
  | .hbm, ⟨35, _⟩ => ⟨S3x1024x256, .f32⟩
  | .hbm, ⟨36, _⟩ => ⟨S3x1024x256, .bf16⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S3x1024, .f32⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S1x512, .f32⟩
  | .hbm, ⟨48, _⟩ => ⟨S1x512, .f32⟩
  | .hbm, ⟨49, _⟩ => ⟨S1x512, .f32⟩
  | .hbm, ⟨50, _⟩ => ⟨S3x512, .f32⟩
  | .hbm, ⟨51, _⟩ => ⟨S1024, .f32⟩
  | .hbm, ⟨52, _⟩ => ⟨S1x1024, .f32⟩
  | .hbm, ⟨53, _⟩ => ⟨S1024x3072, .f32⟩
  | .hbm, ⟨54, _⟩ => ⟨S1024x3072, .bf16⟩
  | .hbm, ⟨55, _⟩ => ⟨S8x4096x512, .bf16⟩
  | .hbm, ⟨56, _⟩ => ⟨S8x4096x512, .bf16⟩
  | .hbm, ⟨57, _⟩ => ⟨S8x4096x512, .bf16⟩
  | .hbm, ⟨58, _⟩ => ⟨S8x4096x512, .bf16⟩
  | .hbm, ⟨59, _⟩ => ⟨S8x4096x512, .bf16⟩
  | .hbm, ⟨60, _⟩ => ⟨S8x4096x512, .bf16⟩
  | .hbm, ⟨61, _⟩ => ⟨S8x4096x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S3x1024x256, .bf16⟩
  | .local _ .vmem, ⟨7, _⟩ => ⟨S3x1024, .f32⟩
  | .local _ .vmem, ⟨8, _⟩ => ⟨S3x512, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x256, .bf16⟩
  | .local _ .vmem, ⟨22, _⟩ => ⟨S1x1024x256, .bf16⟩
  | .local _ .vmem, ⟨23, _⟩ => ⟨S8x1024, .f32⟩
  | .local _ .vmem, ⟨24, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_c_3 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev main_v36_2 : Ref sig .tc := ⟨.hbm, 57, rfl⟩
abbrev main_v36_3 : Ref sig .tc := ⟨.hbm, 58, rfl⟩
abbrev main_v36_4 : Ref sig .tc := ⟨.hbm, 59, rfl⟩
abbrev main_v36_5 : Ref sig .tc := ⟨.hbm, 60, rfl⟩
abbrev main_v36_6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PremixReferenceIdeal.lean ====
abbrev S8x4096x1024 : Shape := ⟨3, ![8, 4096, 1024]⟩
abbrev S8x6144 : Shape := ⟨2, ![8, 6144]⟩
abbrev S1x1024 : Shape := ⟨2, ![1, 1024]⟩
abbrev S1x1024x3072 : Shape := ⟨3, ![1, 1024, 3072]⟩
abbrev S1x512 : Shape := ⟨2, ![1, 512]⟩
abbrev S1x1024x64 : Shape := ⟨3, ![1, 1024, 64]⟩
abbrev S1x1024x128 : Shape := ⟨3, ![1, 1024, 128]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S8x1x1024 : Shape := ⟨3, ![8, 1, 1024]⟩
abbrev S1024x3072 : Shape := ⟨2, ![1024, 3072]⟩
abbrev S8x4096x3072 : Shape := ⟨3, ![8, 4096, 3072]⟩
abbrev S8x4096x512 : Shape := ⟨3, ![8, 4096, 512]⟩
abbrev S8x4097x512 : Shape := ⟨3, ![8, 4097, 512]⟩
abbrev S512 : Shape := ⟨1, ![512]⟩
abbrev S1x1x512 : Shape := ⟨3, ![1, 1, 512]⟩
abbrev S8x4097x1024 : Shape := ⟨3, ![8, 4097, 1024]⟩
abbrev S1024x64 : Shape := ⟨2, ![1024, 64]⟩
abbrev S8x4096x64 : Shape := ⟨3, ![8, 4096, 64]⟩
abbrev S1024x128 : Shape := ⟨2, ![1024, 128]⟩
abbrev S8x4096x128 : Shape := ⟨3, ![8, 4096, 128]⟩
abbrev S8x4096x256 : Shape := ⟨3, ![8, 4096, 256]⟩

abbrev nBuf : Space → Nat
  | .hbm => 129
  | .vmem => 0
  | .smem => 0
  | _ => 0

abbrev hbmTy0_0 (i : Nat) : BufTy := match i % 128 with
  | 0 => ⟨S8x4096x1024, .f32⟩
  | 1 => ⟨S8x6144, .f32⟩
  | 2 => ⟨S1x1024, .f32⟩
  | 3 => ⟨S1x1024x3072, .f32⟩
  | 4 => ⟨S1x512, .f32⟩
  | 5 => ⟨S1x512, .f32⟩
  | 6 => ⟨S1x512, .f32⟩
  | 7 => ⟨S1x1024, .f32⟩
  | 8 => ⟨S1x1024, .f32⟩
  | 9 => ⟨S1x1024, .f32⟩
  | 10 => ⟨S1x1024x64, .f32⟩
  | 11 => ⟨S1x1024x64, .f32⟩
  | 12 => ⟨S1x1024x128, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x4096x1024, .f32⟩
  | 20 => ⟨S_, .f32⟩
  | 21 => ⟨S8x4096, .f32⟩
  | 22 => ⟨S8x4096x1, .f32⟩
  | 23 => ⟨S_, .f32⟩
  | 24 => ⟨S8x4096x1, .f32⟩
  | 25 => ⟨S8x4096x1, .f32⟩
  | 26 => ⟨S_, .f32⟩
  | 27 => ⟨S8x4096x1, .f32⟩
  | 28 => ⟨S8x4096x1, .f32⟩
  | 29 => ⟨S8x4096x1, .f32⟩
  | 30 => ⟨S8x4096x1024, .f32⟩
  | 31 => ⟨S8x4096x1024, .f32⟩
  | 32 => ⟨S1024, .f32⟩
  | 33 => ⟨S1x1x1024, .f32⟩
  | 34 => ⟨S8x4096x1024, .f32⟩
  | 35 => ⟨S8x4096x1024, .f32⟩
  | 36 => ⟨S8x1x1024, .f32⟩
  | 37 => ⟨S_, .f32⟩
  | 38 => ⟨S8x1x1024, .f32⟩
  | 39 => ⟨S8x1x1024, .f32⟩
  | 40 => ⟨S8x4096x1024, .f32⟩
  | 41 => ⟨S8x4096x1024, .f32⟩
  | 42 => ⟨S8x1x1024, .f32⟩
  | 43 => ⟨S8x4096x1024, .f32⟩
  | 44 => ⟨S8x4096x1024, .f32⟩
  | 45 => ⟨S1024x3072, .f32⟩
  | 46 => ⟨S8x4096x3072, .f32⟩
  | 47 => ⟨S8x4096x512, .f32⟩
  | 48 => ⟨S8x4096x512, .f32⟩
  | 49 => ⟨S8x4096x512, .f32⟩
  | 50 => ⟨S8x4096x512, .f32⟩
  | 51 => ⟨S8x4096x512, .f32⟩
  | 52 => ⟨S8x4096x512, .f32⟩
  | 53 => ⟨S_, .i32⟩
  | 54 => ⟨S_, .f32⟩
  | 55 => ⟨S8x4097x512, .f32⟩
  | 56 => ⟨S8x4096x512, .f32⟩
  | 57 => ⟨S8x4096x512, .f32⟩
  | 58 => ⟨S512, .f32⟩
  | 59 => ⟨S1x1x512, .f32⟩
  | 60 => ⟨S8x4096x512, .f32⟩
  | 61 => ⟨S8x4096x512, .f32⟩
  | 62 => ⟨S8x4096x512, .f32⟩
  | 63 => ⟨S_, .i32⟩
  | 64 => ⟨S_, .f32⟩
  | 65 => ⟨S8x4097x512, .f32⟩
  | 66 => ⟨S8x4096x512, .f32⟩
  | 67 => ⟨S8x4096x512, .f32⟩
  | 68 => ⟨S512, .f32⟩
  | 69 => ⟨S1x1x512, .f32⟩
  | 70 => ⟨S8x4096x512, .f32⟩
  | 71 => ⟨S8x4096x512, .f32⟩
  | 72 => ⟨S8x4096x512, .f32⟩
  | 73 => ⟨S_, .i32⟩
  | 74 => ⟨S_, .f32⟩
  | 75 => ⟨S8x4097x512, .f32⟩
  | 76 => ⟨S8x4096x512, .f32⟩
  | 77 => ⟨S8x4096x512, .f32⟩
  | 78 => ⟨S512, .f32⟩
  | 79 => ⟨S1x1x512, .f32⟩
  | 80 => ⟨S8x4096x512, .f32⟩
  | 81 => ⟨S8x4096x512, .f32⟩
  | 82 => ⟨S8x4096x512, .f32⟩
  | 83 => ⟨S_, .i32⟩
  | 84 => ⟨S_, .f32⟩
  | 85 => ⟨S8x4097x1024, .f32⟩
  | 86 => ⟨S8x4096x1024, .f32⟩
  | 87 => ⟨S8x4096x1024, .f32⟩
  | 88 => ⟨S1024, .f32⟩
  | 89 => ⟨S1x1x1024, .f32⟩
  | 90 => ⟨S8x4096x1024, .f32⟩
  | 91 => ⟨S8x4096x1024, .f32⟩
  | 92 => ⟨S8x4096x1024, .f32⟩
  | 93 => ⟨S1024, .f32⟩
  | 94 => ⟨S1x1x1024, .f32⟩
  | 95 => ⟨S8x4096x1024, .f32⟩
  | 96 => ⟨S8x4096x1024, .f32⟩
  | 97 => ⟨S8x4096x1024, .f32⟩
  | 98 => ⟨S1024, .f32⟩
  | 99 => ⟨S1x1x1024, .f32⟩
  | 100 => ⟨S8x4096x1024, .f32⟩
  | 101 => ⟨S8x4096x1024, .f32⟩
  | 102 => ⟨S8x4096x1024, .f32⟩
  | 103 => ⟨S1024x64, .f32⟩
  | 104 => ⟨S8x4096x64, .f32⟩
  | 105 => ⟨S8x4096x64, .f32⟩
  | 106 => ⟨S1024x64, .f32⟩
  | 107 => ⟨S8x4096x64, .f32⟩
  | 108 => ⟨S1024x128, .f32⟩
  | 109 => ⟨S8x4096x128, .f32⟩
  | 110 => ⟨S8x4096x128, .f32⟩
  | 111 => ⟨S8x4096x128, .f32⟩
  | 112 => ⟨S_, .f32⟩
  | 113 => ⟨S8x4096x128, .f32⟩
  | 114 => ⟨S8x4096x128, .f32⟩
  | 115 => ⟨S_, .f32⟩
  | 116 => ⟨S8x4096x128, .f32⟩
  | 117 => ⟨S8x4096x128, .f32⟩
  | 118 => ⟨S8x4096x256, .f32⟩
  | 119 => ⟨S_, .f32⟩
  | 120 => ⟨S8x4096x512, .f32⟩
  | 121 => ⟨S8x4096x512, .f32⟩
  | 122 => ⟨S8x4096x512, .bf16⟩
  | 123 => ⟨S8x4096x512, .bf16⟩
  | 124 => ⟨S8x4096x512, .bf16⟩
  | 125 => ⟨S8x4096x512, .bf16⟩
  | 126 => ⟨S8x4096x512, .bf16⟩
  | 127 => ⟨S8x4096x512, .bf16⟩
  | _ => ⟨S8x4096x1024, .f32⟩

abbrev hbmTy0_1 (i : Nat) : BufTy := match i % 128 with
  | 0 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_call0_v0 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_3 : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_4 : Ref sig .tc := ⟨.hbm, 73, rfl⟩
abbrev main_call2_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_5 : Ref sig .tc := ⟨.hbm, 83, rfl⟩
abbrev main_call3_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_6 : Ref sig .tc := ⟨.hbm, 112, rfl⟩
abbrev main_v87 : Ref sig .tc := ⟨.hbm, 113, rfl⟩
abbrev main_v88 : Ref sig .tc := ⟨.hbm, 114, rfl⟩
abbrev main_cst_7 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_8 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩

abbrev nD : Nat := 1
abbrev τ : Topo := Topo.v7x

variable {F : FTy → Type} [FloatOps F]
-- ==== Ada.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.AttnProg.lean ====
/- The attention kernel's program, written as the composition it is: a step over one block of keys is two halves, a half is
   sixteen blocks of 32 rows and then two products. Each printed region equals its composition by computation. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section
noncomputable section
namespace Cert.Proof.Attn
open Idealize.ShloMosaic Idealize.ShloMosaic.TcCoe Idealize.ShloMosaic.Tactic Idealize.SL.Sem
open Cert.KernelIdeal Cert.KernelIdeal.Gen

variable {F : FTy → Type} [FloatOps F] [Named F]

/-- A block of whole rows from row `o` lies in its array. -/
theorem rows_inb {H R C o : ℕ} (h : o + H ≤ R) : ∀ a : Fin 2, (![o, 0] : Fin 2 → ℕ) a + (⟨2, ![H, C]⟩ : Shape).size a ≤ (⟨2, ![R, C]⟩ : Shape).size a :=
  Fin.forall_fin_two.mpr ⟨h, (Nat.zero_add _).le⟩

/-- Rows counted in pairs fill whole words. -/
theorem rows_packed {H R C o : ℕ} (h : o + H ≤ R) (ho : 2 ∣ o) (hH : 2 ∣ H) :
    (Rect.unit (s := ⟨2, ![R, C]⟩) ![o, 0] (⟨2, ![H, C]⟩ : Shape).size (rows_inb h)).PackedRows 2 :=
  .inr ⟨le_refl 2, rfl, .inl ⟨ho, hH⟩⟩

/-- The causal mask of the block of rows that starts at row `o` of the last block of keys. -/
def causal (o : ℕ) (s : Vec F S32x512 .f32) : Vec F S32x512 .f32 :=
  select (cmpi .sle (iota .tc S32x512 32 [1] iota_S32x512_d1_w32)
    (addi (iota .tc S32x512 32 [0] iota_S32x512_d0_w32) (broadcast S32x512 (BitVec.ofNat 32 (o % 512))))) s
    (broadcast S32x512 (Named.named κ "mask" 0xF149F2CA#32))

/-- Where the loop over the unmasked blocks of keys ends. -/
def v15 (i : grid0.Coords) : BitVec 32 :=
  Scalar.addi 0#32 (Scalar.muli (Scalar.divsi (Scalar.subi (BitVec.ofNat 32 (i 2).val) 0#32) 1#32) 1#32)

section Programs
variable (arg5 arg6 arg7 : Memref sig .tc .vmem S1x4096x128 .bf16)
  (arg9 : Memref sig .tc .vmem S1024x128 .bf16) (harg9 : arg9.IsWhole) (arg10 : Memref sig .tc .vmem S1024x128 .f32)
  (arg11 : Memref sig .tc .vmem S1024x256 .f32) (arg12 : Memref sig .tc .vmem S1024x512 .f32)
  (arg13 : Memref sig .tc .vmem S1024x512 .bf16) (harg13 : arg13.IsWhole)

/-- One block of 32 rows: the running maximum, the exponentials, the rescaled accumulator. -/
def rowBlock (msk : ℕ → Vec F S32x512 .f32 → Vec F S32x512 .f32) (o : ℕ) (h : o + 32 ≤ 1024) (ho : 2 ∣ o) :
    Prog (TpuEff nD τ sig (Elt F) Λ₀ .tc) Unit := do
  let s : Vec F S32x512 .f32 ← Prog.lift (.load arg12 (Rect.unit (s := S1024x512) ![o, 0] S32x512.size (rows_inb h)).toLoadRect (View.loadsAt_vmem h_S32x512))
  let m : Vec F S32x128 .f32 ← Prog.lift (.load arg10 (Rect.unit (s := S1024x128) ![o, 0] S32x128.size (rows_inb h)).toLoadRect (View.loadsAt_vmem h_S32x128))
  let _ : Vec F S32x512 .bf16 ← Prog.lift (.load arg13 (Rect.unit (s := S1024x512) ![o, 0] S32x512.size (rows_inb h)).toLoadRect (View.loadsAt_vmem h_S32x512))
  Prog.lift (.store arg13 (Rect.unit (s := S1024x512) ![o, 0] S32x512.size (rows_inb h)) (k0_pay10 (msk o s) m) Finset.univ (View.stores_vmem h_S32x512 (harg13.storeExact_slice rfl _ (rows_packed h ho (by decide))) (fun _ => rfl)) (.inl rfl))
  let a : Vec F S32x256 .f32 ← Prog.lift (.load arg11 (Rect.unit (s := S1024x256) ![o, 0] S32x256.size (rows_inb h)).toLoadRect (View.loadsAt_vmem h_S32x256))
  let _ : Vec F S32x256 .f32 ← Prog.lift (.load arg11 (Rect.unit (s := S1024x256) ![o, 0] S32x256.size (rows_inb h)).toLoadRect (View.loadsAt_vmem h_S32x256))
  Prog.lift (.store arg11 (Rect.unit (s := S1024x256) ![o, 0] S32x256.size (rows_inb h)) (k0_pay11 (msk o s) m a) Finset.univ (View.stores_vmem_bits_univ h_S32x256 rfl) (.inl rfl))
  let _ : Vec F S32x128 .f32 ← Prog.lift (.load arg10 (Rect.unit (s := S1024x128) ![o, 0] S32x128.size (rows_inb h)).toLoadRect (View.loadsAt_vmem h_S32x128))
  Prog.lift (.store arg10 (Rect.unit (s := S1024x128) ![o, 0] S32x128.size (rows_inb h)) (k0_pay12 (msk o s) m) Finset.univ (View.stores_vmem_bits_univ h_S32x128 rfl) (.inl rfl))
  pure ⟨⟩

/-- `n` blocks of rows in a row, from row `o` on. -/
def rowBlocks (msk : ℕ → Vec F S32x512 .f32 → Vec F S32x512 .f32) : (n o : ℕ) → o + 32 * n ≤ 1024 → 2 ∣ o →
    Prog (TpuEff nD τ sig (Elt F) Λ₀ .tc) Unit
  | 0, _, _, _ => pure ⟨⟩
  | n + 1, o, h, ho => do
    rowBlock arg10 arg11 arg12 arg13 harg13 msk o (by omega) ho
    rowBlocks msk n (o + 32) (by omega) (by omega)

/-- Half the rows' scores against the block of keys at `off`. -/
def issue (o : ℕ) (h : o + 512 ≤ 1024) (off : Fin 3 → ℕ) (hoff : ∀ a : Fin 3, off a + S1x512x128.size a ≤ S1x4096x128.size a) :
    Prog (TpuEff nD τ sig (Elt F) Λ₀ .tc) Unit := do
  let q : Vec F S512x128 .bf16 ← Prog.lift (.load arg9 (Rect.unit (s := S1024x128) ![o, 0] S512x128.size (rows_inb h)).toLoadRect (View.loadsAt_vmem h_S512x128))
  let k : Vec F S1x512x128 .bf16 ← Prog.lift (.load arg6 (Rect.unit (s := S1x4096x128) off S1x512x128.size hoff).toLoadRect (View.loadsAt_vmem h_S1x512x128))
  let _ : Vec F S512x512 .f32 ← Prog.lift (.load arg12 (Rect.unit (s := S1024x512) ![o, 0] S512x512.size (rows_inb h)).toLoadRect (View.loadsAt_vmem h_S512x512))
  Prog.lift (.store arg12 (Rect.unit (s := S1024x512) ![o, 0] S512x512.size (rows_inb h)) (k0_pay6 q k) Finset.univ (View.stores_vmem_bits_univ h_S512x512 rfl) (.inl rfl))
  pure ⟨⟩

/-- Half the rows' accumulator plus the exponentials against the block of values. -/
def accumulate (v : FVec F S512x256 .bf16) (o : ℕ) (h : o + 512 ≤ 1024) : Prog (TpuEff nD τ sig (Elt F) Λ₀ .tc) Unit := do
  let a : Vec F S512x256 .f32 ← Prog.lift (.load arg11 (Rect.unit (s := S1024x256) ![o, 0] S512x256.size (rows_inb h)).toLoadRect (View.loadsAt_vmem h_S512x256))
  let p : Vec F S512x512 .bf16 ← Prog.lift (.load arg13 (Rect.unit (s := S1024x512) ![o, 0] S512x512.size (rows_inb h)).toLoadRect (View.loadsAt_vmem h_S512x512))
  let _ : Vec F S512x256 .f32 ← Prog.lift (.load arg11 (Rect.unit (s := S1024x256) ![o, 0] S512x256.size (rows_inb h)).toLoadRect (View.loadsAt_vmem h_S512x256))
  Prog.lift (.store arg11 (Rect.unit (s := S1024x256) ![o, 0] S512x256.size (rows_inb h)) (k0_pay84 v a p) Finset.univ (View.stores_vmem_bits_univ h_S512x256 rfl) (.inl rfl))
  pure ⟨⟩

/-- Half a step: its rows' softmax update, the next scores, the accumulation. -/
def half (msk : ℕ → Vec F S32x512 .f32 → Vec F S32x512 .f32) (v : FVec F S512x256 .bf16) (off : Fin 3 → ℕ)
    (hoff : ∀ a : Fin 3, off a + S1x512x128.size a ≤ S1x4096x128.size a) (o : ℕ) (h : o + 512 ≤ 1024) (ho : 2 ∣ o) :
    Prog (TpuEff nD τ sig (Elt F) Λ₀ .tc) Unit := do
  rowBlocks arg10 arg11 arg12 arg13 harg13 msk 16 o (by omega) ho
  issue arg6 arg9 arg12 o h off hoff
  accumulate arg11 arg13 v o h

/-- One step over a block of keys: both halves. -/
def step (msk : ℕ → Vec F S32x512 .f32 → Vec F S32x512 .f32) (v : FVec F S512x256 .bf16) (off : Fin 3 → ℕ)
    (hoff : ∀ a : Fin 3, off a + S1x512x128.size a ≤ S1x4096x128.size a) : Prog (TpuEff nD τ sig (Elt F) Λ₀ .tc) Unit := do
  half arg6 arg9 arg10 arg11 arg12 arg13 harg13 msk v off hoff 0 (by decide) (by decide)
  half arg6 arg9 arg10 arg11 arg12 arg13 harg13 msk v off hoff 512 (by decide) (by decide)

/-- The two half-heads of a tile of queries, stacked. -/
def stackQ (q : FVec F S512x128 .bf16) : Prog (TpuEff nD τ sig (Elt F) Λ₀ .tc) Unit := do
  let _ : Vec F S512x128 .bf16 ← Prog.lift (.load arg9 (Rect.unit (s := S1024x128) ![0, 0] S512x128.size (rows_inb (by decide))).toLoadRect (View.loadsAt_vmem h_S512x128))
  Prog.lift (.store arg9 (Rect.unit (s := S1024x128) ![0, 0] S512x128.size (rows_inb (by decide))) (k0_pay322 q) Finset.univ (View.stores_vmem h_S512x128 (harg9.storeExact_slice rfl _ (rows_packed (by decide) (by decide) (by decide))) (fun _ => rfl)) (.inl rfl))
  let _ : Vec F S512x128 .bf16 ← Prog.lift (.load arg9 (Rect.unit (s := S1024x128) ![512, 0] S512x128.size (rows_inb (by decide))).toLoadRect (View.loadsAt_vmem h_S512x128))
  Prog.lift (.store arg9 (Rect.unit (s := S1024x128) ![512, 0] S512x128.size (rows_inb (by decide))) (k0_pay323 q) Finset.univ (View.stores_vmem h_S512x128 (harg9.storeExact_slice rfl _ (rows_packed (by decide) (by decide) (by decide))) (fun _ => rfl)) (.inl rfl))
  pure ⟨⟩

end Programs

section Printed
variable (i : grid0.Coords) (arg3 : Memref sig .tc .vmem S4x64 .f32) (harg3 : arg3.IsWhole) (arg4 : Memref sig .tc .vmem S1x128 .f32) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x256 .f32) (harg11 : arg11.IsWhole) (arg12 : Memref sig .tc .vmem S1024x512 .f32) (harg12 : arg12.IsWhole) (arg13 : Memref sig .tc .vmem S1024x512 .bf16) (harg13 : arg13.IsWhole)

/-- The loop's region is a step over its block of keys. -/
def trip (k : Fin (k0_t1_loop i).trips) : Prog (TpuEff nD τ sig (Elt F) Λ₀ .tc) Unit := do
  let v : Vec F S1x512x128 .bf16 ← Prog.lift (.load arg7 (Rect.unit (s := S1x4096x128) (k0_off1 i k) S1x512x128.size (k0_off1_inb i k)).toLoadRect (View.loadsAt_vmem h_S1x512x128))
  step arg6 arg9 arg10 arg11 arg12 arg13 harg13 (fun _ s => s) (k0_pay8 v) (k0_off2 i k) (k0_off2_inb i k)

theorem trip_eq (k : Fin (k0_t1_loop i).trips) (u : Unit) :
    k0_t1_body (F := F) i arg3 harg3 arg4 harg4 arg5 harg5 arg6 harg6 arg7 harg7 arg8 harg8 arg9 harg9 arg10 harg10 arg11 harg11 arg12 harg12 arg13 harg13 k u
      = trip i arg6 arg7 arg9 arg10 arg11 arg12 arg13 harg13 k := by
  sl_kernel_rfl

/-- The first tile's set-up: its queries stacked and scored against the first block of keys. -/
def first : Prog (TpuEff nD τ sig (Elt F) Λ₀ .tc) Unit := do
  let q : Vec F S1x512x128 .bf16 ← Prog.lift (.load arg5 (Rect.unit (s := S1x4096x128) ![0, 0, 0] S1x512x128.size (by decide)).toLoadRect (View.loadsAt_vmem h_S1x512x128))
  stackQ arg9 harg9 (k0_pay320 q)
  issue arg6 arg9 arg12 0 (by decide) ![0, 0, 0] (by decide)
  issue arg6 arg9 arg12 512 (by decide) ![0, 0, 0] (by decide)

/-- The output tile from the accumulator. -/
def finish : Prog (TpuEff nD τ sig (Elt F) Λ₀ .tc) Unit := do
  let lam : Vec F S4x64 .f32 ← Prog.lift (.load arg3 (Rect.unit (s := S4x64) ![0, 0] S4x64.size (by decide)).toLoadRect (View.loadsAt_vmem h_S4x64))
  let a : Vec F S1024x128 .f32 ← Prog.lift (.load arg11 (Rect.unit (s := S1024x256) ![0, 0] S1024x128.size (by decide)).toLoadRect (View.loadsAt_vmem h_S1024x128))
  let b : Vec F S1024x128 .f32 ← Prog.lift (.load arg11 (Rect.unit (s := S1024x256) ![0, 128] S1024x128.size (by decide)).toLoadRect (View.loadsAt_vmem h_S1024x128))
  let g : Vec F S1x128 .f32 ← Prog.lift (.load arg4 (Rect.unit (s := S1x128) ![0, 0] S1x128.size (by decide)).toLoadRect (View.loadsAt_vmem h_S1x128))
  let _ : Vec F S1x512x128 .bf16 ← Prog.lift (.load arg8 (Rect.unit (s := S1x512x128) ![0, 0, 0] S1x512x128.size (by decide)).toLoadRect (View.loadsAt_vmem h_S1x512x128))
  Prog.lift (.store arg8 (Rect.unit (s := S1x512x128) ![0, 0, 0] S1x512x128.size (by decide)) (k0_pay1 (k0_pay510 (k0_pay509 lam) a b g)) Finset.univ (View.stores_vmem h_S1x512x128 (harg8.storeExact_slice rfl _ (by decide)) (fun _ => rfl)) (.inl rfl))
  pure ⟨⟩

/-- The start of a tile: the running maximum and the accumulator emptied. -/
def start : Prog (TpuEff nD τ sig (Elt F) Λ₀ .tc) Unit := do
  let _ : Vec F S1024x128 .f32 ← Prog.lift (.load arg10 (Rect.unit (s := S1024x128) ![0, 0] S1024x128.size (by decide)).toLoadRect (View.loadsAt_vmem h_S1024x128))
  Prog.lift (.store arg10 (Rect.unit (s := S1024x128) ![0, 0] S1024x128.size (by decide)) k0_pay314 Finset.univ (View.stores_vmem_bits_univ h_S1024x128 rfl) (.inl rfl))
  let _ : Vec F S1024x256 .f32 ← Prog.lift (.load arg11 (Rect.unit (s := S1024x256) ![0, 0] S1024x256.size (by decide)).toLoadRect (View.loadsAt_vmem h_S1024x256))
  Prog.lift (.store arg11 (Rect.unit (s := S1024x256) ![0, 0] S1024x256.size (by decide)) k0_pay315 Finset.univ (View.stores_vmem_bits_univ h_S1024x256 rfl) (.inl rfl))
  pure ⟨⟩

/-- The loop over the blocks of keys before the tile's own, with what precedes it, then the tile's own values and the next
    tile's queries. -/
def head : Prog (TpuEff nD τ sig (Elt F) Λ₀ .tc) (Σ' (_ : FVec F S512x256 .bf16), FVec F S512x128 .bf16) := do
  start arg10 arg11
  if _h : k0_cond1 i = 1#1 then first arg5 arg6 arg9 harg9 arg12 else pure ⟨⟩
  Scf.Loop.for (k0_t1_loop i) (k0_t1_ok i) ⟨⟩ fun k _ => trip i arg6 arg7 arg9 arg10 arg11 arg12 arg13 harg13 k
  Scf.Loop.for (k0_t2_loop i) (k0_t2_ok i) ⟨⟩ fun k u => k0_t2_body (F := F) i arg3 harg3 arg4 harg4 arg5 harg5 arg6 harg6 arg7 harg7 arg8 harg8 arg9 harg9 arg10 harg10 arg11 harg11 arg12 harg12 arg13 harg13 (v15 i) k u
  let v : Vec F S1x512x128 .bf16 ← Prog.lift (.load arg7 (Rect.unit (s := S1x4096x128) (k0_off5 i) S1x512x128.size (k0_off5_inb i)).toLoadRect (View.loadsAt_vmem h_S1x512x128))
  let q : Vec F S1x512x128 .bf16 ← Prog.lift (.load arg5 (Rect.unit (s := S1x4096x128) (k0_off6 i) S1x512x128.size (k0_off6_inb i)).toLoadRect (View.loadsAt_vmem h_S1x512x128))
  pure ⟨k0_pay319 v, k0_pay320 q⟩

/-- The last step of a tile, over its own block of keys, masked causally, with the next tile's queries stacked for the scores;
    then the output. -/
def tail (v : FVec F S512x256 .bf16) (q : FVec F S512x128 .bf16) : Prog (TpuEff nD τ sig (Elt F) Λ₀ .tc) Unit := do
  stackQ arg9 harg9 q
  step arg6 arg9 arg10 arg11 arg12 arg13 harg13 causal v ![0, 0, 0] (by decide)
  finish arg3 arg4 arg8 harg8 arg11

theorem head_eq :
    k0_part48 (F := F) i arg3 harg3 arg4 harg4 arg5 harg5 arg6 harg6 arg7 harg7 arg8 harg8 arg9 harg9 arg10 harg10 arg11 harg11 arg12 harg12 arg13 harg13
      = head i arg3 harg3 arg4 harg4 arg5 harg5 arg6 harg6 arg7 harg7 arg8 harg8 arg9 harg9 arg10 harg10 arg11 harg11 arg12 harg12 arg13 harg13 := by
  sl_kernel_rfl

theorem body_eq :
    cc0_diff_attn (F := F) i arg3 harg3 arg4 harg4 arg5 harg5 arg6 harg6 arg7 harg7 arg8 harg8 arg9 harg9 arg10 harg10 arg11 harg11 arg12 harg12 arg13 harg13
      = (do let x ← head (F := F) i arg3 harg3 arg4 harg4 arg5 harg5 arg6 harg6 arg7 harg7 arg8 harg8 arg9 harg9 arg10 harg10 arg11 harg11 arg12 harg12 arg13 harg13
            tail arg3 arg4 arg6 arg8 harg8 arg9 harg9 arg10 arg11 arg12 arg13 harg13 x.1 x.2) := by
  unfold cc0_diff_attn k0_part77
  rw [head_eq]
  refine (bind_assoc _ _ _).trans (congrArg (fun f => head (F := F) i arg3 harg3 arg4 harg4 arg5 harg5 arg6 harg6 arg7 harg7 arg8 harg8 arg9 harg9 arg10 harg10 arg11 harg11 arg12 harg12 arg13 harg13 >>= f) (funext fun x => ?_))
  sl_kernel_rfl

end Printed
end Cert.Proof.Attn
end
-- ==== Proof.AttnRun.lean ====
/- What the attention kernel's pieces do to its scratch buffers, as functions of their contents, and the triples that say so. -/
module

public import proofs.«01_k».proof.Proof.AttnProg
public import proofs.«01_k».proof.Proof.Gen.KernelIdeal.Loops
public import proofs.«01_k».proof.Proof.Gen.KernelIdeal.Frame
public import Idealize.ShloMosaic.Lib.WritesUnit
public import Idealize.ShloMosaic.Lib.Updates.Own
public import Idealize.ShloMosaic.Lib.Pointwise.Index

@[expose] public section
noncomputable section
namespace Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄G" => MT nD τ sig Unit (Elt F) ℕ (UR sig nD τ) ℕ

section Rows
variable {R C : ℕ} {α : Type}

/-- Rows `o` to `o + H` of an array. -/
def cut {H : ℕ} (o : ℕ) (h : o + H ≤ R) (X : (⟨2, ![R, C]⟩ : Shape).Idx → α) : (⟨2, ![H, C]⟩ : Shape).Idx → α :=
  fun x => X ((Rect.unit (s := ⟨2, ![R, C]⟩) ![o, 0] (⟨2, ![H, C]⟩ : Shape).size (rows_inb h)).idx x)

/-- The array with rows `o` to `o + H` replaced. -/
def put {H : ℕ} (o : ℕ) (h : o + H ≤ R) (w : (⟨2, ![H, C]⟩ : Shape).Idx → α) (X : (⟨2, ![R, C]⟩ : Shape).Idx → α) :
    (⟨2, ![R, C]⟩ : Shape).Idx → α :=
  fun y => if h' : o ≤ (y (0 : Fin 2)).val ∧ (y (0 : Fin 2)).val < o + H then
    w (Rect.unitLocal (s := ⟨2, ![R, C]⟩) (off := ![o, 0]) (size := (⟨2, ![H, C]⟩ : Shape).size) y (Rect.unit_rows_mem y rfl rfl h'))
  else X y

theorem read_put {κ' : Kind} {sp : Space} {e : EltTy} {Val : EltTy → Type} {H : ℕ} (v : View sig κ' sp (⟨2, ![R, C]⟩ : Shape) e) (f : v.ty.Contents Val) (L : List (View.Piece Val (⟨2, ![R, C]⟩ : Shape) e)) (o : ℕ)
    (h : o + H ≤ R) (w : (⟨2, ![H, C]⟩ : Shape).Idx → Val e) :
    v.read Val (v.writes Val f (⟨Rect.unit (s := ⟨2, ![R, C]⟩) ![o, 0] (⟨2, ![H, C]⟩ : Shape).size (rows_inb h), w⟩ :: L)) = put o h w (v.read Val (v.writes Val f L)) :=
  funext fun y => View.read_writes_cons_rows v f (rows_inb h) w L y rfl rfl rfl

end Rows

/-- The contents of what the kernel writes: stacked queries, running maxima, accumulator, scores, exponentials, output tile. -/
structure St (F : FTy → Type) where
  qs : Vec F S1024x128 .bf16
  m : Vec F S1024x128 .f32
  acc : Vec F S1024x256 .f32
  s : Vec F S1024x512 .f32
  p : Vec F S1024x512 .bf16
  out : Vec F S1x512x128 .bf16

/-- A block of rows' update. -/
def rowBlockF (msk : ℕ → Vec F S32x512 .f32 → Vec F S32x512 .f32) (o : ℕ) (h : o + 32 ≤ 1024) (st : St F) : St F :=
  { st with
    m := put o h (k0_pay12 (msk o (cut o h st.s)) (cut o h st.m)) st.m
    acc := put o h (k0_pay11 (msk o (cut o h st.s)) (cut o h st.m) (cut o h st.acc)) st.acc
    p := put o h (k0_pay10 (msk o (cut o h st.s)) (cut o h st.m)) st.p }

/-- `n` blocks of rows' update. -/
def rowBlocksF (msk : ℕ → Vec F S32x512 .f32 → Vec F S32x512 .f32) : (n o : ℕ) → o + 32 * n ≤ 1024 → St F → St F
  | 0, _, _, st => st
  | n + 1, o, h, st => rowBlocksF msk n (o + 32) (by omega) (rowBlockF msk o (by omega) st)

/-- The scores of half the rows. -/
def issueF (o : ℕ) (h : o + 512 ≤ 1024) (k : Vec F S1x512x128 .bf16) (st : St F) : St F :=
  { st with s := put o h (k0_pay6 (cut o h st.qs) k) st.s }

/-- The accumulation of half the rows. -/
def accumulateF (v : FVec F S512x256 .bf16) (o : ℕ) (h : o + 512 ≤ 1024) (st : St F) : St F :=
  { st with acc := put o h (k0_pay84 v (cut o h st.acc) (cut o h st.p)) st.acc }

def halfF (msk : ℕ → Vec F S32x512 .f32 → Vec F S32x512 .f32) (v : FVec F S512x256 .bf16) (k : Vec F S1x512x128 .bf16)
    (o : ℕ) (h : o + 512 ≤ 1024) (st : St F) : St F :=
  accumulateF v o h (issueF o h k (rowBlocksF msk 16 o (by omega) st))

def stepF (msk : ℕ → Vec F S32x512 .f32 → Vec F S32x512 .f32) (v : FVec F S512x256 .bf16) (k : Vec F S1x512x128 .bf16)
    (st : St F) : St F :=
  halfF msk v k 512 (by decide) (halfF msk v k 0 (by decide) st)

def stackQF (q : FVec F S512x128 .bf16) (st : St F) : St F :=
  { st with qs := put 512 (by decide) (k0_pay323 q) (put 0 (by decide) (k0_pay322 q) st.qs) }

/-- A block of 512 rows of a whole operand, at the given offsets. -/
def blk (X : Vec F S1x4096x128 .bf16) (off : Fin 3 → ℕ) (hoff : ∀ a : Fin 3, off a + S1x512x128.size a ≤ S1x4096x128.size a) :
    Vec F S1x512x128 .bf16 :=
  fun x => X ((Rect.unit (s := S1x4096x128) off S1x512x128.size hoff).idx x)

/-- What one grid point reads: the lambda vectors, the norm's gains, queries, keys, values. -/
structure Ins (F : FTy → Type) where
  lam : Vec F S4x64 .f32
  g : Vec F S1x128 .f32
  q : Vec F S1x4096x128 .bf16
  k : Vec F S1x4096x128 .bf16
  v : Vec F S1x4096x128 .bf16

/-- The start of a tile. -/
def startF (st : St F) : St F := { st with m := k0_pay314, acc := k0_pay315 }

/-- The output tile. -/
def finishF (n : Ins F) (st : St F) : St F :=
  { st with out := k0_pay1 (k0_pay510 (k0_pay509 fun x => n.lam ((Rect.unit (s := S4x64) ![0, 0] S4x64.size (by decide)).idx x))
      (fun x => st.acc ((Rect.unit (s := S1024x256) ![0, 0] S1024x128.size (by decide)).idx x))
      (fun x => st.acc ((Rect.unit (s := S1024x256) ![0, 128] S1024x128.size (by decide)).idx x))
      (fun x => n.g ((Rect.unit (s := S1x128) ![0, 0] S1x128.size (by decide)).idx x))) }

/-- The `k`-th block of 512 rows of a whole operand. -/
def blkAt (X : Vec F S1x4096x128 .bf16) (k : ℕ) : Vec F S1x512x128 .bf16 :=
  fun x => X (ix3 (0 : Fin 1) (⟨(512 * k + (x (1 : Fin 3)).val) % 4096, Nat.mod_lt _ (by decide)⟩ : Fin 4096) (x (2 : Fin 3)))

theorem blk_eq (X : Vec F S1x4096x128 .bf16) {off : Fin 3 → ℕ} (hoff : ∀ a : Fin 3, off a + S1x512x128.size a ≤ S1x4096x128.size a) {k : ℕ}
    (h : off = ![0, 512 * k, 0]) : blk X off hoff = blkAt X k := by
  subst h
  funext x
  have h1 : 512 * k + 512 ≤ 4096 := hoff 1
  have h2 : (x (1 : Fin 3)).val < 512 := (x 1).isLt
  have h0 : (x (0 : Fin 3)).val < 1 := (x 0).isLt
  refine congrArg X (funext fun a => Fin.ext ?_)
  fin_cases a
  · show 0 + 1 * (x (0 : Fin 3)).val = 0; omega
  · show 512 * k + 1 * (x (1 : Fin 3)).val = (512 * k + (x (1 : Fin 3)).val) % 4096
    rw [Nat.mod_eq_of_lt (by omega)]; omega
  · show 0 + 1 * (x (2 : Fin 3)).val = (x (2 : Fin 3)).val; omega

/-- The loop's first `k` steps. -/
def tripsF (n : Ins F) : ℕ → St F → St F
  | 0, st => st
  | k + 1, st => stepF (fun _ s => s) (k0_pay8 (blkAt n.v k)) (blkAt n.k (k + 1)) (tripsF n k st)

/-- The first tile's set-up. -/
def firstF (n : Ins F) (st : St F) : St F :=
  issueF 512 (by decide) (blkAt n.k 0) (issueF 0 (by decide) (blkAt n.k 0) (stackQF (k0_pay320 (blkAt n.q 0)) st))

/-- A grid point's run on tile `i`. -/
def bodyF (i : ℕ) (n : Ins F) (st : St F) : St F :=
  finishF n (stepF causal (k0_pay319 (blkAt n.v i)) (blkAt n.k 0) (stackQF (k0_pay320 (blkAt n.q (min (i + 1) 7)))
    (tripsF n i (if i = 0 then firstF n (startF st) else startF st))))

theorem t1_trips (i : grid0.Coords) : (k0_t1_loop i).trips = (i 2).val := by
  have h_c0_i32_6 : Affine.IsInt 0#32 (0) := Affine.ofNat _ (by omega)
  have r_i2 : (i 2).val < 8 := (i 2).isLt
  have h_arg2 : Affine.IsInt (BitVec.ofNat 32 (i 2).val) (((i 2).val : Int)) := Affine.ofNat _ (by omega)
  have h_v11 : Affine.IsInt _ (((i 2).val : Int)) := Affine.subi h_arg2 h_c0_i32_6 (by omega)
  have h_c1_i32 : Affine.IsInt 1#32 (1) := Affine.ofNat _ (by omega)
  have h_v13 : Affine.IsInt _ (((i 2).val : Int)) := Affine.divsi h_v11 h_c1_i32 (by omega)
  have h_v14 : Affine.IsInt _ (((i 2).val : Int)) := Affine.muli h_v13 h_c1_i32 (by omega)
  have h_v15 : Affine.IsInt _ (((i 2).val : Int)) := Affine.addi h_c0_i32_6 h_v14 (by omega)
  have h_c1_i32_7 : Affine.IsInt 1#32 (1) := Affine.ofNat _ (by omega)
  exact Affine.trips_eq h_c0_i32_6 h_v15 h_c1_i32_7 (i 2).val (by omega)

theorem cond1_iff (i : grid0.Coords) : k0_cond1 i = 1#1 ↔ (i 2).val = 0 := by
  have key : ∀ x : Fin 8, Scalar.cmpi .ne (Scalar.extui (Scalar.cmpi .eq (BitVec.ofNat 32 x.val) 0#32) : BitVec 32) 0#32 = 1#1 ∧ x.val = 0 ∨ Scalar.cmpi .ne (Scalar.extui (Scalar.cmpi .eq (BitVec.ofNat 32 x.val) 0#32) : BitVec 32) 0#32 ≠ 1#1 ∧ x.val ≠ 0 := by decide
  rcases key (i 2) with ⟨h, h0⟩ | ⟨h, h0⟩
  · exact ⟨fun _ => h0, fun _ => h⟩
  · exact ⟨fun h1 => absurd h1 h, fun h1 => absurd h1 h0⟩

section Triples
variable (𝒱 : Variants) (c : Dev nD) (bd : Option 𝒱.V) (E : Set ℕ)
variable (arg3 : Memref sig .tc .vmem S4x64 .f32) (harg3 : arg3.IsWhole) (arg4 : Memref sig .tc .vmem S1x128 .f32) (harg4 : arg4.IsWhole)
  (arg5 : Memref sig .tc .vmem S1x4096x128 .bf16) (harg5 : arg5.IsWhole) (arg6 : Memref sig .tc .vmem S1x4096x128 .bf16) (harg6 : arg6.IsWhole)
  (arg7 : Memref sig .tc .vmem S1x4096x128 .bf16) (harg7 : arg7.IsWhole) (arg8 : Memref sig .tc .vmem S1x512x128 .bf16) (harg8 : arg8.IsWhole)
  (arg9 : Memref sig .tc .vmem S1024x128 .bf16) (harg9 : arg9.IsWhole) (arg10 : Memref sig .tc .vmem S1024x128 .f32) (harg10 : arg10.IsWhole)
  (arg11 : Memref sig .tc .vmem S1024x256 .f32) (harg11 : arg11.IsWhole) (arg12 : Memref sig .tc .vmem S1024x512 .f32) (harg12 : arg12.IsWhole)
  (arg13 : Memref sig .tc .vmem S1024x512 .bf16) (harg13 : arg13.IsWhole)

/-- The buffers hold the given contents. -/
def inv (n : Ins F) (st : St F) : sProp 𝕄G :=
  iprop(owns (c : Thread nD τ) arg3 fullShare n.lam ∗ owns (c : Thread nD τ) arg4 fullShare n.g ∗ owns (c : Thread nD τ) arg5 fullShare n.q
    ∗ owns (c : Thread nD τ) arg6 fullShare n.k ∗ owns (c : Thread nD τ) arg7 fullShare n.v ∗ owns (c : Thread nD τ) arg8 fullShare st.out
    ∗ owns (c : Thread nD τ) arg9 fullShare st.qs ∗ owns (c : Thread nD τ) arg10 fullShare st.m ∗ owns (c : Thread nD τ) arg11 fullShare st.acc
    ∗ owns (c : Thread nD τ) arg12 fullShare st.s ∗ owns (c : Thread nD τ) arg13 fullShare st.p)

theorem owns_put {sp : Space} {R C H : ℕ} {e : EltTy} (M : Memref sig .tc sp (⟨2, ![R, C]⟩ : Shape) e) (f : M.view.ty.Contents (Elt F)) (o : ℕ)
    (h : o + H ≤ R) (w : (⟨2, ![H, C]⟩ : Shape).Idx → Elt F e) :
    ((M.view.loc (c : Thread nD τ) ↦[M.view.set]{fullShare} M.view.writes (Elt F) f
        [⟨Rect.unit (s := ⟨2, ![R, C]⟩) ![o, 0] (⟨2, ![H, C]⟩ : Shape).size (rows_inb h), w⟩]) : sProp 𝕄G)
      ⊢ owns (c : Thread nD τ) M fullShare (put o h w (M.view.read (Elt F) f)) := by
  unfold owns
  iintro H
  iexists _
  isplitr
  swap
  · iexact H
  · ipureintro; exact read_put _ _ _ o h _

theorem owns_put2 {sp : Space} {R C H : ℕ} {e : EltTy} (M : Memref sig .tc sp (⟨2, ![R, C]⟩ : Shape) e) (f : M.view.ty.Contents (Elt F)) (o o' : ℕ)
    (h : o + H ≤ R) (h' : o' + H ≤ R) (w w' : (⟨2, ![H, C]⟩ : Shape).Idx → Elt F e) :
    ((M.view.loc (c : Thread nD τ) ↦[M.view.set]{fullShare} M.view.writes (Elt F) f
        [⟨Rect.unit (s := ⟨2, ![R, C]⟩) ![o, 0] (⟨2, ![H, C]⟩ : Shape).size (rows_inb h), w⟩,
         ⟨Rect.unit (s := ⟨2, ![R, C]⟩) ![o', 0] (⟨2, ![H, C]⟩ : Shape).size (rows_inb h'), w'⟩]) : sProp 𝕄G)
      ⊢ owns (c : Thread nD τ) M fullShare (put o h w (put o' h' w' (M.view.read (Elt F) f))) := by
  unfold owns
  iintro H
  iexists _
  isplitr
  swap
  · iexact H
  · ipureintro; exact (read_put _ _ _ o h _).trans (congrArg (put o h w) (read_put _ _ _ o' h' _))

theorem owns_full {sp : Space} {s : Shape} {e : EltTy} (M : Memref sig .tc sp s e) (f : M.view.ty.Contents (Elt F)) {off : Fin s.rank → ℕ}
    (inb : ∀ a, off a + s.size a ≤ s.size a) (w : s.Idx → Elt F e) :
    ((M.view.loc (c : Thread nD τ) ↦[M.view.set]{fullShare} M.view.writes (Elt F) f [⟨Rect.unit off s.size inb, w⟩]) : sProp 𝕄G)
      ⊢ owns (c : Thread nD τ) M fullShare w := by
  unfold owns
  iintro H
  iexists _
  isplitr
  swap
  · iexact H
  · ipureintro; funext y; exact View.read_writes_cons_unit_of_mem M.view f inb w [] y y rfl fun a => by have := inb a; omega

theorem owns_read {sp : Space} {s : Shape} {e : EltTy} (M : Memref sig .tc sp s e) (f : M.view.ty.Contents (Elt F)) :
    ((M.view.loc (c : Thread nD τ) ↦[M.view.set]{fullShare} f) : sProp 𝕄G) ⊢ owns (c : Thread nD τ) M fullShare (M.view.read (Elt F) f) := by
  unfold owns
  iintro H
  iexists _
  isplitr
  swap
  · iexact H
  · ipureintro; rfl

/-- One program after another. -/
theorem seq_wp {α β : Type} {p : Prog (TpuEff nD τ sig (Elt F) Λ₀ .tc) α} {q : α → Prog (TpuEff nD τ sig (Elt F) Λ₀ .tc) β} {P R : sProp 𝕄G} {Q : β → sProp 𝕄G}
    (h1 : P ⊢ wp frame (wpE (defs₀ (F := F)) 𝒱 (c : Thread nD τ) bd) E p (fun _ => R))
    (h2 : ∀ a, R ⊢ wp frame (wpE (defs₀ (F := F)) 𝒱 (c : Thread nD τ) bd) E (q a) Q) :
    P ⊢ wp frame (wpE (defs₀ (F := F)) 𝒱 (c : Thread nD τ) bd) E (p >>= q) Q := by
  rw [wp_bind]
  exact h1.trans (wp_mono _ _ _ h2)

theorem rowBlock_wp (msk : ℕ → Vec F S32x512 .f32 → Vec F S32x512 .f32) (o : ℕ) (h : o + 32 ≤ 1024) (ho : 2 ∣ o) (n : Ins F) (st : St F) :
    (inv c arg3 arg4 arg5 arg6 arg7 arg8 arg9 arg10 arg11 arg12 arg13) n st ⊢ wp frame (wpE (defs₀ (F := F)) 𝒱 (c : Thread nD τ) bd) E (rowBlock arg10 arg11 arg12 arg13 harg13 msk o h ho)
          (fun _ => (inv c arg3 arg4 arg5 arg6 arg7 arg8 arg9 arg10 arg11 arg12 arg13) n (rowBlockF msk o h st)) := by
  obtain ⟨qs, m, acc, s, p, out⟩ := st
  obtain ⟨lam, g, q, k, v⟩ := n
  conv => lhs; unfold inv owns
  unfold rowBlock
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_exec
  sl_step
  unfold inv rowBlockF
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_read $$ H9
  isplitl [H10]; · iapply owns_put c arg10 _ o h _ $$ H10
  isplitl [H11]; · iapply owns_put c arg11 _ o h _ $$ H11
  isplitl [H12]; · iapply owns_read $$ H12
  iapply owns_put c arg13 _ o h _ $$ H13

theorem rowBlocks_wp (msk : ℕ → Vec F S32x512 .f32 → Vec F S32x512 .f32) (n : Ins F) : (j o : ℕ) → (h : o + 32 * j ≤ 1024) → (ho : 2 ∣ o) → (st : St F) →
    (inv c arg3 arg4 arg5 arg6 arg7 arg8 arg9 arg10 arg11 arg12 arg13) n st ⊢ wp frame (wpE (defs₀ (F := F)) 𝒱 (c : Thread nD τ) bd) E (rowBlocks arg10 arg11 arg12 arg13 harg13 msk j o h ho)
          (fun _ => (inv c arg3 arg4 arg5 arg6 arg7 arg8 arg9 arg10 arg11 arg12 arg13) n (rowBlocksF msk j o h st))
  | 0, o, h, ho, st => by
    unfold rowBlocks
    rw [wp_pure]
    exact fupd_intro
  | j + 1, o, h, ho, st => by
    unfold rowBlocks
    exact seq_wp 𝒱 c bd E (rowBlock_wp 𝒱 c bd E arg3 arg4 arg5 arg6 arg7 arg8 arg9 arg10 arg11 arg12 arg13 harg13 msk o (by omega) ho n st)
      fun _ => rowBlocks_wp msk n j (o + 32) (by omega) (by omega) _

theorem issue_wp (o : ℕ) (h : o + 512 ≤ 1024) (off : Fin 3 → ℕ) (hoff : ∀ a : Fin 3, off a + S1x512x128.size a ≤ S1x4096x128.size a) (n : Ins F) (st : St F) :
    (inv c arg3 arg4 arg5 arg6 arg7 arg8 arg9 arg10 arg11 arg12 arg13) n st ⊢ wp frame (wpE (defs₀ (F := F)) 𝒱 (c : Thread nD τ) bd) E (issue arg6 arg9 arg12 o h off hoff) (fun _ => (inv c arg3 arg4 arg5 arg6 arg7 arg8 arg9 arg10 arg11 arg12 arg13) n (issueF o h (blk n.k off hoff) st)) := by
  obtain ⟨qs, m, acc, s, p, out⟩ := st
  obtain ⟨lam, g, q, k, v⟩ := n
  conv => lhs; unfold inv owns
  unfold issue
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_exec
  sl_step
  unfold inv issueF
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_read $$ H9
  isplitl [H10]; · iapply owns_read $$ H10
  isplitl [H11]; · iapply owns_read $$ H11
  isplitl [H12]; · iapply owns_put c arg12 _ o h _ $$ H12
  iapply owns_read $$ H13

theorem accumulate_wp (v : FVec F S512x256 .bf16) (o : ℕ) (h : o + 512 ≤ 1024) (n : Ins F) (st : St F) :
    (inv c arg3 arg4 arg5 arg6 arg7 arg8 arg9 arg10 arg11 arg12 arg13) n st ⊢ wp frame (wpE (defs₀ (F := F)) 𝒱 (c : Thread nD τ) bd) E (accumulate arg11 arg13 v o h) (fun _ => (inv c arg3 arg4 arg5 arg6 arg7 arg8 arg9 arg10 arg11 arg12 arg13) n (accumulateF v o h st)) := by
  obtain ⟨qs, m, acc, s, p, out⟩ := st
  obtain ⟨lam, g, q, k, vv⟩ := n
  conv => lhs; unfold inv owns
  unfold accumulate
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_exec
  sl_step
  unfold inv accumulateF
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_read $$ H9
  isplitl [H10]; · iapply owns_read $$ H10
  isplitl [H11]; · iapply owns_put c arg11 _ o h _ $$ H11
  isplitl [H12]; · iapply owns_read $$ H12
  iapply owns_read $$ H13

theorem stackQ_wp (q : FVec F S512x128 .bf16) (n : Ins F) (st : St F) :
    (inv c arg3 arg4 arg5 arg6 arg7 arg8 arg9 arg10 arg11 arg12 arg13) n st ⊢ wp frame (wpE (defs₀ (F := F)) 𝒱 (c : Thread nD τ) bd) E (stackQ arg9 harg9 q) (fun _ => (inv c arg3 arg4 arg5 arg6 arg7 arg8 arg9 arg10 arg11 arg12 arg13) n (stackQF q st)) := by
  obtain ⟨qs, m, acc, s, p, out⟩ := st
  obtain ⟨lam, g, qq, k, v⟩ := n
  conv => lhs; unfold inv owns
  unfold stackQ
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_exec
  sl_step
  unfold inv stackQF
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_put2 c arg9 _ 512 0 _ _ _ _ $$ H9
  isplitl [H10]; · iapply owns_read $$ H10
  isplitl [H11]; · iapply owns_read $$ H11
  isplitl [H12]; · iapply owns_read $$ H12
  iapply owns_read $$ H13

theorem start_wp (n : Ins F) (st : St F) :
    (inv c arg3 arg4 arg5 arg6 arg7 arg8 arg9 arg10 arg11 arg12 arg13) n st ⊢ wp frame (wpE (defs₀ (F := F)) 𝒱 (c : Thread nD τ) bd) E (start arg10 arg11) (fun _ => (inv c arg3 arg4 arg5 arg6 arg7 arg8 arg9 arg10 arg11 arg12 arg13) n (startF st)) := by
  obtain ⟨qs, m, acc, s, p, out⟩ := st
  obtain ⟨lam, g, q, k, v⟩ := n
  conv => lhs; unfold inv owns
  unfold start
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_exec
  sl_step
  unfold inv startF
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_read $$ H9
  isplitl [H10]; · iapply owns_full c arg10 _ _ _ $$ H10
  isplitl [H11]; · iapply owns_full c arg11 _ _ _ $$ H11
  isplitl [H12]; · iapply owns_read $$ H12
  iapply owns_read $$ H13

theorem finish_wp (n : Ins F) (st : St F) :
    (inv c arg3 arg4 arg5 arg6 arg7 arg8 arg9 arg10 arg11 arg12 arg13) n st ⊢ wp frame (wpE (defs₀ (F := F)) 𝒱 (c : Thread nD τ) bd) E (finish arg3 arg4 arg8 harg8 arg11) (fun _ => (inv c arg3 arg4 arg5 arg6 arg7 arg8 arg9 arg10 arg11 arg12 arg13) n (finishF n st)) := by
  obtain ⟨qs, m, acc, s, p, out⟩ := st
  obtain ⟨lam, g, q, k, v⟩ := n
  conv => lhs; unfold inv owns
  unfold finish
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_exec
  sl_step
  unfold inv finishF
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_full c arg8 _ _ _ $$ H8
  isplitl [H9]; · iapply owns_read $$ H9
  isplitl [H10]; · iapply owns_read $$ H10
  isplitl [H11]; · iapply owns_read $$ H11
  isplitl [H12]; · iapply owns_read $$ H12
  iapply owns_read $$ H13

theorem half_wp (msk : ℕ → Vec F S32x512 .f32 → Vec F S32x512 .f32) (v : FVec F S512x256 .bf16) (off : Fin 3 → ℕ)
    (hoff : ∀ a : Fin 3, off a + S1x512x128.size a ≤ S1x4096x128.size a) (o : ℕ) (h : o + 512 ≤ 1024) (ho : 2 ∣ o) (n : Ins F) (st : St F) :
    (inv c arg3 arg4 arg5 arg6 arg7 arg8 arg9 arg10 arg11 arg12 arg13) n st ⊢ wp frame (wpE (defs₀ (F := F)) 𝒱 (c : Thread nD τ) bd) E (half arg6 arg9 arg10 arg11 arg12 arg13 harg13 msk v off hoff o h ho) (fun _ => (inv c arg3 arg4 arg5 arg6 arg7 arg8 arg9 arg10 arg11 arg12 arg13) n (halfF msk v (blk n.k off hoff) o h st)) := by
  unfold half
  exact seq_wp 𝒱 c bd E (rowBlocks_wp 𝒱 c bd E arg3 arg4 arg5 arg6 arg7 arg8 arg9 arg10 arg11 arg12 arg13 harg13 msk n 16 o (by omega) ho st) fun _ =>
    seq_wp 𝒱 c bd E (issue_wp 𝒱 c bd E arg3 arg4 arg5 arg6 arg7 arg8 arg9 arg10 arg11 arg12 arg13 o h off hoff n _) fun _ => accumulate_wp 𝒱 c bd E arg3 arg4 arg5 arg6 arg7 arg8 arg9 arg10 arg11 arg12 arg13 v o h n _

theorem step_wp (msk : ℕ → Vec F S32x512 .f32 → Vec F S32x512 .f32) (v : FVec F S512x256 .bf16) (off : Fin 3 → ℕ)
    (hoff : ∀ a : Fin 3, off a + S1x512x128.size a ≤ S1x4096x128.size a) (n : Ins F) (st : St F) :
    (inv c arg3 arg4 arg5 arg6 arg7 arg8 arg9 arg10 arg11 arg12 arg13) n st ⊢ wp frame (wpE (defs₀ (F := F)) 𝒱 (c : Thread nD τ) bd) E (step arg6 arg9 arg10 arg11 arg12 arg13 harg13 msk v off hoff) (fun _ => (inv c arg3 arg4 arg5 arg6 arg7 arg8 arg9 arg10 arg11 arg12 arg13) n (stepF msk v (blk n.k off hoff) st)) := by
  unfold step
  exact seq_wp 𝒱 c bd E (half_wp 𝒱 c bd E arg3 arg4 arg5 arg6 arg7 arg8 arg9 arg10 arg11 arg12 arg13 harg13 msk v off hoff 0 (by decide) (by decide) n st) fun _ =>
    half_wp 𝒱 c bd E arg3 arg4 arg5 arg6 arg7 arg8 arg9 arg10 arg11 arg12 arg13 harg13 msk v off hoff 512 (by decide) (by decide) n _

theorem loadV_wp (off : Fin 3 → ℕ) (hoff : ∀ a : Fin 3, off a + S1x512x128.size a ≤ S1x4096x128.size a) {β : Type}
    (K : Vec F S1x512x128 .bf16 → Prog (TpuEff nD τ sig (Elt F) Λ₀ .tc) β) (Q : β → sProp 𝕄G) (n : Ins F) (st : St F)
    (hK : (inv c arg3 arg4 arg5 arg6 arg7 arg8 arg9 arg10 arg11 arg12 arg13) n st ⊢ wp frame (wpE (defs₀ (F := F)) 𝒱 (c : Thread nD τ) bd) E (K (blk n.v off hoff)) Q) :
    (inv c arg3 arg4 arg5 arg6 arg7 arg8 arg9 arg10 arg11 arg12 arg13) n st ⊢ wp frame (wpE (defs₀ (F := F)) 𝒱 (c : Thread nD τ) bd) E ((Prog.lift (.load arg7 (Rect.unit (s := S1x4096x128) off S1x512x128.size hoff).toLoadRect (View.loadsAt_vmem h_S1x512x128)) : Prog (TpuEff nD τ sig (Elt F) Λ₀ .tc) (Vec F S1x512x128 .bf16)) >>= K) Q := by
  obtain ⟨qs, m, acc, s, p, out⟩ := st
  obtain ⟨lam, g, q, k, v⟩ := n
  refine (?_ : _ ⊢ wp frame (wpE (defs₀ (F := F)) 𝒱 (c : Thread nD τ) bd) E (Prog.op (.load arg7 (Rect.unit (s := S1x4096x128) off S1x512x128.size hoff).toLoadRect (View.loadsAt_vmem h_S1x512x128)) K) Q)
  conv => lhs; unfold inv owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_step
  iapply hK
  unfold inv
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_read $$ H9
  isplitl [H10]; · iapply owns_read $$ H10
  isplitl [H11]; · iapply owns_read $$ H11
  isplitl [H12]; · iapply owns_read $$ H12
  iapply owns_read $$ H13

theorem loadQ_wp (off : Fin 3 → ℕ) (hoff : ∀ a : Fin 3, off a + S1x512x128.size a ≤ S1x4096x128.size a) {β : Type}
    (K : Vec F S1x512x128 .bf16 → Prog (TpuEff nD τ sig (Elt F) Λ₀ .tc) β) (Q : β → sProp 𝕄G) (n : Ins F) (st : St F)
    (hK : (inv c arg3 arg4 arg5 arg6 arg7 arg8 arg9 arg10 arg11 arg12 arg13) n st ⊢ wp frame (wpE (defs₀ (F := F)) 𝒱 (c : Thread nD τ) bd) E (K (blk n.q off hoff)) Q) :
    (inv c arg3 arg4 arg5 arg6 arg7 arg8 arg9 arg10 arg11 arg12 arg13) n st ⊢ wp frame (wpE (defs₀ (F := F)) 𝒱 (c : Thread nD τ) bd) E ((Prog.lift (.load arg5 (Rect.unit (s := S1x4096x128) off S1x512x128.size hoff).toLoadRect (View.loadsAt_vmem h_S1x512x128)) : Prog (TpuEff nD τ sig (Elt F) Λ₀ .tc) (Vec F S1x512x128 .bf16)) >>= K) Q := by
  obtain ⟨qs, m, acc, s, p, out⟩ := st
  obtain ⟨lam, g, q, k, v⟩ := n
  refine (?_ : _ ⊢ wp frame (wpE (defs₀ (F := F)) 𝒱 (c : Thread nD τ) bd) E (Prog.op (.load arg5 (Rect.unit (s := S1x4096x128) off S1x512x128.size hoff).toLoadRect (View.loadsAt_vmem h_S1x512x128)) K) Q)
  conv => lhs; unfold inv owns
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩⟩
  dsimp only at h3 h4 h5 h6 h7 h8 h9 h10 h11 h12 h13
  subst h3 h4 h5 h6 h7 h8 h9 h10 h11 h12 h13
  sl_step
  iapply hK
  unfold inv
  dsimp only
  isplitl [H3]; · iapply owns_read $$ H3
  isplitl [H4]; · iapply owns_read $$ H4
  isplitl [H5]; · iapply owns_read $$ H5
  isplitl [H6]; · iapply owns_read $$ H6
  isplitl [H7]; · iapply owns_read $$ H7
  isplitl [H8]; · iapply owns_read $$ H8
  isplitl [H9]; · iapply owns_read $$ H9
  isplitl [H10]; · iapply owns_read $$ H10
  isplitl [H11]; · iapply owns_read $$ H11
  isplitl [H12]; · iapply owns_read $$ H12
  iapply owns_read $$ H13

variable (i : grid0.Coords)

theorem first_wp (n : Ins F) (st : St F) :
    (inv c arg3 arg4 arg5 arg6 arg7 arg8 arg9 arg10 arg11 arg12 arg13) n st ⊢ wp frame (wpE (defs₀ (F := F)) 𝒱 (c : Thread nD τ) bd) E (first arg5 arg6 arg9 harg9 arg12) (fun _ => (inv c arg3 arg4 arg5 arg6 arg7 arg8 arg9 arg10 arg11 arg12 arg13) n (firstF n st)) := by
  unfold first
  refine loadQ_wp 𝒱 c bd E arg3 arg4 arg5 arg6 arg7 arg8 arg9 arg10 arg11 arg12 arg13 _ _ _ _ n st ?_
  refine seq_wp 𝒱 c bd E (stackQ_wp 𝒱 c bd E arg3 arg4 arg5 arg6 arg7 arg8 arg9 harg9 arg10 arg11 arg12 arg13 _ n st) fun _ => ?_
  refine seq_wp 𝒱 c bd E (issue_wp 𝒱 c bd E arg3 arg4 arg5 arg6 arg7 arg8 arg9 arg10 arg11 arg12 arg13 0 (by decide) ![0, 0, 0] (by decide) n _) fun _ => ?_
  refine (issue_wp 𝒱 c bd E arg3 arg4 arg5 arg6 arg7 arg8 arg9 arg10 arg11 arg12 arg13 512 (by decide) ![0, 0, 0] (by decide) n _).trans (wp_mono _ _ _ fun _ => ?_)
  rw [blk_eq n.q _ (k := 0) rfl, blk_eq n.k _ (k := 0) rfl]
  exact .rfl

theorem trip_wp (k : Fin (k0_t1_loop i).trips) (n : Ins F) (st : St F) :
    (inv c arg3 arg4 arg5 arg6 arg7 arg8 arg9 arg10 arg11 arg12 arg13) n (tripsF n k.val st) ⊢ wp frame (wpE (defs₀ (F := F)) 𝒱 (c : Thread nD τ) bd) E (trip i arg6 arg7 arg9 arg10 arg11 arg12 arg13 harg13 k) (fun _ => (inv c arg3 arg4 arg5 arg6 arg7 arg8 arg9 arg10 arg11 arg12 arg13) n (tripsF n (k.val + 1) st)) := by
  unfold trip
  refine loadV_wp 𝒱 c bd E arg3 arg4 arg5 arg6 arg7 arg8 arg9 arg10 arg11 arg12 arg13 _ _ _ _ n _ ?_
  refine (step_wp 𝒱 c bd E arg3 arg4 arg5 arg6 arg7 arg8 arg9 arg10 arg11 arg12 arg13 harg13 _ _ _ _ n _).trans (wp_mono _ _ _ fun _ => ?_)
  rw [blk_eq n.v _ (k := k.val) (k0_off1_eq i k), blk_eq n.k _ (k := k.val + 1) ((k0_off2_eq i k).trans (by rw [Nat.mul_add]))]
  exact .rfl

set_option maxRecDepth 8000 in
/-- The loops and what follows them. -/
theorem loops_wp {β : Type} (K : (Σ' (_ : FVec F S512x256 .bf16), FVec F S512x128 .bf16) → Prog (TpuEff nD τ sig (Elt F) Λ₀ .tc) β) (Q : β → sProp 𝕄G) (n : Ins F) (st : St F)
    (hK : (inv c arg3 arg4 arg5 arg6 arg7 arg8 arg9 arg10 arg11 arg12 arg13) n (tripsF n (i 2).val st) ⊢
      wp frame (wpE (defs₀ (F := F)) 𝒱 (c : Thread nD τ) bd) E (K ⟨k0_pay319 (blkAt n.v (i 2).val), k0_pay320 (blkAt n.q (min ((i 2).val + 1) 7))⟩) Q) :
    (inv c arg3 arg4 arg5 arg6 arg7 arg8 arg9 arg10 arg11 arg12 arg13) n st ⊢ wp frame (wpE (defs₀ (F := F)) 𝒱 (c : Thread nD τ) bd) E (do
      Scf.Loop.for (k0_t1_loop i) (k0_t1_ok i) PUnit.unit fun k _ => trip i arg6 arg7 arg9 arg10 arg11 arg12 arg13 harg13 k
      Scf.Loop.for (k0_t2_loop i) (k0_t2_ok i) PUnit.unit fun k u => k0_t2_body (F := F) i arg3 harg3 arg4 harg4 arg5 harg5 arg6 harg6 arg7 harg7 arg8 harg8 arg9 harg9 arg10 harg10 arg11 harg11 arg12 harg12 arg13 harg13 (v15 i) k u
      let v : Vec F S1x512x128 .bf16 ← Prog.lift (.load arg7 (Rect.unit (s := S1x4096x128) (k0_off5 i) S1x512x128.size (k0_off5_inb i)).toLoadRect (View.loadsAt_vmem h_S1x512x128))
      let q : Vec F S1x512x128 .bf16 ← Prog.lift (.load arg5 (Rect.unit (s := S1x4096x128) (k0_off6 i) S1x512x128.size (k0_off6_inb i)).toLoadRect (View.loadsAt_vmem h_S1x512x128))
      K ⟨k0_pay319 v, k0_pay320 q⟩) Q := by
  have hloop := fun (kk : PUnit → Prog (TpuEff nD τ sig (Elt F) Λ₀ .tc) β) => Scf.wp_for_bind (M := 𝕄G) frame (wpE (defs₀ (F := F)) 𝒱 (c : Thread nD τ) bd) E _ _ _ (k0_t1_ok i) PUnit.unit
    (fun k _ => trip i arg6 arg7 arg9 arg10 arg11 arg12 arg13 harg13 k) (fun k _ => (inv c arg3 arg4 arg5 arg6 arg7 arg8 arg9 arg10 arg11 arg12 arg13) n (tripsF n k st))
    (fun k _ => trip_wp 𝒱 c bd E arg3 arg4 arg5 arg6 arg7 arg8 arg9 arg10 arg11 arg12 arg13 harg13 i k n st) (kk := kk) (Q := Q)
  refine (Laws.sep_emp.2.trans (sep_mono .rfl ?_)).trans (BIClass.wand_elim (hloop _))
  rw [show Scf.trips _ _ _ = (i 2).val from t1_trips i]
  iintro - %acc
  iintro H
  iapply (?_ : (inv c arg3 arg4 arg5 arg6 arg7 arg8 arg9 arg10 arg11 arg12 arg13) n (tripsF n (i 2).val st) ⊢ _) $$ H
  refine Scf.wp_for0_bind frame _ E _ _ _ (k0_t2_ok i) _ (Nat.le_zero.mp (k0_t2_abs i).2.1) _ _ _ ?_
  refine loadV_wp 𝒱 c bd E arg3 arg4 arg5 arg6 arg7 arg8 arg9 arg10 arg11 arg12 arg13 _ _ _ _ n _ ?_
  refine loadQ_wp 𝒱 c bd E arg3 arg4 arg5 arg6 arg7 arg8 arg9 arg10 arg11 arg12 arg13 _ _ _ _ n _ ?_
  rw [blk_eq n.v _ (k0_off5_eq i), blk_eq n.q _ (k0_off6_eq i)]
  exact hK

theorem head_wp {β : Type} (K : (Σ' (_ : FVec F S512x256 .bf16), FVec F S512x128 .bf16) → Prog (TpuEff nD τ sig (Elt F) Λ₀ .tc) β) (Q : β → sProp 𝕄G) (n : Ins F) (st : St F)
    (hK : (inv c arg3 arg4 arg5 arg6 arg7 arg8 arg9 arg10 arg11 arg12 arg13) n (tripsF n (i 2).val (if (i 2).val = 0 then firstF n (startF st) else startF st)) ⊢
      wp frame (wpE (defs₀ (F := F)) 𝒱 (c : Thread nD τ) bd) E (K ⟨k0_pay319 (blkAt n.v (i 2).val), k0_pay320 (blkAt n.q (min ((i 2).val + 1) 7))⟩) Q) :
    (inv c arg3 arg4 arg5 arg6 arg7 arg8 arg9 arg10 arg11 arg12 arg13) n st ⊢ wp frame (wpE (defs₀ (F := F)) 𝒱 (c : Thread nD τ) bd) E (head i arg3 harg3 arg4 harg4 arg5 harg5 arg6 harg6 arg7 harg7 arg8 harg8 arg9 harg9 arg10 harg10 arg11 harg11 arg12 harg12 arg13 harg13 >>= K) Q := by
  unfold head
  by_cases h : (i 2).val = 0
  · rw [if_pos h] at hK
    simp only [dif_pos ((cond1_iff i).mpr h), bind_assoc, pure_bind]
    exact seq_wp 𝒱 c bd E (start_wp 𝒱 c bd E arg3 arg4 arg5 arg6 arg7 arg8 arg9 arg10 arg11 arg12 arg13 n st) fun _ =>
      seq_wp 𝒱 c bd E (first_wp 𝒱 c bd E arg3 arg4 arg5 arg6 arg7 arg8 arg9 harg9 arg10 arg11 arg12 arg13 n _) fun _ => loops_wp 𝒱 c bd E arg3 harg3 arg4 harg4 arg5 harg5 arg6 harg6 arg7 harg7 arg8 harg8 arg9 harg9 arg10 harg10 arg11 harg11 arg12 harg12 arg13 harg13 i K Q n _ hK
  · rw [if_neg h] at hK
    simp only [dif_neg fun h' => h ((cond1_iff i).mp h'), bind_assoc, pure_bind]
    exact seq_wp 𝒱 c bd E (start_wp 𝒱 c bd E arg3 arg4 arg5 arg6 arg7 arg8 arg9 arg10 arg11 arg12 arg13 n st) fun _ => loops_wp 𝒱 c bd E arg3 harg3 arg4 harg4 arg5 harg5 arg6 harg6 arg7 harg7 arg8 harg8 arg9 harg9 arg10 harg10 arg11 harg11 arg12 harg12 arg13 harg13 i K Q n _ hK

set_option maxRecDepth 8000 in
theorem body_wp (n : Ins F) (st : St F) :
    (inv c arg3 arg4 arg5 arg6 arg7 arg8 arg9 arg10 arg11 arg12 arg13) n st ⊢ wp frame (wpE (defs₀ (F := F)) 𝒱 (c : Thread nD τ) bd) E (cc0_diff_attn (F := F) i arg3 harg3 arg4 harg4 arg5 harg5 arg6 harg6 arg7 harg7 arg8 harg8 arg9 harg9 arg10 harg10 arg11 harg11 arg12 harg12 arg13 harg13) (fun _ => (inv c arg3 arg4 arg5 arg6 arg7 arg8 arg9 arg10 arg11 arg12 arg13) n (bodyF (i 2).val n st)) := by
  rw [body_eq]
  refine head_wp 𝒱 c bd E arg3 harg3 arg4 harg4 arg5 harg5 arg6 harg6 arg7 harg7 arg8 harg8 arg9 harg9 arg10 harg10 arg11 harg11 arg12 harg12 arg13 harg13 i _ _ n st ?_
  unfold tail
  refine seq_wp 𝒱 c bd E (stackQ_wp 𝒱 c bd E arg3 arg4 arg5 arg6 arg7 arg8 arg9 harg9 arg10 arg11 arg12 arg13 _ n _) fun _ => ?_
  refine seq_wp 𝒱 c bd E (step_wp 𝒱 c bd E arg3 arg4 arg5 arg6 arg7 arg8 arg9 arg10 arg11 arg12 arg13 harg13 causal (k0_pay319 (blkAt n.v (i 2).val)) ![0, 0, 0] (by decide) n _) fun _ => ?_
  rw [blk_eq n.k _ (k := 0) rfl]
  exact finish_wp 𝒱 c bd E arg3 arg4 arg5 arg6 arg7 arg8 harg8 arg9 arg10 arg11 arg12 arg13 n _

end Triples
end Cert.Proof.Attn
end
-- ==== Proof.AttnState.lean ====
/- What one grid point of the attention kernel leaves for the next, and what its output depends on. -/
module

public import proofs.«01_k».proof.Proof.AttnRun

@[expose] public section
noncomputable section
namespace Cert.Proof.Attn
open Idealize.ShloMosaic Idealize.ShloMosaic.TcCoe
open Cert.KernelIdeal Cert.KernelIdeal.Gen

variable {F : FTy → Type} [FloatOps F] [Named F]

/-- Rows outside the rows written are kept. -/
theorem put_congr {R C H : ℕ} {α : Type} (o : ℕ) (h : o + H ≤ R) (w : (⟨2, ![H, C]⟩ : Shape).Idx → α) (X Y : (⟨2, ![R, C]⟩ : Shape).Idx → α)
    (y : (⟨2, ![R, C]⟩ : Shape).Idx) (e : (y (0 : Fin 2)).val < o ∨ o + H ≤ (y (0 : Fin 2)).val → X y = Y y) : put o h w X y = put o h w Y y := by
  unfold put
  split
  · rfl
  · exact e (by omega)

/-- Both halves written, nothing of the old contents is left. -/
theorem put_full {C : ℕ} {α : Type} (w w' : (⟨2, ![512, C]⟩ : Shape).Idx → α) (X Y : (⟨2, ![1024, C]⟩ : Shape).Idx → α) :
    put 512 (by decide) w (put 0 (by decide) w' X) = put 512 (by decide) w (put 0 (by decide) w' Y) :=
  funext fun y => put_congr _ _ _ _ _ y fun h1 => put_congr _ _ _ _ _ y fun h2 => by
    have : (y (0 : Fin 2)).val < 1024 := (y 0).isLt
    omega

/-- Two states that differ only in the old output and in the exponentials outside rows `a` to `b`. -/
structure Sim (a b : ℕ) (st st' : St F) : Prop where
  qs : st.qs = st'.qs
  m : st.m = st'.m
  acc : st.acc = st'.acc
  s : st.s = st'.s
  p : ∀ y : S1024x512.Idx, a ≤ (y (0 : Fin 2)).val → (y (0 : Fin 2)).val < b → st.p y = st'.p y

theorem Sim.none {a b : ℕ} {st st' : St F} (h : Sim a b st st') (o : ℕ) : Sim o o st st' :=
  ⟨h.qs, h.m, h.acc, h.s, fun _ h1 h2 => absurd h1 (by omega)⟩

theorem rowBlock_sim (msk : ℕ → Vec F S32x512 .f32 → Vec F S32x512 .f32) {a o : ℕ} (h : o + 32 ≤ 1024) {st st' : St F} (e : Sim a o st st') :
    Sim a (o + 32) (rowBlockF msk o h st) (rowBlockF msk o h st') := by
  obtain ⟨qs, m, acc, s, p, out⟩ := st
  obtain ⟨qs', m', acc', s', p', out'⟩ := st'
  obtain ⟨rfl, rfl, rfl, rfl, e⟩ := e
  exact ⟨rfl, rfl, rfl, rfl, fun y h1 h2 => put_congr o h _ p p' y fun h3 => e y h1 (by omega)⟩

theorem rowBlocks_sim (msk : ℕ → Vec F S32x512 .f32 → Vec F S32x512 .f32) {a : ℕ} : (n o : ℕ) → (h : o + 32 * n ≤ 1024) → {st st' : St F} →
    Sim a o st st' → Sim a (o + 32 * n) (rowBlocksF msk n o h st) (rowBlocksF msk n o h st')
  | 0, _, _, _, _, e => e
  | n + 1, o, h, st, st', e => by
    have r := rowBlocks_sim msk n (o + 32) (by omega) (rowBlock_sim msk (by omega) e)
    rw [show o + 32 * (n + 1) = o + 32 + 32 * n by omega]
    exact r

theorem issue_sim {a b : ℕ} (o : ℕ) (h : o + 512 ≤ 1024) (k : Vec F S1x512x128 .bf16) {st st' : St F} (e : Sim a b st st') :
    Sim a b (issueF o h k st) (issueF o h k st') := by
  obtain ⟨qs, m, acc, s, p, out⟩ := st
  obtain ⟨qs', m', acc', s', p', out'⟩ := st'
  obtain ⟨rfl, rfl, rfl, rfl, e⟩ := e
  exact ⟨rfl, rfl, rfl, rfl, e⟩

theorem accumulate_sim (v : FVec F S512x256 .bf16) (o : ℕ) (h : o + 512 ≤ 1024) {st st' : St F} (e : Sim o (o + 512) st st') :
    Sim o (o + 512) (accumulateF v o h st) (accumulateF v o h st') := by
  obtain ⟨qs, m, acc, s, p, out⟩ := st
  obtain ⟨qs', m', acc', s', p', out'⟩ := st'
  obtain ⟨rfl, rfl, rfl, rfl, e⟩ := e
  have hc : cut (H := 512) o h p = cut o h p' := funext fun x => e _ (by
      show o ≤ o + 1 * (x (0 : Fin 2)).val; omega) (by
      have : (x (0 : Fin 2)).val < 512 := (x 0).isLt
      show o + 1 * (x (0 : Fin 2)).val < o + 512; omega)
  refine ⟨rfl, rfl, ?_, rfl, e⟩
  show put o h (k0_pay84 v (cut o h acc) (cut o h p)) acc = _
  rw [hc]
  rfl

theorem half_sim (msk : ℕ → Vec F S32x512 .f32 → Vec F S32x512 .f32) (v : FVec F S512x256 .bf16) (k : Vec F S1x512x128 .bf16) (o : ℕ) (h : o + 512 ≤ 1024)
    {a b : ℕ} {st st' : St F} (e : Sim a b st st') : Sim o (o + 512) (halfF msk v k o h st) (halfF msk v k o h st') :=
  accumulate_sim v o h (issue_sim o h k (rowBlocks_sim msk 16 o (by omega) (e.none o)))

theorem step_sim (msk : ℕ → Vec F S32x512 .f32 → Vec F S32x512 .f32) (v : FVec F S512x256 .bf16) (k : Vec F S1x512x128 .bf16)
    {a b : ℕ} {st st' : St F} (e : Sim a b st st') : Sim 512 1024 (stepF msk v k st) (stepF msk v k st') :=
  half_sim msk v k 512 _ (half_sim msk v k 0 _ e)

theorem trips_sim (n : Ins F) {a b : ℕ} {st st' : St F} (e : Sim a b st st') : (j : ℕ) → Sim 0 0 (tripsF n j st) (tripsF n j st')
  | 0 => e.none 0
  | j + 1 => (step_sim _ _ _ (trips_sim n e j)).none 0

theorem stackQ_sim (q : FVec F S512x128 .bf16) {a b : ℕ} {st st' : St F} (e : Sim a b st st') : Sim a b (stackQF q st) (stackQF q st') := by
  obtain ⟨qs, m, acc, s, p, out⟩ := st
  obtain ⟨qs', m', acc', s', p', out'⟩ := st'
  obtain ⟨rfl, rfl, rfl, rfl, e⟩ := e
  exact ⟨rfl, rfl, rfl, rfl, e⟩

/-- Buffers at fixed contents. -/
def base : St F := ⟨constant S1024x128 .bf16 0#16, k0_pay314, k0_pay315, constant S1024x512 .f32 0#32, constant S1024x512 .bf16 0#16, constant S1x512x128 .bf16 0#16⟩

/-- The state tile `j` starts from: its queries stacked, their scores against the first block of keys. -/
def can (n : Ins F) (j : ℕ) : St F :=
  issueF 512 (by decide) (blkAt n.k 0) (issueF 0 (by decide) (blkAt n.k 0) (stackQF (k0_pay320 (blkAt n.q j)) base))

/-- Tile `i`'s output. -/
def tileF (n : Ins F) (i : ℕ) : Vec F S1x512x128 .bf16 := (bodyF i n (can n i)).out

theorem first_sim (n : Ins F) (st st' : St F) : Sim 0 0 (firstF n (startF st)) (firstF n (startF st')) := by
  have hq : (stackQF (k0_pay320 (blkAt n.q 0)) (startF st)).qs = (stackQF (k0_pay320 (blkAt n.q 0)) (startF st')).qs := put_full _ _ _ _
  refine ⟨hq, rfl, rfl, ?_, fun _ h1 h2 => absurd h2 (by omega)⟩
  show put 512 (by decide) (k0_pay6 (cut 512 (by decide) (stackQF (k0_pay320 (blkAt n.q 0)) (startF st)).qs) (blkAt n.k 0))
    (put 0 (by decide) (k0_pay6 (cut 0 (by decide) (stackQF (k0_pay320 (blkAt n.q 0)) (startF st)).qs) (blkAt n.k 0)) st.s) = _
  rw [hq]
  exact put_full _ _ _ _

/-- A tile's output, from any state with the queries and scores a tile starts from. -/
theorem body_out (i : ℕ) (n : Ins F) (st : St F) (h : i ≠ 0 → st.qs = (can n i).qs ∧ st.s = (can n i).s) :
    (bodyF i n st).out = tileF n i := by
  have e : Sim 0 0 (if i = 0 then firstF n (startF st) else startF st) (if i = 0 then firstF n (startF (can n i)) else startF (can n i)) := by
    by_cases hi : i = 0
    · rw [if_pos hi, if_pos hi]; exact first_sim n _ _
    · rw [if_neg hi, if_neg hi]
      exact ⟨(h hi).1, rfl, rfl, (h hi).2, fun _ h1 h2 => absurd h2 (by omega)⟩
  have e' := step_sim causal (k0_pay319 (blkAt n.v i)) (blkAt n.k 0) (stackQ_sim (k0_pay320 (blkAt n.q (min (i + 1) 7))) (trips_sim n e i))
  unfold tileF bodyF finishF
  dsimp only
  rw [e'.acc]

theorem rowBlocks_qs (msk : ℕ → Vec F S32x512 .f32 → Vec F S32x512 .f32) : (n o : ℕ) → (h : o + 32 * n ≤ 1024) → (st : St F) →
    (rowBlocksF msk n o h st).qs = st.qs ∧ (rowBlocksF msk n o h st).s = st.s
  | 0, _, _, _ => ⟨rfl, rfl⟩
  | n + 1, o, h, st => rowBlocks_qs msk n (o + 32) (by omega) (rowBlockF msk o (by omega) st)

theorem half_qs (msk : ℕ → Vec F S32x512 .f32 → Vec F S32x512 .f32) (v : FVec F S512x256 .bf16) (k : Vec F S1x512x128 .bf16) (o : ℕ) (h : o + 512 ≤ 1024)
    (st : St F) : (halfF msk v k o h st).qs = st.qs ∧ (halfF msk v k o h st).s = put o h (k0_pay6 (cut o h st.qs) k) st.s := by
  have r := rowBlocks_qs msk 16 o (by omega) st
  refine ⟨r.1, ?_⟩
  show put o h (k0_pay6 (cut o h (rowBlocksF msk 16 o _ st).qs) k) (rowBlocksF msk 16 o _ st).s = _
  rw [r.1, r.2]

theorem step_qs (msk : ℕ → Vec F S32x512 .f32 → Vec F S32x512 .f32) (v : FVec F S512x256 .bf16) (k : Vec F S1x512x128 .bf16) (st : St F) :
    (stepF msk v k st).qs = st.qs
      ∧ (stepF msk v k st).s = put 512 (by decide) (k0_pay6 (cut 512 (by decide) st.qs) k) (put 0 (by decide) (k0_pay6 (cut 0 (by decide) st.qs) k) st.s) := by
  have r0 := half_qs msk v k 0 (by decide) st
  have r1 := half_qs msk v k 512 (by decide) (halfF msk v k 0 (by decide) st)
  refine ⟨r1.1.trans r0.1, r1.2.trans ?_⟩
  rw [r0.1, r0.2]

/-- A tile leaves what the next one starts from. -/
theorem body_next (i : ℕ) (hi : i < 7) (n : Ins F) (st : St F) :
    (bodyF i n st).qs = (can n (i + 1)).qs ∧ (bodyF i n st).s = (can n (i + 1)).s := by
  unfold bodyF finishF
  dsimp only
  rw [(step_qs _ _ _ _).1, (step_qs _ _ _ _).2, show min (i + 1) 7 = i + 1 by omega]
  have hq : (stackQF (k0_pay320 (blkAt n.q (i + 1))) (tripsF n i (if i = 0 then firstF n (startF st) else startF st))).qs
      = (stackQF (k0_pay320 (blkAt n.q (i + 1))) base).qs := put_full _ _ _ _
  refine ⟨hq, ?_⟩
  rw [hq]
  exact put_full _ _ _ _

end Cert.Proof.Attn
end
-- ==== Proof.AttnLaunch.lean ====
/- The attention kernel's launch: every grid point finds the queries and scores its tile starts from, and leaves its output
   tile and the next tile's. -/
module

public import proofs.«01_k».proof.Proof.AttnState
public import Idealize.ShloMosaic.Lib.Claim
public import Idealize.ShloMosaic.Lib.Pipeline.ValueKit

@[expose] public section
set_option maxRecDepth 16384
noncomputable section
namespace Cert.Proof.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The windows' block indices, at every grid point. -/
theorem idx : ∀ t : Fin cfg0.N,
    win0_0.index t = ![0, 0] ∧ win0_1.index t = ![0, 0] ∧ win0_2.index t = ![t.val / 8 / 4, 0, t.val / 8 % 4] ∧ win0_3.index t = ![t.val / 8 / 4, 0, t.val / 8 % 4]
    ∧ win0_4.index t = ![t.val / 8 / 4, 0, t.val / 8 % 4] ∧ win0_5.index t = ![t.val / 8 / 4, t.val % 8, t.val / 8 % 4] ∧ (grid0.coords t 2).val = t.val % 8 :=
  (by decide +kernel : ∀ t : Fin grid0.N, _)

/-- Sequence and head pair of a grid point. -/
def bat (j : ℕ) : Fin 8 := ⟨j / 4 % 8, Nat.mod_lt _ (by decide)⟩
def lane (j : ℕ) (k : Fin 128) : Fin 512 := ⟨j % 4 * 128 + k, by omega⟩

/-- What the head pair `j` reads. -/
def ins (c : Dev nD) (j : ℕ) : Ins F where
  lam := V m c main_v13
  g := V m c main_v15
  q := fun x => (V m c main_v2 : Vec F S8x4096x512 .bf16) (ix3 (bat j) (x (1 : Fin 3) : Fin 4096) (lane j (x (2 : Fin 3))))
  k := fun x => (V m c main_v3 : Vec F S8x4096x512 .bf16) (ix3 (bat j) (x (1 : Fin 3) : Fin 4096) (lane j (x (2 : Fin 3))))
  v := fun x => (V m c main_v4 : Vec F S8x4096x512 .bf16) (ix3 (bat j) (x (1 : Fin 3) : Fin 4096) (lane j (x (2 : Fin 3))))

theorem iblk0 (c : Dev nD) (t : Fin cfg0.N) : iblk m c 0 t = (ins m c (t.val / 8)).lam := by
  funext x
  obtain ⟨a, k, rfl⟩ : ∃ a k, x = ix2 a k := ⟨x 0, x 1, eq_ix2 x⟩
  show iblk m c 0 t (ix2 a k) = (V m c main_v13 : Vec F S4x64 .f32) (ix2 a k)
  blk_ext [iblk, idx t]
theorem iblk1 (c : Dev nD) (t : Fin cfg0.N) : iblk m c 1 t = (ins m c (t.val / 8)).g := by
  funext x
  obtain ⟨a, k, rfl⟩ : ∃ a k, x = ix2 a k := ⟨x 0, x 1, eq_ix2 x⟩
  show iblk m c 1 t (ix2 a k) = (V m c main_v15 : Vec F S1x128 .f32) (ix2 a k)
  blk_ext [iblk, idx t]
theorem bat_val (t : Fin cfg0.N) : (bat (t.val / 8)).val = t.val / 8 / 4 := by
  have h : t.val < 256 := t.isLt
  show t.val / 8 / 4 % 8 = _
  omega
theorem iblk2 (c : Dev nD) (t : Fin cfg0.N) : iblk m c 2 t = (ins m c (t.val / 8)).q := by
  funext x
  obtain ⟨a, r, k, rfl⟩ : ∃ a r k, x = ix3 a r k := ⟨x 0, x 1, x 2, eq_ix3 x⟩
  obtain rfl : a = 0 := Subsingleton.elim _ _
  show iblk m c 2 t (ix3 0 r k) = (V m c main_v2 : Vec F S8x4096x512 .bf16) (ix3 (bat (t.val / 8)) r (lane (t.val / 8) k))
  blk_ext [iblk, idx t, bat_val, lane]
theorem iblk3 (c : Dev nD) (t : Fin cfg0.N) : iblk m c 3 t = (ins m c (t.val / 8)).k := by
  funext x
  obtain ⟨a, r, k, rfl⟩ : ∃ a r k, x = ix3 a r k := ⟨x 0, x 1, x 2, eq_ix3 x⟩
  obtain rfl : a = 0 := Subsingleton.elim _ _
  show iblk m c 3 t (ix3 0 r k) = (V m c main_v3 : Vec F S8x4096x512 .bf16) (ix3 (bat (t.val / 8)) r (lane (t.val / 8) k))
  blk_ext [iblk, idx t, bat_val, lane]
theorem iblk4 (c : Dev nD) (t : Fin cfg0.N) : iblk m c 4 t = (ins m c (t.val / 8)).v := by
  funext x
  obtain ⟨a, r, k, rfl⟩ : ∃ a r k, x = ix3 a r k := ⟨x 0, x 1, x 2, eq_ix3 x⟩
  obtain rfl : a = 0 := Subsingleton.elim _ _
  show iblk m c 4 t (ix3 0 r k) = (V m c main_v4 : Vec F S8x4096x512 .bf16) (ix3 (bat (t.val / 8)) r (lane (t.val / 8) k))
  blk_ext [iblk, idx t, bat_val, lane]

/-! ## The pipeline's proof data -/

/-- The scratch buffers before point `k`: inside a head pair, the next tile's queries and scores are there. -/
def carry (c : Dev nD) (k : ℕ) : sProp 𝕄G :=
  iprop((∃ st : St F, ⌜k % 8 ≠ 0 → st.qs = (can (ins m c (k / 8)) (k % 8)).qs ∧ st.s = (can (ins m c (k / 8)) (k % 8)).s⌝
    ∗ owns (c : Thread nD τ) (Memref.whole cc0_scratch0) fullShare st.qs ∗ owns (c : Thread nD τ) (Memref.whole cc0_scratch1) fullShare st.m
    ∗ owns (c : Thread nD τ) (Memref.whole cc0_scratch2) fullShare st.acc ∗ owns (c : Thread nD τ) (Memref.whole cc0_scratch3) fullShare st.s
    ∗ owns (c : Thread nD τ) (Memref.whole cc0_scratch4) fullShare st.p) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileF (ins m c (t.val / 8)) (t.val % 8)
  Φ t := carry m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileF (ins m c (t.val / 8)) (t.val % 8) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is called with at a point, -/
def bodyPre (c : Dev nD) (t : Fin cfg0.N) : sProp 𝕄G :=
  iprop(carry m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄G :=
  iprop(carry m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, iblk0, iblk1, iblk2, iblk3, iblk4]
  have hi : (grid0.coords t 2).val = t.val % 8 := (idx t).2.2.2.2.2.2
  unfold carry
  iintro ⟨⟨⟨%st, %hst, HS0, HS1, HS2, HS3, HS4⟩, Hg⟩, Ho, ⟨%d0, H0⟩, ⟨%d1, H1⟩, ⟨%d2, H2⟩, ⟨%d3, H3⟩, ⟨%d4, H4⟩, ⟨%d5, H5⟩⟩
  have hw := body_wp Variants.none c none Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (grid0.coords t) (ins m c (t.val / 8)) { st with out := (dats m 0 c).before 5 t d5 }
  have hq : ({ st with out := (dats m 0 c).before 5 t d5 } : St F).qs = st.qs := rfl
  iapply wp_wand_r
  isplitl [HS0 HS1 HS2 HS3 HS4 H0 H1 H2 H3 H4 H5]
  · iapply hw
    unfold inv
    dsimp only
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro %u
  unfold inv
  rw [hi]
  rw [body_out (t.val % 8) (ins m c (t.val / 8)) { st with out := (dats m 0 c).before 5 t d5 } hst]
  iintro ⟨H0, H1, H2, H3, H4, H5, HS0, HS1, HS2, HS3, HS4⟩
  isplitl [HS0 HS1 HS2 HS3 HS4 Hg]
  · isplitl [HS0 HS1 HS2 HS3 HS4]
    · iexists (bodyF (t.val % 8) (ins m c (t.val / 8)) { st with out := (dats m 0 c).before 5 t d5 })
      isplitr
      · ipureintro
        intro h
        rw [show (t.val + 1) / 8 = t.val / 8 by omega, show (t.val + 1) % 8 = t.val % 8 + 1 by omega]
        exact body_next (t.val % 8) (by omega) _ _
      isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The carried invariant holds before the first point, whatever the scratch buffers hold, -/
theorem carry_in (c : Dev nD) : Pipeline.ΦA spec0 c ⊢ (carry m c 0 : sProp 𝕄G) := by
  unfold Pipeline.ΦA carry
  rw [scopedRest0_eq]
  iintro ⟨⟨⟨%f0, H0⟩, ⟨%f1, H1⟩, ⟨%f2, H2⟩, ⟨%f3, H3⟩, ⟨%f4, H4⟩⟩, Hg⟩
  isplitl [H0 H1 H2 H3 H4]
  · iexists (⟨f0, f1, f2, f3, f4, (base : St F).out⟩ : St F)
    isplitr
    · ipureintro; intro h; exact absurd rfl h
    simp only [owns_whole]
    isplitl [H0]; · iexact H0
    isplitl [H1]; · iexact H1
    isplitl [H2]; · iexact H2
    isplitl [H3]; · iexact H3
    iexact H4
  iexact Hg

/-- and gives the buffers back after the last. -/
theorem carry_out (c : Dev nD) (k : ℕ) : (carry m c k : sProp 𝕄G) ⊢ Pipeline.ΦA spec0 c := by
  unfold Pipeline.ΦA carry
  rw [scopedRest0_eq]
  simp only [owns_whole]
  iintro ⟨⟨%st, -, H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => carry_in m c) (hout := fun c => carry_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Proof.Attn
end
-- ==== Proof.AttnSpec.lean ====
/- One row of the attention over the extended reals: the running maximum, the weighted sums scaled by it, and how they absorb one
   block of keys. A scaled sum is kept as the real sum of exponentials times a factor that the final quotient cancels. -/
module

public import Idealize.ShloMosaic.Lib.Pointwise
public import Mathlib.Analysis.SpecialFunctions.Exp
public import Mathlib.Data.EReal.Inv

@[expose] public section
noncomputable section
open Idealize.ShloMosaic
namespace Cert.Proof.AttnSpec

/-- What the scratch buffers hold for one query of one half head. -/
@[ext] structure Row where
  m : Fin 128 → EReal
  acc : Fin 256 → EReal
  s : Fin 512 → EReal
  p : Fin 512 → EReal

/-- The new running maximum. -/
def top (f : Fin 512 → EReal) (μ : EReal) : EReal := max μ (Finset.univ.fold max ⊥ f)

/-- The lane of a column, in groups of 128. -/
def lane (e : ℕ) : Fin 128 := ⟨e % 128, Nat.mod_lt _ (by decide)⟩

/-- Scores with those of hidden keys at minus infinity. -/
def hide (ok : ℕ → Bool) (f : Fin 512 → EReal) : Fin 512 → EReal := fun x => if ok x then f x else ⊥

/-- The row after its exponentials are taken and its sums rescaled. -/
def Row.soft (ok : ℕ → Bool) (r : Row) : Row where
  m l := top (hide ok r.s) (r.m l)
  acc e := Ideal.exp (r.m (lane e) - top (hide ok r.s) (r.m (lane e))) * r.acc e
  s := r.s
  p x := Ideal.exp (hide ok r.s x - top (hide ok r.s) (r.m (lane x)))

/-- The row after one block of keys with values `v`; the next block's scores `s` come in. -/
def Row.next (ok : ℕ → Bool) (v : Fin 512 → Fin 256 → EReal) (s : Fin 512 → EReal) (r : Row) : Row :=
  { r.soft ok with
    acc := fun e => (r.soft ok).acc e + ∑ x, (r.soft ok).p x * v x e
    s := s }

theorem coe_sum {ι : Type} (A : Finset ι) (f : ι → ℝ) : ((∑ i ∈ A, f i : ℝ) : EReal) = ∑ i ∈ A, (f i : EReal) := by
  classical
  induction A using Finset.induction_on with
  | empty => simp
  | insert a A h ih => rw [Finset.sum_insert h, Finset.sum_insert h, EReal.coe_add, ih]

/-- The maximum of reals and minus infinities, one of them real, is real. -/
theorem top_real {f : Fin 512 → EReal} {μ : EReal} (h : ∀ x, f x ≠ ⊤) (x0 : Fin 512) (h0 : f x0 ≠ ⊥) (hμ : μ ≠ ⊤) : ∃ M : ℝ, top f μ = M := by
  have e : top f μ = μ ⊔ Finset.univ.sup f := rfl
  have h1 : Finset.univ.sup f < ⊤ := (Finset.sup_lt_iff bot_lt_top).2 fun x _ => (h x).lt_top
  have h2 : top f μ ≠ ⊤ := by rw [e]; exact (max_lt hμ.lt_top h1).ne
  have h3 : top f μ ≠ ⊥ := by
    rw [e]
    exact (lt_of_lt_of_le (bot_lt_iff_ne_bot.2 h0) (le_trans (Finset.le_sup (f := f) (Finset.mem_univ x0)) le_sup_right)).ne'
  exact ⟨(top f μ).toReal, (EReal.coe_toReal h2 h3).symm⟩

/-- `a` is the sum `σ` scaled by the running maximum `μ`; before the first block there is no maximum and the sum is empty. -/
def Scaled (μ a : EReal) (σ : ℝ) : Prop := (μ = ⊥ ∧ a = 0 ∧ σ = 0) ∨ ∃ M : ℝ, μ = M ∧ a = ((Real.exp (-M) * σ : ℝ) : EReal)

theorem exp_real (r : ℝ) : Ideal.exp (r : EReal) = (Real.exp r : EReal) := rfl
theorem exp_bot : Ideal.exp (⊥ : EReal) = 0 := rfl

/-- One exponential, of a kept or a hidden score. -/
theorem exp_hide (b : Bool) (s M : ℝ) : Ideal.exp ((if b then (s : EReal) else ⊥) - (M : EReal)) = ((Real.exp (-M) * if b then Real.exp s else 0 : ℝ) : EReal) := by
  cases b
  · simp only [Bool.false_eq_true, if_false, mul_zero, EReal.coe_zero]
    rw [EReal.bot_sub, exp_bot]
  · simp only [if_true]
    rw [← EReal.coe_sub, exp_real, ← Real.exp_add]
    congr 2; ring

/-- A scaled sum absorbs one block of keys. -/
theorem Scaled.next {μ a : EReal} {σ : ℝ} (h : Scaled μ a σ) (ok : ℕ → Bool) (s v : Fin 512 → ℝ) (M' : ℝ) :
    Scaled M' (Ideal.exp (μ - M') * a + ∑ x : Fin 512, Ideal.exp ((if ok x then (s x : EReal) else ⊥) - (M' : EReal)) * (v x : EReal))
      (σ + ∑ x : Fin 512, if ok x then Real.exp (s x) * v x else 0) := by
  refine .inr ⟨M', rfl, ?_⟩
  have e1 : ∑ x : Fin 512, Ideal.exp ((if ok x then (s x : EReal) else ⊥) - (M' : EReal)) * (v x : EReal)
      = ((Real.exp (-M') * ∑ x : Fin 512, (if ok x then Real.exp (s x) * v x else 0) : ℝ) : EReal) := by
    rw [Finset.mul_sum, coe_sum]
    refine Finset.sum_congr rfl fun x _ => ?_
    rw [exp_hide, ← EReal.coe_mul]
    congr 1
    by_cases hx : ok x <;> simp [hx, mul_assoc]
  have e2 : Ideal.exp (μ - M') * a = ((Real.exp (-M') * σ : ℝ) : EReal) := by
    rcases h with ⟨rfl, rfl, rfl⟩ | ⟨M, rfl, rfl⟩
    · simp
    · rw [← EReal.coe_sub, exp_real, ← EReal.coe_mul, ← mul_assoc, ← Real.exp_add]
      congr 3; ring
  rw [e1, e2, ← EReal.coe_add, mul_add]

theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The scale cancels in the quotient of two sums. -/
theorem Scaled.quot {a b : EReal} {σ τ : ℝ} {M : ℝ} (ha : Scaled M a σ) (hb : Scaled M b τ) (hτ : τ ≠ 0) :
    Ideal.div a b = ((σ / τ : ℝ) : EReal) := by
  have key : ∀ {a : EReal} {σ : ℝ}, Scaled M a σ → a = ((Real.exp (-M) * σ : ℝ) : EReal) := by
    rintro a σ (⟨h, -, -⟩ | ⟨M', h, h'⟩)
    · exact absurd h (EReal.coe_ne_bot M)
    · rw [h', EReal.coe_eq_coe_iff.1 h]
  rw [key ha, key hb, div_real _ _ (mul_ne_zero (Real.exp_pos _).ne' hτ), mul_div_mul_left _ _ (Real.exp_pos _).ne']

/-- The row holds, for the keys seen so far, the sums `σ` (one per column) scaled by one running maximum. -/
def Row.Holds (r : Row) (σ : Fin 256 → ℝ) : Prop := ∃ μ : EReal, μ ≠ ⊤ ∧ (∀ l, r.m l = μ) ∧ ∀ e, Scaled μ (r.acc e) (σ e)

/-- The same with a real maximum: some key has been seen. -/
def Row.Seen (r : Row) (σ : Fin 256 → ℝ) : Prop := ∃ M : ℝ, (∀ l, r.m l = M) ∧ ∀ e, Scaled M (r.acc e) (σ e)

theorem Row.Seen.holds {r : Row} {σ : Fin 256 → ℝ} (h : r.Seen σ) : r.Holds σ :=
  let ⟨M, h1, h2⟩ := h
  ⟨M, EReal.coe_ne_top M, h1, h2⟩

/-- One block of keys of which the first is kept. -/
theorem Row.Holds.next {r : Row} {σ : Fin 256 → ℝ} (h : r.Holds σ) (ok : ℕ → Bool) (h0 : ok 0 = true) (s : Fin 512 → ℝ) (hs : ∀ x, r.s x = s x)
    (v : Fin 512 → Fin 256 → ℝ) (s' : Fin 512 → EReal) :
    (r.next ok (fun x e => v x e) s').Seen fun e => σ e + ∑ x : Fin 512, if ok x then Real.exp (s x) * v x e else 0 := by
  obtain ⟨μ, hμ, hm, ha⟩ := h
  have hf : hide ok r.s = fun x : Fin 512 => if ok x then (s x : EReal) else ⊥ := funext fun x => by simp only [hide, hs]
  obtain ⟨M', hM⟩ : ∃ M : ℝ, top (hide ok r.s) μ = M := by
    refine top_real (fun x => ?_) 0 ?_ hμ
    · rw [hf]; dsimp only; split
      · exact EReal.coe_ne_top _
      · exact bot_ne_top
    · rw [hf]; dsimp only
      rw [show ((0 : Fin 512) : ℕ) = 0 from rfl, h0, if_pos rfl]; exact EReal.coe_ne_bot _
  refine ⟨M', fun l => ?_, fun e => ?_⟩
  · show top (hide ok r.s) (r.m l) = M'
    rw [hm, hM]
  · show Scaled M' (Ideal.exp (r.m (lane e) - top (hide ok r.s) (r.m (lane e))) * r.acc e
      + ∑ x : Fin 512, Ideal.exp (hide ok r.s x - top (hide ok r.s) (r.m (lane x))) * (v x e : EReal)) _
    simp only [hm, hM]
    rw [hf]
    exact (ha e).next ok s (fun x => v x e) M'

/-- A block whose keys are all kept adds its whole range to a sum over the keys. -/
theorem sum_all (f : ℕ → ℝ) (n : ℕ) : ∑ k ∈ Finset.range n, f k + ∑ x : Fin 512, (if (fun _ => true : ℕ → Bool) x then f (n + x) else 0) = ∑ k ∈ Finset.range (n + 512), f k := by
  simp only [if_true]
  rw [Finset.sum_range_add, Fin.sum_univ_eq_sum_range (fun x => f (n + x))]

/-- A block of which the keys up to the `r`-th are kept adds those. -/
theorem sum_upto (f : ℕ → ℝ) (n r : ℕ) (hr : r < 512) :
    ∑ k ∈ Finset.range n, f k + ∑ x : Fin 512, (if (fun x : ℕ => decide (x ≤ r)) x then f (n + x) else 0) = ∑ k ∈ Finset.range (n + r + 1), f k := by
  rw [Fin.sum_univ_eq_sum_range (fun x => if decide (x ≤ r) then f (n + x) else 0), add_assoc n, Finset.sum_range_add]
  congr 1
  rw [show 512 = (r + 1) + (511 - r) by omega, Finset.sum_range_add]
  rw [Finset.sum_eq_zero (s := Finset.range (511 - r)) fun x _ => by rw [if_neg]; simp; omega, add_zero]
  refine Finset.sum_congr rfl fun x hx => ?_
  rw [if_pos]
  have := Finset.mem_range.1 hx
  simp; omega

/-- The softmax-weighted mean of values `v` under scores `s`, over the keys up to the `T`-th. -/
def mean (T : ℕ) (s v : ℕ → ℝ) : ℝ := (∑ k ∈ Finset.range (T + 1), Real.exp (s k) * v k) / ∑ k ∈ Finset.range (T + 1), Real.exp (s k)

theorem mass_pos (T : ℕ) (s : ℕ → ℝ) : 0 < ∑ k ∈ Finset.range (T + 1), Real.exp (s k) :=
  Finset.sum_pos (fun _ _ => Real.exp_pos _) ⟨0, Finset.mem_range.2 (Nat.succ_pos _)⟩

/-- The head norm with gains. -/
def subln (o g : Fin 128 → EReal) (e : Fin 128) : EReal :=
  o e * Ideal.rsqrt (Ideal.div (∑ x, o x * o x) (Ideal.ofBits .f32 0x43000000#32) + Ideal.ofBits .f32 0x3727C5AC#32) * g e * Ideal.ofBits .f32 0x3F4CCCCD#32

/-- The weight of the second half head. -/
def lam (a b c d : Fin 64 → EReal) : EReal :=
  Ideal.exp (∑ x, a x * b x) - Ideal.exp (∑ x, c x * d x) + Ideal.ofBits .f32 0x3E4CCCCD#32

end Cert.Proof.AttnSpec
-- ==== Proof.AttnRow.lean ====
/- The attention's scratch buffers row by row, over the extended reals: each step of the program acts on every row of its block as
   the one-row mathematics of AttnSpec. -/
module

public import proofs.«01_k».proof.Proof.AttnState
public import proofs.«01_k».proof.Proof.AttnSpec
public import Idealize.ShloMosaic.Lib.Pipeline.ValueKit

@[expose] public section
set_option maxRecDepth 16384
noncomputable section
namespace Cert.Proof.Attn
open Idealize.ShloMosaic Idealize.ShloMosaic.TcCoe
open Cert.KernelIdeal Cert.KernelIdeal.Gen Cert.Proof.AttnSpec

/-! ## The payloads at an element -/

theorem neg_inf : Ideal.ofBits .f32 4286578688#32 = (⊥ : EReal) := by
  simp [Ideal.ofBits, Ideal.ieee]

theorem pay9_at (s : Vec Ideal S32x512 .f32) (m : Vec Ideal S32x128 .f32) (r : Fin 32) (l : Fin 128) :
    k0_pay9 s m (ix2 r l) = top (fun x => s (ix2 r x)) (m (ix2 r l)) := by
  pointwise [k0_pay9]
  rw [neg_inf]; rfl

theorem pay12_at (s : Vec Ideal S32x512 .f32) (m : Vec Ideal S32x128 .f32) (r : Fin 32) (l : Fin 128) :
    k0_pay12 s m (ix2 r l) = top (fun x => s (ix2 r x)) (m (ix2 r l)) := by
  rw [← pay9_at]
  pointwise [k0_pay12]

theorem pay10_at (s : Vec Ideal S32x512 .f32) (m : Vec Ideal S32x128 .f32) (r : Fin 32) (x : Fin 512) :
    k0_pay10 s m (ix2 r x) = Ideal.exp (s (ix2 r x) - top (fun x => s (ix2 r x)) (m (ix2 r (lane x)))) := by
  rw [← pay9_at]
  pointwise [k0_pay10]
  congr 2
  have hx := x.isLt
  split
  · congr 2; exact Fin.ext (show x.val = x.val % 128 by omega)
  split
  · congr 2; exact Fin.ext (show x.val - 128 = x.val % 128 by omega)
  split
  · congr 2; exact Fin.ext (show x.val - 128 - 128 = x.val % 128 by omega)
  · congr 2; exact Fin.ext (show x.val - 128 - 128 - 128 = x.val % 128 by omega)

theorem pay11_at (s : Vec Ideal S32x512 .f32) (m : Vec Ideal S32x128 .f32) (a : Vec Ideal S32x256 .f32) (r : Fin 32) (e : Fin 256) :
    k0_pay11 s m a (ix2 r e) = Ideal.exp (m (ix2 r (lane e)) - top (fun x => s (ix2 r x)) (m (ix2 r (lane e)))) * a (ix2 r e) := by
  rw [← pay9_at]
  pointwise [k0_pay11]
  congr 1
  have hx := e.isLt
  split
  · rw [show (⟨e.val, by omega⟩ : Fin 128) = lane e from Fin.ext (show e.val = e.val % 128 by omega)]
  · rw [show (⟨e.val - 128, by omega⟩ : Fin 128) = lane e from Fin.ext (show e.val - 128 = e.val % 128 by omega)]

theorem pay6_at (q : Vec Ideal S512x128 .bf16) (k : Vec Ideal S1x512x128 .bf16) (r : Fin 512) (x : Fin 512) :
    k0_pay6 q k (ix2 r x) = ∑ d, q (ix2 r d) * k (ix3 0 x d) := by
  pointwise [k0_pay6]

theorem pay8_at (v : Vec Ideal S1x512x128 .bf16) (r : Fin 512) (e : Fin 256) :
    k0_pay8 v (ix2 r e) = if h : e.val < 128 then v (ix3 0 r ⟨e.val, h⟩) else (1 : EReal) := by
  pointwise [k0_pay8]

theorem pay319_eq (v : Vec Ideal S1x512x128 .bf16) : k0_pay319 v = k0_pay8 v := rfl

theorem pay84_at (v : FVec Ideal S512x256 .bf16) (a : Vec Ideal S512x256 .f32) (p : Vec Ideal S512x512 .bf16) (r : Fin 512) (e : Fin 256) :
    k0_pay84 v a p (ix2 r e) = a (ix2 r e) + ∑ x, p (ix2 r x) * v (ix2 x e) := by
  pointwise [k0_pay84]

theorem pay314_at (y : Fin 1024) (l : Fin 128) : (k0_pay314 : FVec Ideal S1024x128 .f32) (ix2 y l) = (⊥ : EReal) := by
  pointwise [k0_pay314, Named.named, κ]
  rfl

theorem pay315_at (y : Fin 1024) (e : Fin 256) : (k0_pay315 : FVec Ideal S1024x256 .f32) (ix2 y e) = (0 : EReal) := by
  pointwise [k0_pay315]

theorem pay320_at (q : Vec Ideal S1x512x128 .bf16) (r : Fin 512) (d : Fin 128) : k0_pay320 q (ix2 r d) = q (ix3 0 r d) := by
  pointwise [k0_pay320]

/-- A choice by a column's side of the middle. -/
theorem select_slt (a b : EReal) {d : ℕ} (h : d < 128) : Scalar.select (IntOp.cmpi .slt (BitVec.ofNat 32 d) 64#32) a b = if d < 64 then a else b := by
  rw [show (64#32 : BitVec 32) = BitVec.ofNat 32 64 from rfl, WordCmp.cmpi_slt_ofNat (by omega) (by omega)]
  by_cases h' : d < 64 <;> simp [h', Scalar.select]

theorem pay322_at (q : FVec Ideal S512x128 .bf16) (r : Fin 512) (d : Fin 128) : k0_pay322 q (ix2 r d) = if d.val < 64 then q (ix2 r d) else (0 : EReal) := by
  pointwise [k0_pay322, k0_pay321]
  exact select_slt _ _ d.isLt

theorem pay323_at (q : FVec Ideal S512x128 .bf16) (r : Fin 512) (d : Fin 128) : k0_pay323 q (ix2 r d) = if d.val < 64 then (0 : EReal) else q (ix2 r d) := by
  pointwise [k0_pay323, k0_pay321]
  exact select_slt _ _ d.isLt

/-! ## Rows -/

theorem put_at {α : Type} {R C H : ℕ} (o : ℕ) (h : o + H ≤ R) (w : (⟨2, ![H, C]⟩ : Shape).Idx → α) (X : (⟨2, ![R, C]⟩ : Shape).Idx → α) (y : Fin R) (c : Fin C) :
    put o h w X (ix2 y c) = if h' : o ≤ y.val ∧ y.val < o + H then w (ix2 ⟨y.val - o, by omega⟩ c) else X (ix2 y c) := by
  unfold put
  by_cases h' : o ≤ y.val ∧ y.val < o + H
  · rw [dif_pos h', dif_pos (show o ≤ ((ix2 y c) (0 : Fin 2)).val ∧ ((ix2 y c) (0 : Fin 2)).val < o + H from h')]
    congr 1
    funext a
    fin_cases a <;> exact Fin.ext rfl
  · rw [dif_neg h', dif_neg (show ¬ (o ≤ ((ix2 y c) (0 : Fin 2)).val ∧ ((ix2 y c) (0 : Fin 2)).val < o + H) from h')]

theorem cut_at {α : Type} {R C H : ℕ} (o : ℕ) (h : o + H ≤ R) (X : (⟨2, ![R, C]⟩ : Shape).Idx → α) (r : Fin H) (c : Fin C) :
    cut o h X (ix2 r c) = X (ix2 ⟨o + r.val, by omega⟩ c) := by
  unfold cut
  refine congrArg X (funext fun a => Fin.ext ?_)
  fin_cases a
  · show o + 1 * r.val = o + r.val; omega
  · show 0 + 1 * c.val = c.val; omega

/-- Row `y` of a row array cut at `o`, where the block holds it. -/
theorem cut_row {α : Type} {R C H : ℕ} (o : ℕ) (h : o + H ≤ R) (X : (⟨2, ![R, C]⟩ : Shape).Idx → α) (y : Fin R) (h' : o ≤ y.val ∧ y.val < o + H) (c : Fin C) :
    cut o h X (ix2 ⟨y.val - o, by omega⟩ c) = X (ix2 y c) := by
  rw [cut_at]
  congr 2
  exact Fin.ext (show o + (y.val - o) = y.val by omega)

/-- Row `y` of the scratch buffers. -/
def row (st : St Ideal) (y : Fin 1024) : Row := ⟨fun l => st.m (ix2 y l), fun e => st.acc (ix2 y e), fun x => st.s (ix2 y x), fun x => st.p (ix2 y x)⟩

/-- A mask of the scores, by its condition on row and column. -/
def Masks (msk : ℕ → Vec Ideal S32x512 .f32 → Vec Ideal S32x512 .f32) (ok : ℕ → ℕ → Bool) : Prop :=
  ∀ (o : ℕ) (S : Vec Ideal S32x512 .f32) (r : Fin 32) (x : Fin 512), 32 ∣ o → o + 32 ≤ 1024 →
    msk o S (ix2 r x) = if ok (o + r.val) x then S (ix2 r x) else (⊥ : EReal)

theorem masks_none : Masks (fun _ s => s) (fun _ _ => true) := fun o S r x _ _ => by rw [if_pos rfl]

theorem masks_causal : Masks causal (fun y x => decide (x ≤ y % 512)) := fun o S r x hd ho => by
  have hx := x.isLt; have hr := r.isLt
  pointwise [causal, Named.named, κ]
  rw [show IntOp.addi (BitVec.ofNat 32 r.val) (BitVec.ofNat 32 (o % 512)) = BitVec.ofNat 32 (r.val + o % 512) from BitVec.ofNat_add_ofNat _ _,
    WordCmp.cmpi_sle_ofNat (by omega) (by omega)]
  have e : (o + r.val) % 512 = r.val + o % 512 := by omega
  by_cases h' : x.val ≤ r.val + o % 512 <;> simp [h', e, Scalar.select]

variable {msk : ℕ → Vec Ideal S32x512 .f32 → Vec Ideal S32x512 .f32} {ok : ℕ → ℕ → Bool} (hm : Masks msk ok)
include hm

theorem row_rowBlock (o : ℕ) (h : o + 32 ≤ 1024) (hd : 32 ∣ o) (st : St Ideal) (y : Fin 1024) :
    row (rowBlockF msk o h st) y = if o ≤ y.val ∧ y.val < o + 32 then (row st y).soft (ok y) else row st y := by
  by_cases h' : o ≤ y.val ∧ y.val < o + 32
  · rw [if_pos h']
    have hs : ∀ x, msk o (cut o h st.s) (ix2 ⟨y.val - o, by omega⟩ x) = hide (ok y) (row st y).s x := fun x => by
      rw [hm o _ _ x hd h, cut_row o h st.s y h' x, show o + (y.val - o) = y.val by omega]; rfl
    have hf : (fun x => msk o (cut o h st.s) (ix2 ⟨y.val - o, by omega⟩ x)) = hide (ok y) (row st y).s := funext hs
    refine Row.ext (funext fun l => ?_) (funext fun e => ?_) rfl (funext fun x => ?_)
    · show put o h _ st.m (ix2 y l) = _
      rw [put_at, dif_pos h', pay12_at, hf, cut_row o h st.m y h' l]; rfl
    · show put o h _ st.acc (ix2 y e) = _
      rw [put_at, dif_pos h', pay11_at, hf, cut_row o h st.m y h' (lane e), cut_row o h st.acc y h' e]; rfl
    · show put o h _ st.p (ix2 y x) = _
      rw [put_at, dif_pos h', pay10_at, hf, hs, cut_row o h st.m y h' (lane x)]; rfl
  · rw [if_neg h']
    refine Row.ext (funext fun l => ?_) (funext fun e => ?_) rfl (funext fun x => ?_)
    · show put o h _ st.m (ix2 y l) = _
      rw [put_at, dif_neg h']; rfl
    · show put o h _ st.acc (ix2 y e) = _
      rw [put_at, dif_neg h']; rfl
    · show put o h _ st.p (ix2 y x) = _
      rw [put_at, dif_neg h']; rfl

theorem row_rowBlocks : (n o : ℕ) → (h : o + 32 * n ≤ 1024) → (hd : 32 ∣ o) → (st : St Ideal) → (y : Fin 1024) →
    row (rowBlocksF msk n o h st) y = if o ≤ y.val ∧ y.val < o + 32 * n then (row st y).soft (ok y) else row st y
  | 0, o, h, hd, st, y => by rw [if_neg (by omega)]; rfl
  | n + 1, o, h, hd, st, y => by
    show row (rowBlocksF msk n (o + 32) _ (rowBlockF msk o _ st)) y = _
    rw [row_rowBlocks n (o + 32) (by omega) (by omega) _ y, row_rowBlock hm o (by omega) hd st y]
    by_cases h1 : o ≤ y.val ∧ y.val < o + 32
    · rw [if_pos h1, if_neg (by omega), if_pos (by omega)]
    · rw [if_neg h1]
      by_cases h2 : o + 32 ≤ y.val ∧ y.val < o + 32 + 32 * n
      · rw [if_pos h2, if_pos (by omega)]
      · rw [if_neg h2, if_neg (by omega)]

/-- The scores of row `y`'s queries against a block of keys. -/
def scoreRow (qs : Vec Ideal S1024x128 .bf16) (k : Vec Ideal S1x512x128 .bf16) (y : Fin 1024) : Fin 512 → EReal :=
  fun x => ∑ d : Fin 128, (qs (ix2 y d) : EReal) * k (ix3 0 x d)

omit hm in
theorem row_issue (o : ℕ) (h : o + 512 ≤ 1024) (k : Vec Ideal S1x512x128 .bf16) (st : St Ideal) (y : Fin 1024) :
    row (issueF o h k st) y = if o ≤ y.val ∧ y.val < o + 512 then { row st y with s := scoreRow st.qs k y } else row st y := by
  by_cases h' : o ≤ y.val ∧ y.val < o + 512
  · rw [if_pos h']
    refine Row.ext rfl rfl (funext fun x => ?_) rfl
    show put o h _ st.s (ix2 y x) = _
    rw [put_at, dif_pos h', pay6_at]
    simp only [cut_row o h st.qs y h']
    rfl
  · rw [if_neg h']
    refine Row.ext rfl rfl (funext fun x => ?_) rfl
    show put o h _ st.s (ix2 y x) = _
    rw [put_at, dif_neg h']; rfl

omit hm in
theorem row_accumulate (v : FVec Ideal S512x256 .bf16) (o : ℕ) (h : o + 512 ≤ 1024) (st : St Ideal) (y : Fin 1024) :
    row (accumulateF v o h st) y = if o ≤ y.val ∧ y.val < o + 512 then
      { row st y with acc := fun e => (row st y).acc e + ∑ x, (row st y).p x * v (ix2 x e) } else row st y := by
  by_cases h' : o ≤ y.val ∧ y.val < o + 512
  · rw [if_pos h']
    refine Row.ext rfl (funext fun e => ?_) rfl rfl
    show put o h _ st.acc (ix2 y e) = _
    rw [put_at, dif_pos h', pay84_at, cut_row o h st.acc y h' e]
    congr 1
    refine Finset.sum_congr rfl fun x _ => ?_
    rw [cut_row o h st.p y h' x]; rfl
  · rw [if_neg h']
    refine Row.ext rfl (funext fun e => ?_) rfl rfl
    show put o h _ st.acc (ix2 y e) = _
    rw [put_at, dif_neg h']; rfl

theorem row_half (v : FVec Ideal S512x256 .bf16) (k : Vec Ideal S1x512x128 .bf16) (o : ℕ) (h : o + 512 ≤ 1024) (hd : 32 ∣ o) (st : St Ideal) (y : Fin 1024) :
    row (halfF msk v k o h st) y = if o ≤ y.val ∧ y.val < o + 512 then (row st y).next (ok y) (fun x e => v (ix2 x e)) (scoreRow st.qs k y) else row st y := by
  unfold halfF
  rw [row_accumulate, row_issue, row_rowBlocks hm 16 o h hd st y, (rowBlocks_qs msk 16 o _ st).1]
  by_cases h' : o ≤ y.val ∧ y.val < o + 512
  · rw [if_pos h', if_pos h', if_pos h', if_pos h']; rfl
  · rw [if_neg h', if_neg h', if_neg h', if_neg h']

/-- A step over one block of keys, at a row. -/
theorem row_step (v : FVec Ideal S512x256 .bf16) (k : Vec Ideal S1x512x128 .bf16) (st : St Ideal) (y : Fin 1024) :
    row (stepF msk v k st) y = (row st y).next (ok y) (fun x e => v (ix2 x e)) (scoreRow st.qs k y) := by
  unfold stepF
  have hy := y.isLt
  rw [row_half hm _ _ 512 _ (by decide), row_half hm _ _ 0 _ (by decide), (half_qs msk v k 0 _ st).1]
  by_cases h1 : y.val < 512
  · rw [if_neg (by omega), if_pos (by omega)]
  · rw [if_pos (by omega), if_neg (by omega)]

omit hm in
/-- The stacked queries: the first half head's in the upper half of the rows, the second's in the lower. -/
theorem stackQ_at (q : FVec Ideal S512x128 .bf16) (st : St Ideal) (y : Fin 1024) (d : Fin 128) :
    (stackQF q st).qs (ix2 y d) = if (d.val < 64) = (y.val < 512) then q (ix2 ⟨y.val % 512, Nat.mod_lt _ (by decide)⟩ d) else (0 : EReal) := by
  have hy := y.isLt
  show put 512 (by decide) _ (put 0 (by decide) _ _) (ix2 y d) = _
  rw [put_at, put_at]
  by_cases h1 : y.val < 512
  · rw [dif_neg (by omega), dif_pos (by omega), pay322_at]
    by_cases h2 : d.val < 64
    · rw [if_pos h2, if_pos (by simp [h1, h2])]
      congr 2; exact Fin.ext (show y.val - 0 = y.val % 512 by omega)
    · rw [if_neg h2, if_neg (by simp [h1, h2])]
  · rw [dif_pos (by omega), pay323_at]
    by_cases h2 : d.val < 64
    · rw [if_pos h2, if_neg (by simp [h1, h2])]
    · rw [if_neg h2, if_pos (by simp [h1, h2])]
      congr 2; exact Fin.ext (show y.val - 512 = y.val % 512 by omega)

end Cert.Proof.Attn
-- ==== Proof.AttnTile.lean ====
/- One tile of the attention's output, where the operands are finite: the head norm of the difference of two softmax-weighted
   means of the values. -/
module

public import proofs.«01_k».proof.Proof.AttnRow

@[expose] public section
set_option maxRecDepth 16384
noncomputable section
namespace Cert.Proof.Attn
open Idealize.ShloMosaic Idealize.ShloMosaic.TcCoe
open Cert.KernelIdeal Cert.KernelIdeal.Gen Cert.Proof.AttnSpec

/-! ## The last payloads -/

theorem pay509_at (s : Vec Ideal S4x64 .f32) : k0_pay509 s (ix2 0 0) = lam (fun x => s (ix2 0 x)) (fun x => s (ix2 1 x)) (fun x => s (ix2 2 x)) (fun x => s (ix2 3 x)) := by
  pointwise [k0_pay509, lam]

theorem pay510_at (l : FVec Ideal S1x1 .f32) (a b : Vec Ideal S1024x128 .f32) (g : Vec Ideal S1x128 .f32) (r : Fin 512) (e : Fin 128) :
    k0_pay1 (k0_pay510 l a b g) (ix3 0 r e)
      = subln (fun x => Ideal.div (a (ix2 ⟨r.val, by omega⟩ x)) (b (ix2 ⟨r.val, by omega⟩ x))
          - l (ix2 0 0) * Ideal.div (a (ix2 ⟨512 + r.val, by omega⟩ x)) (b (ix2 ⟨512 + r.val, by omega⟩ x))) (fun x => g (ix2 0 x)) e := by
  pointwise [k0_pay510, k0_pay1, subln]

/-- The literal 0.2 is real. -/
theorem fifth_real : ∃ c : ℝ, Ideal.ofBits .f32 0x3E4CCCCD#32 = (c : EReal) := by
  unfold Ideal.ofBits Ideal.ieee
  dsimp only
  rw [if_neg (by decide), if_neg (by decide)]
  exact ⟨_, rfl⟩

theorem lam_real (a b c d : Fin 64 → ℝ) : ∃ L : ℝ, lam (fun x => (a x : EReal)) (fun x => b x) (fun x => c x) (fun x => d x) = (L : EReal) := by
  obtain ⟨f, hf⟩ := fifth_real
  unfold lam
  simp only [← EReal.coe_mul, ← coe_sum, exp_real]
  rw [hf, ← EReal.coe_sub, ← EReal.coe_add]
  exact ⟨_, rfl⟩

/-! ## Finite operands -/

/-- The operands of a grid point are these reals; tokens beyond the sequence wrap around. -/
structure Reals (n : Ins Ideal) (q k v : ℕ → Fin 128 → ℝ) : Prop where
  q : ∀ t d, n.q (ix3 0 ⟨t % 4096, Nat.mod_lt _ (by decide)⟩ d) = ((q t d : ℝ) : EReal)
  k : ∀ t d, n.k (ix3 0 ⟨t % 4096, Nat.mod_lt _ (by decide)⟩ d) = ((k t d : ℝ) : EReal)
  v : ∀ t d, n.v (ix3 0 ⟨t % 4096, Nat.mod_lt _ (by decide)⟩ d) = ((v t d : ℝ) : EReal)

section tile
variable {n : Ins Ideal} {q k v : ℕ → Fin 128 → ℝ} (hn : Reals n q k v) (i : ℕ)

/-- Row `y`'s stacked query. -/
def query (q : ℕ → Fin 128 → ℝ) (i y : ℕ) (d : Fin 128) : ℝ := if (d.val < 64) = (y < 512) then q (512 * i + y % 512) d else 0

/-- Row `y`'s score against a key. -/
def score (q k : ℕ → Fin 128 → ℝ) (i y key : ℕ) : ℝ := ∑ d, query q i y d * k key d

/-- A key's value by accumulator column: beyond the values a one, for the mass. -/
def value (v : ℕ → Fin 128 → ℝ) (key : ℕ) (e : Fin 256) : ℝ := if h : e.val < 128 then v key ⟨e.val, h⟩ else 1

include hn

theorem stack_real (st : St Ideal) (y : Fin 1024) (d : Fin 128) : (stackQF (k0_pay320 (blkAt n.q i)) st).qs (ix2 y d) = ((query q i y d : ℝ) : EReal) := by
  rw [stackQ_at]
  unfold query
  by_cases h : (d.val < 64) = (y.val < 512)
  · rw [if_pos h, if_pos h, pay320_at]
    exact hn.q (512 * i + y.val % 512) d
  · rw [if_neg h, if_neg h]; rfl

theorem score_real (qs : Vec Ideal S1024x128 .bf16) (hq : ∀ (y : Fin 1024) (d : Fin 128), qs (ix2 y d) = ((query q i y d : ℝ) : EReal)) (j : ℕ) (y : Fin 1024) (x : Fin 512) :
    scoreRow qs (blkAt n.k j) y x = ((score q k i y (512 * j + x) : ℝ) : EReal) := by
  unfold scoreRow score
  rw [coe_sum]
  refine Finset.sum_congr rfl fun d _ => ?_
  rw [hq, EReal.coe_mul]
  exact congrArg _ (hn.k (512 * j + x) d)

theorem value_real (j : ℕ) (x : Fin 512) (e : Fin 256) : k0_pay8 (blkAt n.v j) (ix2 x e) = ((value v (512 * j + x) e : ℝ) : EReal) := by
  rw [pay8_at]
  unfold value
  by_cases h : e.val < 128
  · rw [dif_pos h, dif_pos h]; exact hn.v (512 * j + x) _
  · rw [dif_neg h, dif_neg h]; rfl

/-- Tile `i`'s state after `j` blocks of keys: sums over their keys, and the next block's scores. -/
def Through (q k v : ℕ → Fin 128 → ℝ) (i j : ℕ) (st : St Ideal) : Prop :=
  (∀ y : Fin 1024, (row st y).Holds (fun e => ∑ key ∈ Finset.range (512 * j), Real.exp (score q k i y key) * value v key e)
      ∧ ∀ x : Fin 512, (row st y).s x = ((score q k i y (512 * j + x) : ℝ) : EReal))
    ∧ ∀ (y : Fin 1024) (d : Fin 128), st.qs (ix2 y d) = ((query q i y d : ℝ) : EReal)

omit hn in
theorem start_holds (st : St Ideal) (y : Fin 1024) (hm : ∀ l, (row st y).m l = ⊥) (ha : ∀ e, (row st y).acc e = 0) (σ : Fin 256 → ℝ) (hσ : ∀ e, σ e = 0) : (row st y).Holds σ :=
  ⟨⊥, bot_ne_top, hm, fun e => .inl ⟨rfl, ha e, hσ e⟩⟩

omit hn in
theorem none_seen (f : ℕ → ℝ) : ∑ key ∈ Finset.range (512 * 0), f key = 0 := by rw [Nat.mul_zero, Finset.range_zero, Finset.sum_empty]

/-- Queries stacked and scored against the first block of keys. -/
theorem issue_through (st : St Ideal) :
    (∀ (y : Fin 1024) (x : Fin 512), (row (issueF 512 (by decide) (blkAt n.k 0) (issueF 0 (by decide) (blkAt n.k 0) (stackQF (k0_pay320 (blkAt n.q i)) st))) y).s x
      = ((score q k i y (512 * 0 + x) : ℝ) : EReal)) := by
  intro y x
  have hy := y.isLt
  rw [row_issue, row_issue]
  by_cases h : y.val < 512
  · rw [if_neg (by omega), if_pos (by omega)]
    exact score_real hn i _ (stack_real hn i _) 0 y x
  · rw [if_pos (by omega)]
    exact score_real hn i _ (stack_real hn i _) 0 y x

/-- The tile starts with no keys seen. -/
theorem begin_through : Through q k v i 0 (if i = 0 then firstF n (startF (can n i)) else startF (can n i)) := by
  by_cases hi : i = 0
  · subst hi
    rw [if_pos rfl]
    exact ⟨fun y => ⟨start_holds (firstF n (startF (can n 0))) y (fun l => pay314_at y l) (fun e => pay315_at y e) _ (fun e => none_seen _), issue_through hn 0 (startF (can n 0)) y⟩, stack_real hn 0 (startF (can n 0))⟩
  · rw [if_neg hi]
    exact ⟨fun y => ⟨start_holds (startF (can n i)) y (fun l => pay314_at y l) (fun e => pay315_at y e) _ (fun e => none_seen _), issue_through hn i base y⟩, stack_real hn i base⟩

/-- Every unmasked block adds its keys. -/
theorem trips_through (st : St Ideal) (h : Through q k v i 0 st) : (j : ℕ) → Through q k v i j (tripsF n j st)
  | 0 => h
  | j + 1 => by
    obtain ⟨hr, hq⟩ := trips_through st h j
    have hqs : (tripsF n (j + 1) st).qs = (tripsF n j st).qs := (step_qs _ _ _ _).1
    refine ⟨fun y => ?_, fun y d => by rw [hqs]; exact hq y d⟩
    have e : row (tripsF n (j + 1) st) y = _ := row_step masks_none (k0_pay8 (blkAt n.v j)) (blkAt n.k (j + 1)) (tripsF n j st) y
    rw [e]
    refine ⟨?_, fun x => score_real hn i _ hq (j + 1) y x⟩
    have hv : (fun (x : Fin 512) (e : Fin 256) => k0_pay8 (blkAt n.v j) (ix2 x e)) = fun (x : Fin 512) (e : Fin 256) => (((value v (512 * j + x.val) e : ℝ) : EReal)) :=
      funext fun x => funext fun e => value_real hn j x e
    rw [hv]
    have key := ((hr y).1.next (fun _ => true) rfl (fun x => score q k i y (512 * j + x)) (hr y).2 (fun x e => value v (512 * j + x) e)
      (scoreRow (tripsF n j st).qs (blkAt n.k (j + 1)) y)).holds
    refine (congrArg (Row.Holds _) (funext fun e => ?_)).mp key
    exact sum_all (fun key => Real.exp (score q k i y key) * value v key e) (512 * j)

/-- The state before the tile's output is written: the sums run over the keys up to the row's own token. -/
theorem last_seen (y : Fin 1024) :
    (row (stepF causal (k0_pay319 (blkAt n.v i)) (blkAt n.k 0) (stackQF (k0_pay320 (blkAt n.q (min (i + 1) 7)))
        (tripsF n i (if i = 0 then firstF n (startF (can n i)) else startF (can n i))))) y).Seen
      (fun e => ∑ key ∈ Finset.range (512 * i + y.val % 512 + 1), Real.exp (score q k i y key) * value v key e) := by
  obtain ⟨hr, -⟩ := trips_through hn i _ (begin_through hn i) i
  rw [row_step masks_causal, pay319_eq]
  have hv : (fun (x : Fin 512) (e : Fin 256) => k0_pay8 (blkAt n.v i) (ix2 x e)) = fun (x : Fin 512) (e : Fin 256) => (((value v (512 * i + x.val) e : ℝ) : EReal)) :=
    funext fun x => funext fun e => value_real hn i x e
  rw [hv]
  have key := (hr y).1.next (fun x => decide (x ≤ y.val % 512)) (by simp) (fun x => score q k i y (512 * i + x)) (hr y).2 (fun x e => value v (512 * i + x) e)
  simp only [fun e => sum_upto (fun key => Real.exp (score q k i y key) * value v key e) (512 * i) (y.val % 512) (Nat.mod_lt _ (by decide))] at key
  exact key _

omit hn in
/-- The output tile, of a state that has seen its rows' keys. -/
theorem finish_at (st : St Ideal) (seen : ∀ y : Fin 1024, (row st y).Seen (fun e => ∑ key ∈ Finset.range (512 * i + y.val % 512 + 1), Real.exp (score q k i y key) * value v key e))
    (L : ℝ) (hL : k0_pay509 (fun x => n.lam ((Rect.unit (s := S4x64) ![0, 0] S4x64.size (by decide)).idx x)) (ix2 0 0) = (L : EReal)) (r : Fin 512) (e : Fin 128) :
    (finishF n st).out (ix3 0 r e) = subln (fun x => ((mean (512 * i + r) (score q k i r) (fun key => v key x) - L * mean (512 * i + r) (score q k i (512 + r.val)) (fun key => v key x) : ℝ) : EReal))
      (fun x => n.g (ix2 0 x)) e := by
  have hr := r.isLt
  unfold finishF
  show k0_pay1 (k0_pay510 _ _ _ _) (ix3 0 r e) = _
  rw [pay510_at, hL]
  have quot : ∀ (y : Fin 1024) (x : Fin 128),
      Ideal.div (st.acc ((Rect.unit (s := S1024x256) ![0, 0] S1024x128.size (by decide)).idx (ix2 y x))) (st.acc ((Rect.unit (s := S1024x256) ![0, 128] S1024x128.size (by decide)).idx (ix2 y x)))
        = ((mean (512 * i + y.val % 512) (score q k i y) (fun key => v key x) : ℝ) : EReal) := by
    intro y x
    obtain ⟨M, -, ha⟩ := seen y
    have hx := x.isLt
    have e1 : (Rect.unit (s := S1024x256) ![0, 0] S1024x128.size (by decide)).idx (ix2 y x) = ix2 y (⟨x.val, by omega⟩ : Fin 256) := by
      funext a; refine Fin.ext ?_
      fin_cases a
      · show 0 + 1 * y.val = y.val; omega
      · show 0 + 1 * x.val = x.val; omega
    have e2 : (Rect.unit (s := S1024x256) ![0, 128] S1024x128.size (by decide)).idx (ix2 y x) = ix2 y (⟨128 + x.val, by omega⟩ : Fin 256) := by
      funext a; refine Fin.ext ?_
      fin_cases a
      · show 0 + 1 * y.val = y.val; omega
      · show 128 + 1 * x.val = 128 + x.val; omega
    rw [e1, e2]
    have hb := ha ⟨128 + x.val, by omega⟩
    have v1 : ∀ key, value v key ⟨128 + x.val, by omega⟩ = 1 := fun key => dif_neg (by simp)
    have v0 : ∀ key, value v key ⟨x.val, by omega⟩ = v key x := fun key => dif_pos hx
    simp only [v1, mul_one] at hb
    have hq := (ha ⟨x.val, by omega⟩).quot hb (mass_pos _ _).ne'
    simp only [v0] at hq
    exact hq
  have eg : (fun x : Fin 128 => n.g ((Rect.unit (s := S1x128) ![0, 0] S1x128.size (by decide)).idx (ix2 0 x))) = fun x => n.g (ix2 0 x) := by
    funext x
    refine congrArg n.g (funext fun a => Fin.ext ?_)
    fin_cases a
    · rfl
    · show 0 + 1 * x.val = x.val; omega
  rw [eg]
  congr 1
  funext x
  rw [quot, quot, ← EReal.coe_mul, ← EReal.coe_sub]
  have m1 : r.val % 512 = r.val := Nat.mod_eq_of_lt hr
  have m2 : (512 + r.val) % 512 = r.val := by omega
  show ((mean (512 * i + r.val % 512) (score q k i r.val) _ - L * mean (512 * i + (512 + r.val) % 512) (score q k i (512 + r.val)) _ : ℝ) : EReal) = _
  rw [m1, m2]

/-- The output tile. -/
theorem tile_at (L : ℝ) (hL : k0_pay509 (fun x => n.lam ((Rect.unit (s := S4x64) ![0, 0] S4x64.size (by decide)).idx x)) (ix2 0 0) = (L : EReal)) (r : Fin 512) (e : Fin 128) :
    tileF n i (ix3 0 r e) = subln (fun x => ((mean (512 * i + r) (score q k i r) (fun key => v key x) - L * mean (512 * i + r) (score q k i (512 + r.val)) (fun key => v key x) : ℝ) : EReal))
      (fun x => n.g (ix2 0 x)) e :=
  finish_at i _ (last_seen hn i) L hL r e
end tile

/-- A row's score is its half head's dot product. -/
theorem score_half (q k : ℕ → Fin 128 → ℝ) (i : ℕ) (r : Fin 512) (c : Fin 2) (key : ℕ) :
    score q k i (512 * c.val + r.val) key = ∑ d : Fin 64, q (512 * i + r) ⟨64 * c.val + d.val, by omega⟩ * k key ⟨64 * c.val + d.val, by omega⟩ := by
  have hr := r.isLt
  unfold score query
  rw [show (∑ d : Fin 128, (if (d.val < 64) = (512 * c.val + r.val < 512) then q (512 * i + (512 * c.val + r.val) % 512) d else 0) * k key d)
    = ∑ d : Fin (64 + 64), (if (d.val < 64) = (512 * c.val + r.val < 512) then q (512 * i + (512 * c.val + r.val) % 512) d else 0) * k key d from rfl, Fin.sum_univ_add]
  rw [show (512 * c.val + r.val) % 512 = r.val by omega]
  have hc : c.val = 0 ∨ c.val = 1 := by omega
  rcases hc with hc | hc
  · rw [Finset.sum_congr rfl (g := fun d : Fin 64 => q (512 * i + r) ⟨64 * c.val + d.val, by omega⟩ * k key ⟨64 * c.val + d.val, by omega⟩), Finset.sum_eq_zero (s := Finset.univ) (f := fun d : Fin 64 => _ * k key (Fin.natAdd 64 d)), add_zero]
    · intro d _
      rw [if_neg, zero_mul]
      simp [hc]
    · intro d _
      have hd := d.isLt
      rw [if_pos (by simp [hc])]
      have : (Fin.castAdd 64 d : Fin 128) = ⟨64 * c.val + d.val, by omega⟩ := Fin.ext (by simp [hc])
      rw [this]
  · rw [Finset.sum_eq_zero, zero_add]
    · refine Finset.sum_congr rfl fun d _ => ?_
      have hd := d.isLt
      rw [if_pos (by simp [hc])]
      have : (Fin.natAdd 64 d : Fin 128) = ⟨64 * c.val + d.val, by omega⟩ := Fin.ext (by simp [hc]; omega)
      rw [this]
    · intro d _
      rw [if_neg, zero_mul]
      simp [hc]

end Cert.Proof.Attn
-- ==== Proof.AttnRef.lean ====
/- The attention's reference, stage by stage: its composed term is named in a few stages, and each stage is read at an index. -/
module

public import proofs.«01_k».proof.Proof.Gen.ReferenceIdeal.Run
public import proofs.«01_k».proof.Proof.AttnSpec
public import Idealize.ShloMosaic.Lib.Pipeline.ValueKit
public import Idealize.ShloMosaic.Lib.WordCmp

@[expose] public section
set_option maxRecDepth 16384
noncomputable section
open Idealize.ShloMosaic Idealize.ShloMosaic.TcCoe Idealize.SL.Sem
namespace Cert.Proof.AttnRef
open Cert.ReferenceIdeal Cert.ReferenceIdeal.Gen Cert.Proof.AttnSpec

/-- The weight of the second half head. -/
def lamV (a b c d : FVec Ideal S1x64 .f32) : FVec Ideal S_ .f32 :=
  addf (subf (Host.exp (Host.reduceAdd (mulf (shapeCast S64 a shapeCasts_S1x64_S64) (shapeCast S64 b shapeCasts_S1x64_S64)) (constant S_ .f32 0x00000000#32) reducesTo_S64_S_d0 h_S_))
    (Host.exp (Host.reduceAdd (mulf (shapeCast S64 c shapeCasts_S1x64_S64) (shapeCast S64 d shapeCasts_S1x64_S64)) (constant S_ .f32 0x00000000#32) reducesTo_S64_S_d0 h_S_)))
    (constant S_ .f32 0x3E4CCCCD#32)

/-- The causal scores. -/
def scoresV (q k : FVec Ideal S8x4096x512 .f32) : FVec Ideal S8x4x2x4096x4096 .f32 :=
  select (broadcastInDim S8x4x2x4096x4096 ![3, 4] bcast_S4096x4096_S8x4x2x4096x4096_3_4 (cmpi .sle
      (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0)))))
    (mulf (Host.dotGeneral dot_S8x4096x4x2x64_S8x4096x4x2x64_S8x4x2x4096x4096_4_4_1_1_023_023 none (shapeCast S8x4096x4x2x64 q shapeCasts_S8x4096x512_S8x4096x4x2x64)
      (shapeCast S8x4096x4x2x64 k shapeCasts_S8x4096x512_S8x4096x4x2x64)) (broadcastInDim S8x4x2x4096x4096 ![] bcast_S_S8x4x2x4096x4096 (constant S_ .f32 0x3E000000#32)))
    (broadcastInDim S8x4x2x4096x4096 ![] bcast_S_S8x4x2x4096x4096 (id (constant S_ .f32 0xFF800000#32)))

/-- A row's greatest score. -/
def maxV (s : FVec Ideal S8x4x2x4096x4096 .f32) : FVec Ideal S8x4x2x4096 .f32 :=
  maximumf (broadcastInDim S8x4x2x4096 ![] bcast_S_S8x4x2x4096 (constant S_ .f32 0xFF800000#32))
    (Host.reduce FloatOps.maximumf s (constant S_ .f32 0xFF800000#32) reducesTo_S8x4x2x4096x4096_S8x4x2x4096_d4 h_S_)

/-- A row's statistic for every key. -/
def keysV (x : FVec Ideal S8x4x2x4096 .f32) : FVec Ideal S8x4x2x4096x4096 .f32 :=
  broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 x)

/-- The exponentials against the greatest score. -/
def expV (s : FVec Ideal S8x4x2x4096x4096 .f32) : FVec Ideal S8x4x2x4096x4096 .f32 := Host.exp (subf s (keysV (maxV s)))

/-- The softmax. -/
def probsV (x : FVec Ideal S8x4x2x4096x4096 .f32) : FVec Ideal S8x4x2x4096x4096 .f32 :=
  Host.divf x (keysV (Host.reduceAdd x (constant S_ .f32 0x00000000#32) reducesTo_S8x4x2x4096x4096_S8x4x2x4096_d4 h_S_))

/-- The difference of the half heads' weights. -/
def diffV (p : FVec Ideal S8x4x2x4096x4096 .f32) (l : FVec Ideal S_ .f32) : FVec Ideal S8x4x4096x4096 .f32 :=
  subf (shapeCast S8x4x4096x4096 (extractStridedSlice S8x4x1x4096x4096 ![0, 0, 0, 0, 0] p slices_S8x4x2x4096x4096_S8x4x1x4096x4096_0_0_0_0_0) shapeCasts_S8x4x1x4096x4096_S8x4x4096x4096)
    (mulf (broadcastInDim S8x4x4096x4096 ![] bcast_S_S8x4x4096x4096 l)
      (shapeCast S8x4x4096x4096 (extractStridedSlice S8x4x1x4096x4096 ![0, 0, 1, 0, 0] p slices_S8x4x2x4096x4096_S8x4x1x4096x4096_0_0_1_0_0) shapeCasts_S8x4x1x4096x4096_S8x4x4096x4096))

/-- The weighted values. -/
def headsV (v : FVec Ideal S8x4096x512 .f32) (a : FVec Ideal S8x4x4096x4096 .f32) : FVec Ideal S8x4096x4x128 .f32 :=
  transpose S8x4096x4x128 [0, 3, 1, 2] (Host.dotGeneral dot_S8x4096x4x128_S8x4x4096x4096_S8x4x128x4096_1_3_3_2_02_01 none
    (shapeCast S8x4096x4x128 v shapeCasts_S8x4096x512_S8x4096x4x128) a) transposes_S8x4x128x4096_S8x4096x4x128_0_3_1_2

/-- The head norm. -/
def normV (o : FVec Ideal S8x4096x4x128 .f32) (g : FVec Ideal S1x128 .f32) : FVec Ideal S8x4096x4x128 .f32 :=
  mulf (mulf (mulf o (broadcastInDim S8x4096x4x128 ![0, 1, 2, 3] bcast_S8x4096x4x1_S8x4096x4x128_0_1_2_3 (Host.rsqrt (addf (Host.divf
      (broadcastInDim S8x4096x4x1 ![0, 1, 2] bcast_S8x4096x4_S8x4096x4x1_0_1_2 (Host.reduceAdd (mulf o o) (constant S_ .f32 0x00000000#32) reducesTo_S8x4096x4x128_S8x4096x4_d3 h_S_))
      (broadcastInDim S8x4096x4x1 ![] bcast_S_S8x4096x4x1 (constant S_ .f32 0x43000000#32)))
      (broadcastInDim S8x4096x4x1 ![] bcast_S_S8x4096x4x1 (constant S_ .f32 0x3727C5AC#32))))))
    (broadcastInDim S8x4096x4x128 ![0, 1, 2, 3] bcast_S1x1x1x128_S8x4096x4x128_0_1_2_3 (broadcastInDim S1x1x1x128 ![3] bcast_S128_S1x1x1x128_3 (shapeCast S128 g shapeCasts_S1x128_S128))))
    (broadcastInDim S8x4096x4x128 ![] bcast_S_S8x4096x4x128 (constant S_ .f32 0x3F4CCCCD#32))

/-- The whole reference. -/
def outV (q k v : FVec Ideal S8x4096x512 .f32) (a b c d : FVec Ideal S1x64 .f32) (g : FVec Ideal S1x128 .f32) : FVec Ideal S8x4096x512 .bf16 :=
  truncf .bf16 (shapeCast S8x4096x512 (normV (headsV v (diffV (probsV (expV (scoresV q k))) (lamV a b c d))) g) shapeCasts_S8x4096x4x128_S8x4096x512) bitsLt_bf16_f32

set_option maxHeartbeats 4000000 in
/-- The reference's composed term is the stages put together. -/
theorem res_eq (m : (ℓ : Loc nD τ sig) → Buf (Elt Ideal) ℓ) (c : Dev nD) :
    Value.res_out0 m c = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) := by
  unfold Value.res_out0 Value.res_main_v62
  rfl

theorem lamV_at (a b c d : FVec Ideal S1x64 .f32) (z : S_.Idx) : lamV a b c d z = lam (fun x => a (ix2 0 x)) (fun x => b (ix2 0 x)) (fun x => c (ix2 0 x)) (fun x => d (ix2 0 x)) := by
  pointwise [lamV, lam]

variable (b : Fin 8) (h : Fin 4) (c : Fin 2) (t : Fin 4096)

theorem neg_inf : Ideal.ofBits .f32 4286578688#32 = (⊥ : EReal) := by
  simp [Ideal.ofBits, Ideal.ieee]

theorem scoresV_at (q k : FVec Ideal S8x4096x512 .f32) (x : Fin 4096) : scoresV q k (ix5 b h c t x)
    = if x.val ≤ t.val then (∑ d : Fin 64, q (ix3 b t ⟨h * 128 + c * 64 + d, by omega⟩) * k (ix3 b x ⟨h * 128 + c * 64 + d, by omega⟩)) * Ideal.ofBits .f32 0x3E000000#32 else (⊥ : EReal) := by
  have hx := x.isLt; have ht := t.isLt
  pointwise [scoresV]
  rw [WordCmp.cmpi_sle_ofNat (by omega) (by omega), show id (constant S_ .f32 4286578688#32 : FVec Ideal S_ .f32) ix0 = Ideal.ofBits .f32 4286578688#32 from rfl, neg_inf]
  by_cases h' : x.val ≤ t.val <;> simp [h', Scalar.select]

/-- A maximum reduction over the last of five axes. -/
theorem reduce_max {n0 n1 n2 n3 n4 : ℕ} {T u : Shape} (x : (⟨5, ![n0, n1, n2, n3, n4]⟩ : Shape).Idx → EReal) (init : u.Idx → EReal)
    (hr : (⟨5, ![n0, n1, n2, n3, n4]⟩ : Shape).ReducesTo [4] T) (hu : 0 < u.numel) (j : T.Idx) (M : EReal) (hi : init (Shape.Idx.first hu) = M) (y : Fin n4 → EReal)
    (hy : ∀ k, x (ix5 ⟨(j ⟨0, hr.lt_r5_a4_0⟩).val, Shape.coordLt (j ⟨0, hr.lt_r5_a4_0⟩) hr.size_r5_a4_0⟩ ⟨(j ⟨1, hr.lt_r5_a4_1⟩).val, Shape.coordLt (j ⟨1, hr.lt_r5_a4_1⟩) hr.size_r5_a4_1⟩
      ⟨(j ⟨2, hr.lt_r5_a4_2⟩).val, Shape.coordLt (j ⟨2, hr.lt_r5_a4_2⟩) hr.size_r5_a4_2⟩ ⟨(j ⟨3, hr.lt_r5_a4_3⟩).val, Shape.coordLt (j ⟨3, hr.lt_r5_a4_3⟩) hr.size_r5_a4_3⟩ k) = y k) :
    Host.reduce (FloatOps.maximumf (F := Ideal) (φ := .f32)) x init hr hu j = (Finset.univ : Finset (Fin n4)).fold max M y := by
  rw [Host.reduce_eq_fold, hr.fold_fiber_r5_a4, hi]
  simp only [hy]
  rfl

theorem maxf_apply {S : Shape} (x y : FVec Ideal S .f32) (i : S.Idx) (m M : EReal) (hx : x i = m) (hy : y i = M) : maximumf x y i = max m M := by subst hx hy; rfl

theorem maxV_at (s : FVec Ideal S8x4x2x4096x4096 .f32) : maxV s (ix4 b h c t) = max ⊥ (Finset.univ.fold max (⊥ : EReal) fun x : Fin 4096 => s (ix5 b h c t x)) :=
  maxf_apply _ _ _ _ _ neg_inf (reduce_max s _ reducesTo_S8x4x2x4096x4096_S8x4x2x4096_d4 h_S_ (ix4 b h c t) ⊥ neg_inf (fun x => s (ix5 b h c t x)) (fun k => rfl))

theorem expV_at (s : FVec Ideal S8x4x2x4096x4096 .f32) (x : Fin 4096) : expV s (ix5 b h c t x) = Ideal.exp (s (ix5 b h c t x) - maxV s (ix4 b h c t)) := by
  pointwise [expV, keysV]

theorem probsV_at (s : FVec Ideal S8x4x2x4096x4096 .f32) (x : Fin 4096) : probsV s (ix5 b h c t x) = Ideal.div (s (ix5 b h c t x)) (∑ k : Fin 4096, s (ix5 b h c t k)) := by
  pointwise [probsV, keysV]

theorem diffV_at (p : FVec Ideal S8x4x2x4096x4096 .f32) (l : FVec Ideal S_ .f32) (x : Fin 4096) :
    diffV p l (ix4 b h t x) = p (ix5 b h 0 t x) - l ix0 * p (ix5 b h 1 t x) := by
  pointwise [diffV]

theorem headsV_at (v : FVec Ideal S8x4096x512 .f32) (a : FVec Ideal S8x4x4096x4096 .f32) (e : Fin 128) :
    headsV v a (ix4 b t h e) = ∑ x : Fin 4096, v (ix3 b x ⟨h * 128 + e, by omega⟩) * a (ix4 b h t x) := by
  pointwise [headsV]

theorem normV_at (o : FVec Ideal S8x4096x4x128 .f32) (g : FVec Ideal S1x128 .f32) (e : Fin 128) :
    normV o g (ix4 b t h e) = subln (fun x => o (ix4 b t h x)) (fun x => g (ix2 0 x)) e := by
  pointwise [normV, subln]

end Cert.Proof.AttnRef
-- ==== Proof.AttnRefValue.lean ====
/- The attention's reference where its operands are finite: the head norm of the difference of two softmax-weighted means of
   the values. -/
module

public import proofs.«01_k».proof.Proof.AttnRef

@[expose] public section
set_option maxRecDepth 16384
noncomputable section
open Idealize.ShloMosaic Idealize.ShloMosaic.TcCoe
namespace Cert.Proof.AttnRef
open Cert.ReferenceIdeal Cert.ReferenceIdeal.Gen Cert.Proof.AttnSpec

/-- A maximum of finitely many reals and minus infinities, one of them real, is real. -/
theorem sup_real {n : ℕ} (f : Fin n → EReal) (hf : ∀ x, f x ≠ ⊤) (x0 : Fin n) (h0 : f x0 ≠ ⊥) : ∃ M : ℝ, max ⊥ ((Finset.univ : Finset (Fin n)).fold max (⊥ : EReal) f) = M := by
  have e : max ⊥ ((Finset.univ : Finset (Fin n)).fold max (⊥ : EReal) f) = Finset.univ.sup f := (max_eq_right bot_le).trans rfl
  have h1 : Finset.univ.sup f < ⊤ := (Finset.sup_lt_iff bot_lt_top).2 fun x _ => (hf x).lt_top
  have h2 : ⊥ < Finset.univ.sup f := lt_of_lt_of_le (bot_lt_iff_ne_bot.2 h0) (Finset.le_sup (f := f) (Finset.mem_univ x0))
  rw [e]
  exact ⟨_, (EReal.coe_toReal h1.ne h2.ne').symm⟩

/-- The kept terms of a sum over the whole sequence. -/
theorem sum_kept (n T : ℕ) (hT : T < n) (f : ℕ → ℝ) : ∑ x : Fin n, (if x.val ≤ T then f x else 0) = ∑ k ∈ Finset.range (T + 1), f k := by
  rw [Fin.sum_univ_eq_sum_range (fun x => if x ≤ T then f x else 0) n, ← Finset.sum_filter]
  refine Finset.sum_congr (Finset.ext fun x => ?_) fun _ _ => rfl
  simp only [Finset.mem_filter, Finset.mem_range]
  omega

/-- A causal softmax weight. -/
def prob (T : ℕ) (s : ℕ → ℝ) (x : ℕ) : ℝ := (if x ≤ T then Real.exp (s x) else 0) / ∑ k ∈ Finset.range (T + 1), Real.exp (s k)

theorem sum_prob (n T : ℕ) (hT : T < n) (s v : ℕ → ℝ) : ∑ x : Fin n, v x * prob T s x = mean T s v := by
  unfold prob mean
  rw [← sum_kept n T hT (fun k => Real.exp (s k) * v k), Finset.sum_div]
  refine Finset.sum_congr rfl fun x _ => ?_
  by_cases h : x.val ≤ T
  · rw [if_pos h, if_pos h]; ring
  · rw [if_neg h, if_neg h]; ring

/-- A weighted sum of values under the difference of two softmaxes. -/
theorem sum_diff (n T : ℕ) (hT : T < n) (s0 s1 v : ℕ → ℝ) (L : ℝ) :
    (∑ x : Fin n, ((v x : ℝ) : EReal) * (((prob T s0 x : ℝ) : EReal) - (L : EReal) * ((prob T s1 x : ℝ) : EReal))) = ((mean T s0 v - L * mean T s1 v : ℝ) : EReal) := by
  rw [← sum_prob n T hT, ← sum_prob n T hT, Finset.mul_sum, ← Finset.sum_sub_distrib, coe_sum]
  refine Finset.sum_congr rfl fun x _ => ?_
  rw [← EReal.coe_mul, ← EReal.coe_sub, ← EReal.coe_mul]
  congr 1; ring

/-- The literal 1/8 is real. -/
theorem eighth_real : ∃ c : ℝ, Ideal.ofBits .f32 0x3E000000#32 = (c : EReal) := by
  unfold Ideal.ofBits Ideal.ieee
  dsimp only
  rw [if_neg (by decide), if_neg (by decide)]
  exact ⟨_, rfl⟩
/-- Its value. -/
def eighth : ℝ := eighth_real.choose
theorem eighth_eq : Ideal.ofBits .f32 0x3E000000#32 = (eighth : EReal) := eighth_real.choose_spec

/-- A token's place, wrapped around the sequence. -/
def tok (t : ℕ) : Fin 4096 := ⟨t % 4096, Nat.mod_lt _ (by decide)⟩
theorem tok_val (t : Fin 4096) : tok t.val = t := Fin.ext (Nat.mod_eq_of_lt t.isLt)

/-- A half head's score. -/
def scoreR (q k : S8x4096x512.Idx → ℝ) (b : Fin 8) (h : Fin 4) (c : Fin 2) (t key : ℕ) : ℝ :=
  (∑ d : Fin 64, q (ix3 b (tok t) ⟨h * 128 + c * 64 + d, by omega⟩) * k (ix3 b (tok key) ⟨h * 128 + c * 64 + d, by omega⟩)) * eighth

variable (b : Fin 8) (h : Fin 4) (c : Fin 2) (t : Fin 4096)

theorem scores_real (q k : S8x4096x512.Idx → ℝ) (x : Fin 4096) :
    scoresV (fun i => (q i : EReal)) (fun i => (k i : EReal)) (ix5 b h c t x) = if decide (x.val ≤ t.val) then ((scoreR q k b h c t x : ℝ) : EReal) else ⊥ := by
  rw [scoresV_at]
  by_cases hx : x.val ≤ t.val
  · rw [if_pos hx, if_pos (decide_eq_true hx), scoreR, EReal.coe_mul, coe_sum, eighth_eq]
    simp only [EReal.coe_mul, tok_val]
  · rw [if_neg hx, if_neg (by simp [hx])]

theorem probs_real (q k : S8x4096x512.Idx → ℝ) (x : Fin 4096) :
    probsV (expV (scoresV (fun i => (q i : EReal)) (fun i => (k i : EReal)))) (ix5 b h c t x) = ((prob t (scoreR q k b h c t) x : ℝ) : EReal) := by
  obtain ⟨M, hM⟩ : ∃ M : ℝ, maxV (scoresV (fun i => (q i : EReal)) (fun i => (k i : EReal))) (ix4 b h c t) = M := by
    rw [maxV_at]
    simp only [scores_real]
    refine sup_real _ (fun x => ?_) t ?_
    · by_cases hx : x.val ≤ t.val
      · rw [if_pos (decide_eq_true hx)]; exact EReal.coe_ne_top _
      · rw [if_neg (by simp [hx])]; exact bot_ne_top
    · rw [if_pos (by simp)]; exact EReal.coe_ne_bot _
  have he : ∀ x : Fin 4096, expV (scoresV (fun i => (q i : EReal)) (fun i => (k i : EReal))) (ix5 b h c t x)
      = ((Real.exp (-M) * if x.val ≤ t.val then Real.exp (scoreR q k b h c t x) else 0 : ℝ) : EReal) := by
    intro x
    rw [expV_at, hM, scores_real, exp_hide]
    simp only [decide_eq_true_eq]
  rw [probsV_at]
  simp only [he]
  rw [← coe_sum, ← Finset.mul_sum, sum_kept 4096 t.val t.isLt (fun x => Real.exp (scoreR q k b h c t x))]
  have hp := mass_pos t.val (scoreR q k b h c t)
  have hM0 := Real.exp_pos (-M)
  rw [div_real _ _ (mul_pos hM0 hp).ne']
  unfold prob
  rw [mul_div_mul_left _ _ hM0.ne']

/-- The reference's result. -/
theorem out_at (q k v : S8x4096x512.Idx → ℝ) (l0 l1 l2 l3 : FVec Ideal S1x64 .f32) (g : FVec Ideal S1x128 .f32) (L : ℝ)
    (hL : lam (fun x => l0 (ix2 0 x)) (fun x => l1 (ix2 0 x)) (fun x => l2 (ix2 0 x)) (fun x => l3 (ix2 0 x)) = (L : EReal)) (e : Fin 128) :
    outV (fun i => (q i : EReal)) (fun i => (k i : EReal)) (fun i => (v i : EReal)) l0 l1 l2 l3 g (ix3 b t ⟨h * 128 + e, by omega⟩)
      = subln (fun x => ((mean t (scoreR q k b h 0 t) (fun key => v (ix3 b (tok key) ⟨h * 128 + x, by omega⟩))
          - L * mean t (scoreR q k b h 1 t) (fun key => v (ix3 b (tok key) ⟨h * 128 + x, by omega⟩)) : ℝ) : EReal)) (fun x => g (ix2 0 x)) e := by
  have he := e.isLt
  have read : ∀ (o : FVec Ideal S8x4096x4x128 .f32), (shapeCast S8x4096x512 o shapeCasts_S8x4096x4x128_S8x4096x512 : FVec Ideal S8x4096x512 .f32) (ix3 b t ⟨h * 128 + e, by omega⟩) = o (ix4 b t h e) := by
    intro o
    pointwise
  unfold outV
  have cast : ∀ (o : FVec Ideal S8x4096x512 .f32) (i : S8x4096x512.Idx), truncf .bf16 o bitsLt_bf16_f32 i = o i := by
    intro o i
    pointwise
  rw [cast, read]
  rw [normV_at]
  congr 1
  funext x
  rw [headsV_at]
  simp only [diffV_at, probs_real, lamV_at, hL]
  have key := sum_diff 4096 t.val t.isLt (scoreR q k b h 0 t) (scoreR q k b h 1 t) (fun key => v (ix3 b (tok key) ⟨h * 128 + x, by omega⟩)) L
  simp only [tok_val] at key
  exact key

end Cert.Proof.AttnRef
-- ==== Proof.AttnValue.lean ====
/- The attention's result array, where its operands are finite: tile by tile it is what the reference computes. -/
module

public import proofs.«01_k».proof.Proof.AttnLaunch
public import proofs.«01_k».proof.Proof.AttnTile
public import proofs.«01_k».proof.Proof.AttnRefValue

@[expose] public section
set_option maxRecDepth 16384
noncomputable section
open Idealize.ShloMosaic Idealize.ShloMosaic.TcCoe Idealize.SL.Sem
namespace Cert.Proof.AttnValue
open Cert.KernelIdeal Cert.KernelIdeal.Gen Cert.Proof.AttnSpec Cert.Proof.Attn Cert.Proof.AttnRef

variable (m : (ℓ : Loc nD τ sig) → Buf (Elt Ideal) ℓ) (c : Dev nD)

/-- The stack of lambda rows the region finds. -/
def lams (a b c d : FVec Ideal S1x64 .f32) : FVec Ideal S4x64 .f32 :=
  concatenate S4x64 0 [⟨S1x64, (broadcastInDim S1x64 ![1] bcast_S64_S1x64_1 (shapeCast S64 a shapeCasts_S1x64_S64 : FVec Ideal S64 .f32) : FVec Ideal S1x64 .f32)⟩, ⟨S1x64, (broadcastInDim S1x64 ![1] bcast_S64_S1x64_1 (shapeCast S64 b shapeCasts_S1x64_S64 : FVec Ideal S64 .f32) : FVec Ideal S1x64 .f32)⟩, ⟨S1x64, (broadcastInDim S1x64 ![1] bcast_S64_S1x64_1 (shapeCast S64 c shapeCasts_S1x64_S64 : FVec Ideal S64 .f32) : FVec Ideal S1x64 .f32)⟩, ⟨S1x64, (broadcastInDim S1x64 ![1] bcast_S64_S1x64_1 (shapeCast S64 d shapeCasts_S1x64_S64 : FVec Ideal S64 .f32) : FVec Ideal S1x64 .f32)⟩] concatenates_S1x64_S1x64_S1x64_S1x64_S4x64_d0
theorem V13 : V m c main_v13 = lams (m ((c : Thread nD τ).loc main_arg3)) (m ((c : Thread nD τ).loc main_arg4)) (m ((c : Thread nD τ).loc main_arg5)) (m ((c : Thread nD τ).loc main_arg6)) := by
  unfold V
  sl_kernel_rfl
theorem lams_at (l0 l1 l2 l3 : FVec Ideal S1x64 .f32) (a : Fin 4) (k : Fin 64) : lams l0 l1 l2 l3 (ix2 a k) = (![l0, l1, l2, l3] a) (ix2 0 k) := by
  fin_cases a <;> pointwise [lams]
/-- The gain row the region finds. -/
def gainV (g : FVec Ideal S1x128 .f32) : FVec Ideal S1x128 .f32 := broadcastInDim S1x128 ![1] bcast_S128_S1x128_1 (shapeCast S128 g shapeCasts_S1x128_S128 : FVec Ideal S128 .f32)
theorem V15 : V m c main_v15 = gainV (m ((c : Thread nD τ).loc main_arg7)) := by
  unfold V
  sl_kernel_rfl
theorem gainV_at (g : FVec Ideal S1x128 .f32) (k : Fin 128) : gainV g (ix2 0 k) = g (ix2 0 k) := by
  pointwise [gainV]
/-- The scaled queries the region finds. -/
def scaledV (q : FVec Ideal S8x4096x512 .f32) : FVec Ideal S8x4096x512 .bf16 :=
  truncf .bf16 (mulf q (broadcastInDim S8x4096x512 ![] bcast_S_S8x4096x512 (constant S_ .f32 0x3E000000#32))) bitsLt_bf16_f32
theorem V2 : V m c main_v2 = scaledV (m ((c : Thread nD τ).loc main_arg0)) := by
  unfold V
  sl_kernel_rfl
theorem scaledV_at (q : FVec Ideal S8x4096x512 .f32) (i : S8x4096x512.Idx) : scaledV q i = q i * Ideal.ofBits .f32 0x3E000000#32 := by
  pointwise [scaledV]
theorem V3 : V m c main_v3 = m ((c : Thread nD τ).loc main_arg1) := by
  unfold V
  sl_kernel_rfl
theorem V4 : V m c main_v4 = m ((c : Thread nD τ).loc main_arg2) := by
  unfold V
  sl_kernel_rfl

/-- The reference's function of this program's argument arrays. -/
def G : FVec Ideal S8x4096x512 .bf16 :=
  outV (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- The argument arrays hold reals. -/
structure Finite (q k v : S8x4096x512.Idx → ℝ) (l : Fin 4 → S1x64.Idx → ℝ) : Prop where
  q : (m ((c : Thread nD τ).loc main_arg0) : FVec Ideal S8x4096x512 .f32) = fun i => ((q i : ℝ) : EReal)
  k : (m ((c : Thread nD τ).loc main_arg1) : FVec Ideal S8x4096x512 .f32) = fun i => ((k i : ℝ) : EReal)
  v : (m ((c : Thread nD τ).loc main_arg2) : FVec Ideal S8x4096x512 .f32) = fun i => ((v i : ℝ) : EReal)
  l0 : (m ((c : Thread nD τ).loc main_arg3) : FVec Ideal S1x64 .f32) = fun i => ((l 0 i : ℝ) : EReal)
  l1 : (m ((c : Thread nD τ).loc main_arg4) : FVec Ideal S1x64 .f32) = fun i => ((l 1 i : ℝ) : EReal)
  l2 : (m ((c : Thread nD τ).loc main_arg5) : FVec Ideal S1x64 .f32) = fun i => ((l 2 i : ℝ) : EReal)
  l3 : (m ((c : Thread nD τ).loc main_arg6) : FVec Ideal S1x64 .f32) = fun i => ((l 3 i : ℝ) : EReal)

variable {m c} {q k v : S8x4096x512.Idx → ℝ} {l : Fin 4 → S1x64.Idx → ℝ} (hf : Finite m c q k v l)
include hf

theorem ins_real (j : ℕ) : Reals (ins m c j) (fun t d => q (ix3 (bat j) (tok t) (Attn.lane j d)) * eighth) (fun t d => k (ix3 (bat j) (tok t) (Attn.lane j d)))
    (fun t d => v (ix3 (bat j) (tok t) (Attn.lane j d))) where
  q t d := by
    show (V m c main_v2 : FVec Ideal S8x4096x512 .bf16) (ix3 (bat j) (tok t) (Attn.lane j d)) = _
    rw [V2, scaledV_at, hf.q, eighth_eq, EReal.coe_mul]
  k t d := by
    show (V m c main_v3 : FVec Ideal S8x4096x512 .bf16) (ix3 (bat j) (tok t) (Attn.lane j d)) = _
    rw [V3, hf.k]
  v t d := by
    show (V m c main_v4 : FVec Ideal S8x4096x512 .bf16) (ix3 (bat j) (tok t) (Attn.lane j d)) = _
    rw [V4, hf.v]

/-- The second half head's weight, of the arguments. -/
theorem weight (j : ℕ) : k0_pay509 (fun x => (ins m c j).lam ((Rect.unit (s := S4x64) ![0, 0] S4x64.size (by decide)).idx x)) (ix2 0 0)
    = lam (fun x => (m ((c : Thread nD τ).loc main_arg3) : FVec Ideal S1x64 .f32) (ix2 0 x)) (fun x => (m ((c : Thread nD τ).loc main_arg4) : FVec Ideal S1x64 .f32) (ix2 0 x))
      (fun x => (m ((c : Thread nD τ).loc main_arg5) : FVec Ideal S1x64 .f32) (ix2 0 x)) (fun x => (m ((c : Thread nD τ).loc main_arg6) : FVec Ideal S1x64 .f32) (ix2 0 x)) := by
  have e : ∀ (a : Fin 4) (x : Fin 64), (ins m c j).lam ((Rect.unit (s := S4x64) ![0, 0] S4x64.size (by decide)).idx (ix2 a x)) = (![(m ((c : Thread nD τ).loc main_arg3) : FVec Ideal S1x64 .f32), m ((c : Thread nD τ).loc main_arg4), m ((c : Thread nD τ).loc main_arg5), m ((c : Thread nD τ).loc main_arg6)] a) (ix2 0 x) := by
    intro a x
    have e1 : (Rect.unit (s := S4x64) ![0, 0] S4x64.size (by decide)).idx (ix2 a x) = ix2 a x := by
      funext d; refine Fin.ext ?_
      fin_cases d
      · show 0 + 1 * a.val = a.val; omega
      · show 0 + 1 * x.val = x.val; omega
    rw [e1]
    show (V m c main_v13 : FVec Ideal S4x64 .f32) (ix2 a x) = _
    rw [V13]
    exact lams_at _ _ _ _ a x
  rw [pay509_at]
  simp only [e]
  rfl

theorem weight_real : ∃ L : ℝ, lam (fun x => (m ((c : Thread nD τ).loc main_arg3) : FVec Ideal S1x64 .f32) (ix2 0 x)) (fun x => (m ((c : Thread nD τ).loc main_arg4) : FVec Ideal S1x64 .f32) (ix2 0 x))
      (fun x => (m ((c : Thread nD τ).loc main_arg5) : FVec Ideal S1x64 .f32) (ix2 0 x)) (fun x => (m ((c : Thread nD τ).loc main_arg6) : FVec Ideal S1x64 .f32) (ix2 0 x)) = (L : EReal) := by
  rw [hf.l0, hf.l1, hf.l2, hf.l3]
  exact lam_real (fun x => l 0 (ix2 0 x)) (fun x => l 1 (ix2 0 x)) (fun x => l 2 (ix2 0 x)) (fun x => l 3 (ix2 0 x))

omit hf in
/-- The kernel's score of a row is the reference's. -/
theorem score_eq (q k : S8x4096x512.Idx → ℝ) (j i : ℕ) (r : Fin 512) (h : Fin 2) (key : ℕ) :
    score (fun t d => q (ix3 (bat j) (tok t) (Attn.lane j d)) * eighth) (fun t d => k (ix3 (bat j) (tok t) (Attn.lane j d))) i (512 * h.val + r.val) key
      = scoreR q k (bat j) ⟨j % 4, Nat.mod_lt _ (by decide)⟩ h (512 * i + r) key := by
  rw [score_half, scoreR, Finset.sum_mul]
  refine Finset.sum_congr rfl fun d _ => ?_
  have e : Attn.lane j ⟨64 * h.val + d.val, by omega⟩ = (⟨j % 4 * 128 + h.val * 64 + d.val, by omega⟩ : Fin 512) := Fin.ext (show j % 4 * 128 + (64 * h.val + d.val) = _ by dsimp only; omega)
  simp only [e]
  ring

/-- A tile is the reference's. -/
theorem tile_eq (j i : ℕ) (hi : i < 8) (r : Fin 512) (e : Fin 128) :
    tileF (ins m c j) i (ix3 0 r e) = G m c (ix3 (bat j) (⟨512 * i + r.val, by omega⟩ : Fin 4096) (Attn.lane j e)) := by
  obtain ⟨L, hL⟩ := weight_real hf
  rw [tile_at (ins_real hf j) i L ((weight hf j).trans hL)]
  have o := out_at (bat j) ⟨j % 4, Nat.mod_lt _ (by decide)⟩ (⟨512 * i + r.val, by omega⟩ : Fin 4096) q k v _ _ _ _ (m ((c : Thread nD τ).loc main_arg7) : FVec Ideal S1x128 .f32) L hL e
  unfold G
  rw [hf.q, hf.k, hf.v]
  refine Eq.trans ?_ o.symm
  have s0 : score (fun t d => q (ix3 (bat j) (tok t) (Attn.lane j d)) * eighth) (fun t d => k (ix3 (bat j) (tok t) (Attn.lane j d))) i r.val
      = scoreR q k (bat j) ⟨j % 4, Nat.mod_lt _ (by decide)⟩ 0 (512 * i + r) := by
    funext key
    rw [← score_eq]
    congr 1
    show r.val = 512 * 0 + r.val
    omega
  have s1 : score (fun t d => q (ix3 (bat j) (tok t) (Attn.lane j d)) * eighth) (fun t d => k (ix3 (bat j) (tok t) (Attn.lane j d))) i (512 + r.val)
      = scoreR q k (bat j) ⟨j % 4, Nat.mod_lt _ (by decide)⟩ 1 (512 * i + r) := by
    funext key
    rw [← score_eq]
    rfl
  rw [s0, s1]
  refine congrArg₂ (fun o g => subln o g e) rfl (funext fun x => ?_)
  show (V m c main_v15 : FVec Ideal S1x128 .f32) (ix2 0 x) = _
  rw [V15]
  exact gainV_at _ x

/-- The result array after the run. -/
theorem final : (dats m 0 c).arrAt 5 (cfgs 0).N = G m c := by
  refine (dats m 0 c).arrAt_eq_of_covers 5 _ (by decide +kernel) fun t _ y => ?_
  blk_simp
  rw [after0_5]
  obtain ⟨a, r, e, rfl⟩ : ∃ a r e, y = ix3 a r e := ⟨y 0, y 1, y 2, eq_ix3 y⟩
  obtain rfl : a = 0 := Subsingleton.elim _ _
  have hN : t.val < 256 := t.isLt
  rw [show tileF (ins m c (t.val / 8)) (t.val % 8) (ix3 0 r e) = _ from tile_eq hf (t.val / 8) (t.val % 8) (Nat.mod_lt _ (by decide)) r e]
  have e' : ((cfg0.win 5).blk t).view.emb (ix3 0 r e) = ix3 (bat (t.val / 8)) (⟨512 * (t.val % 8) + r.val, by omega⟩ : Fin 4096) (Attn.lane (t.val / 8) e) := by
    blk_ext [idx t, bat, Attn.lane]
  rw [e']

end Cert.Proof.AttnValue
-- ==== Proof.AttnFinite.lean ====
/- The attention's precondition, read back: the query, key, value and lambda arrays hold reals. -/
module

public import proofs.«01_k».proof.Proof.Gen.Pre_inputs_finite
public import Idealize.ShloMosaic.Lib.ReduceAll
public import Idealize.ShloMosaic.Lib.Pointwise

@[expose] public section
noncomputable section
open Idealize.ShloMosaic
namespace Cert.Proof.AttnFinite
open Cert.Pre_inputs_finite

/-- An extended real whose absolute value is less than infinity is real. -/
theorem real_of_lt (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x using EReal.rec with
  | bot => simp [Ideal.cmp] at h
  | top => simp [Ideal.cmp] at h
  | coe r => exact ⟨r, rfl⟩

/-- Two bits both set. -/
theorem both_bits {a b : BitVec 1} (h : IntOp.andi a b = 1#1) : a = 1#1 ∧ b = 1#1 := by
  rcases BitVec.eq_zero_or_eq_one a with rfl | rfl <;> rcases BitVec.eq_zero_or_eq_one b with rfl | rfl <;> revert h <;> decide
theorem both {S : Shape} {a b : IVec S 1} {j : S.Idx} (h : andi a b j = 1#1) : a j = 1#1 ∧ b j = 1#1 := both_bits h

instance : Subsingleton S_.Idx := ⟨fun _ _ => funext fun k => k.elim0⟩

/-- An array that passes its test holds reals. -/
theorem reals {S : Shape} {axes : List (Fin S.rank)} {x : FVec Ideal S .f32} {c : FVec Ideal S .f32} {init : S_.Idx → BitVec 1} {hr : S.ReducesTo axes S_}
    {hu : 0 < S_.numel} {j : S_.Idx} (h : Host.reduce IntOp.andi (cmpf .olt (Host.absf x) c) init hr hu j = 1#1) (hc : ∀ i, c i = Ideal.ofBits .f32 0x7F800000#32) : ∃ r : S.Idx → ℝ, x = fun i => ((r i : ℝ) : EReal) := by
  have all : ∀ i, ∃ r : ℝ, x i = r := fun i => by
    have hi := Host.reduce_andi_all _ _ _ _ j h i
    refine real_of_lt (x i) ?_
    rw [← hc i]
    exact hi
  exact ⟨fun i => (all i).choose, funext fun i => (all i).choose_spec⟩

variable [Facts] (q k v : FVec Ideal S8x4096x512 .f32) (a b c d : FVec Ideal S1x64 .f32) (g : FVec Ideal S1x128 .f32)

theorem finite (h : fn q k v a b c d g = fun _ => 1#1) :
    (∃ r : S8x4096x512.Idx → ℝ, q = fun i => ((r i : ℝ) : EReal)) ∧ (∃ r : S8x4096x512.Idx → ℝ, k = fun i => ((r i : ℝ) : EReal)) ∧ (∃ r : S8x4096x512.Idx → ℝ, v = fun i => ((r i : ℝ) : EReal))
    ∧ (∃ r : S1x64.Idx → ℝ, a = fun i => ((r i : ℝ) : EReal)) ∧ (∃ r : S1x64.Idx → ℝ, b = fun i => ((r i : ℝ) : EReal))
    ∧ (∃ r : S1x64.Idx → ℝ, c = fun i => ((r i : ℝ) : EReal)) ∧ (∃ r : S1x64.Idx → ℝ, d = fun i => ((r i : ℝ) : EReal)) := by
  have h' := congrFun h ix0
  unfold fn fn_part1 at h'
  obtain ⟨h1, h2⟩ := both h'
  obtain ⟨h3, h4⟩ := both h1
  obtain ⟨h5, hv⟩ := both h3
  obtain ⟨hq, hk⟩ := both h5
  obtain ⟨ha, hb⟩ := both h4
  obtain ⟨hc, hd⟩ := both h2
  exact ⟨reals hq fun _ => rfl, reals hk fun _ => rfl, reals hv fun _ => rfl, reals ha fun _ => rfl, reals hb fun _ => rfl, reals hc fun _ => rfl, reals hd fun _ => rfl⟩

end Cert.Proof.AttnFinite
-- ==== Proof.Attention.lean ====
/- The attention's claims: the program and its idealisation run and keep their arguments, so does the plain reference, and the
   idealisation's mask is minus infinity. -/
module

public import proofs.«01_k».proof.Defs
public import proofs.«01_k».proof.Proof.AttnLaunch
public import proofs.«01_k».proof.Proof.AttnValue
public import proofs.«01_k».proof.Proof.AttnFinite
public import proofs.«01_k».proof.Proof.Gen.ReferenceIdeal.Run
public import proofs.«01_k».proof.Proof.Gen.Pre_inputs_finite
public import proofs.«01_k».proof.Proof.Gen.Kernel
public import Idealize.ShloMosaic.Lib.Quiescent
public import Idealize.ShloMosaic.Lib.Tactic

@[expose] public section
noncomputable section
open Idealize.ShloMosaic Idealize.ShloMosaic.TcCoe Idealize.SL.Sem
namespace Cert.Proof.Attention

/-- The named mask read as the literal that it stands for. -/
abbrev literal : Named Bits := ⟨fun _ _ {_} w => FloatOps.ofBits _ w⟩

/-- The program runs, its arguments unchanged: with the mask read as its literal the idealisation is the program. -/
theorem frame : Cert.quiescent_Kernel (hKernel := Cert.Kernel.Gen.facts) := by
  intro m ρ _
  refine Eq.mp ?_ (@Attn.frame Bits _ literal m ρ)
  sl_kernel_rfl
/-- Its idealisation runs, its arguments unchanged, -/
theorem frame_ideal : Cert.quiescent_KernelIdeal (hKernelIdeal := Cert.KernelIdeal.Gen.facts) (hPre_inputs_finite := Cert.Pre_inputs_finite.Gen.facts) :=
  fun m ρ _ => Attn.frame m ρ
/-- whatever the arguments hold. -/
theorem frame_ideal_any : Cert.quiescent_KernelIdeal_pre_none (hKernelIdeal := Cert.KernelIdeal.Gen.facts) := fun m ρ _ => Attn.frame m ρ
/-- The reference runs, its arguments unchanged. -/
theorem frame_reference : Cert.quiescent_ReferenceIdeal (hReferenceIdeal := Cert.ReferenceIdeal.Gen.facts) (hPre_inputs_finite := Cert.Pre_inputs_finite.Gen.facts) := fun m ρ _ =>
  (θ_run Cert.ReferenceIdeal.defs _ _).mono (fun r h => ⟨fun c => (h c).2, sem_eq_zero_of_no_sems (by decide) r.2⟩) (Cert.ReferenceIdeal.Value.run m ρ)
/-- The idealisation replaced the mask's literal by minus infinity. -/
theorem preserved : Cert.preserves_Kernel_KernelIdeal := by
  unfold Cert.preserves_Kernel_KernelIdeal
  exact ⟨rfl, fun s => IdealRules.named_const.ideal_named _ _ _ _ rfl, IdealRules.named_const.ideal_named_scalar _ _ _ _ rfl⟩

/-- Where the arguments are finite the program computes, over the extended reals, the reference's array. -/
theorem value : Cert.algebraic_KernelIdeal_ReferenceIdeal (hKernelIdeal := Cert.KernelIdeal.Gen.facts) (hReferenceIdeal := Cert.ReferenceIdeal.Gen.facts)
    (hPre_inputs_finite := Cert.Pre_inputs_finite.Gen.facts) := by
  intro m ρ m' ρ' hpre h
  refine ⟨fun c => AttnValue.G m c, ?_, ?_⟩
  · have post := (θ_run Cert.KernelIdeal.defs _ _).mono (fun r k c => (k c).1 5) (Attn.run_main m ρ)
    refine (θ_run Cert.KernelIdeal.defs _ _).mono (fun r k c => ⟨?_, k.2.1 c⟩) (θ_run_and post (Attn.frame m ρ))
    obtain ⟨⟨q, hq⟩, ⟨k', hk⟩, ⟨v, hv⟩, ⟨a, ha⟩, ⟨b, hb⟩, ⟨d, hd⟩, ⟨e, he⟩⟩ := AttnFinite.finite _ _ _ _ _ _ _ _ (hpre c)
    exact (k.1 c).trans (AttnValue.final (q := q) (k := k') (v := v) (l := ![a, b, d, e]) ⟨hq, hk, hv, ha, hb, hd, he⟩)
  · refine (θ_run Cert.ReferenceIdeal.defs _ _).mono (fun r k c => ⟨(k c).1.trans ?_, (k c).2⟩) (Cert.ReferenceIdeal.Value.run m' ρ')
    obtain ⟨h0, h1, h2, h3, h4, h5, h6, h7⟩ := h c
    refine (AttnRef.res_eq m' c).trans ?_
    rw [h0, h1, h2, h3, h4, h5, h6, h7]
    rfl

end Cert.Proof.Attention
-- ==== Proof.ChannelSpec.lean ====
/- The mathematics of the channel mixer for one token, over the extended reals: the output projection of the two mixed
   halves, the gated residual, the modulated norm, the SwiGLU and the second gated residual. The kernel and the reference
   are each read, element by element, as these functions. -/
module

public import Idealize.ShloMosaic.Lib.Pipeline.ValueKit

@[expose] public section
noncomputable section
open Idealize.ShloMosaic Idealize.SL.Sem
namespace Cert.Proof.ChannelSpec

/-- The root-mean-square norm of the row `y` with the gain `g`, at place `j`. -/
def rms (y g : Fin 1024 → EReal) (j : Fin 1024) : EReal :=
  y j * Ideal.rsqrt (Ideal.div (∑ x, y x * y x) (Ideal.ofBits FTy.f32 1149239296#32) + Ideal.ofBits FTy.f32 897988541#32) * g j

/-- `z * sigmoid z`. -/
def silu (z : EReal) : EReal := z * Ideal.div 1 (1 + Ideal.exp (-z))

/-- The output projection: the two halves of the mixed row against the two halves of the weight's rows. -/
def proj (yd yr : Fin 512 → EReal) (w : Fin 1024 → Fin 1024 → EReal) (j : Fin 1024) : EReal :=
  ∑ x : Fin 512, yd x * w ⟨x, by omega⟩ j + ∑ x : Fin 512, yr x * w ⟨512 + x, by omega⟩ j

/-- A gated residual: the row `x` plus the gate times the normed update. -/
def resid (x gate u g : Fin 1024 → EReal) (j : Fin 1024) : EReal := x j + gate j * rms u g j

/-- The modulated norm that feeds the feed-forward part. -/
def modnorm (x g scale shift : Fin 1024 → EReal) (j : Fin 1024) : EReal := rms x g j * (1 + scale j) + shift j

/-- One activation of the SwiGLU. -/
def act (h : Fin 1024 → EReal) (wg wu : Fin 1024 → EReal) : EReal :=
  silu (∑ x, h x * wg x) * ∑ x, h x * wu x

/-- The feed-forward update. -/
def ffn (h : Fin 1024 → EReal) (wg wu : Fin 1024 → Fin 2816 → EReal) (wd : Fin 2816 → Fin 1024 → EReal) (j : Fin 1024) : EReal :=
  ∑ f, act h (fun x => wg x f) (fun x => wu x f) * wd f j

/-- The whole channel mixer of one token. `ada` holds the six modulation rows, `g` the three gains. -/
def mix (yd yr : Fin 512 → EReal) (x : Fin 1024 → EReal) (ada : Fin 6 → Fin 1024 → EReal) (w : Fin 1024 → Fin 1024 → EReal)
    (g : Fin 3 → Fin 1024 → EReal) (wg wu : Fin 1024 → Fin 2816 → EReal) (wd : Fin 2816 → Fin 1024 → EReal) (j : Fin 1024) : EReal :=
  let x1 := resid x (ada 2) (proj yd yr w) (g 0)
  let h := modnorm x1 (g 1) (ada 4) (ada 3)
  resid x1 (ada 5) (ffn h wg wu wd) (g 2) j

end Cert.Proof.ChannelSpec
-- ==== Proof.ChannelBlock.lean ====
/- What one grid point of the channel mixer leaves in its output block, element by element. -/
module

public import proofs.«01_k».proof.Proof.Gen.ChannelIdeal.Value
public import proofs.«01_k».proof.Proof.ChannelSpec
public import Idealize.ShloMosaic.Lib.Pipeline.ReadBack

@[expose] public section
set_option maxRecDepth 16384
noncomputable section
open Idealize.ShloMosaic Idealize.ShloMosaic.TcCoe Idealize.SL.Sem
namespace Cert.Proof.ChannelBlock
open Cert.ChannelIdeal Cert.ChannelIdeal.Gen Cert.Proof.ChannelSpec

variable (m : (ℓ : Loc nD τ sig) → Buf (Elt Ideal) ℓ)

/-! ## The payloads, one element at a time -/

section payloads
variable (r : Fin 512)

/-- The first residual. -/
theorem x1_at (x0 x1 : Vec Ideal S1x512x512 .bf16) (x2 : Vec Ideal S1x512x1024 .f32) (x3 : Vec Ideal S1x6x1024 .f32)
    (w0 w1 : Vec Ideal S512x1024 .bf16) (g : Vec Ideal S1x1024 .f32) (j : Fin 1024) :
    k0_pay9 (F := Ideal) (k0_pay7 x2) (k0_pay8 x3 x0 w0 x1 w1 g) (ix2 r j)
      = resid (fun k => x2 (ix3 0 r k)) (fun k => x3 (ix3 0 2 k))
          (fun j => ∑ x, x0 (ix3 0 r x) * w0 (ix2 x j) + ∑ x, x1 (ix3 0 r x) * w1 (ix2 x j)) (fun k => g (ix2 0 k)) j := by
  pointwise [k0_pay9, k0_pay7, k0_pay8, k0_pay3, resid, rms]

/-- The modulated norm. -/
theorem h_at (x3 : Vec Ideal S1x6x1024 .f32) (y : Vec Ideal S512x1024 .f32) (g : Vec Ideal S1x1024 .f32) (j : Fin 1024) :
    k0_pay10 (F := Ideal) (k0_pay4 x3) (k0_pay5 x3) y g (ix2 r j)
      = modnorm (fun k => y (ix2 r k)) (fun k => g (ix2 0 k)) (fun k => x3 (ix3 0 4 k)) (fun k => x3 (ix3 0 3 k)) j := by
  pointwise [k0_pay10, k0_pay3, k0_pay4, k0_pay5, modnorm, rms]

/-- The output block. -/
theorem out_at (x3 : Vec Ideal S1x6x1024 .f32) (a : Vec Ideal S512x2816 .bf16) (wd : Vec Ideal S2816x1024 .bf16)
    (y : Vec Ideal S512x1024 .f32) (g : Vec Ideal S1x1024 .f32) (j : Fin 1024) :
    k0_pay2 (F := Ideal) (k0_pay6 x3) a wd y g (ix3 0 r j)
      = resid (fun k => y (ix2 r k)) (fun k => x3 (ix3 0 5 k)) (fun j => ∑ f, a (ix2 r f) * wd (ix2 f j)) (fun k => g (ix2 0 k)) j := by
  pointwise [k0_pay2, k0_pay3, k0_pay6, resid, rms]

/-- The activations of the first chunk of columns. -/
theorem act0_at (s t : FVec Ideal S1x1024 .f32) (y : Vec Ideal S512x1024 .f32) (g : Vec Ideal S1x1024 .f32) (a b : Vec Ideal S1024x512 .bf16) (f : Fin 512) :
    k0_pay15 (F := Ideal) (k0_pay11 s t y g a) (k0_pay12 s t y g b) (ix2 r f)
      = act (fun k => k0_pay10 (F := Ideal) s t y g (ix2 r k)) (fun k => a (ix2 k f)) (fun k => b (ix2 k f)) := by
  pointwise [k0_pay15, k0_pay11, k0_pay12, act, silu]
  simp only [zero_sub]

/-- … of the second, -/
theorem act1_at (s t : FVec Ideal S1x1024 .f32) (y : Vec Ideal S512x1024 .f32) (g : Vec Ideal S1x1024 .f32) (a b : Vec Ideal S1024x512 .bf16) (f : Fin 512) :
    k0_pay18 (F := Ideal) (k0_pay10 s t y g) (k0_pay13 s t y g a) (k0_pay14 b) (constant S512x512 FTy.f32 0#32) (ix2 r f)
      = act (fun k => k0_pay10 (F := Ideal) s t y g (ix2 r k)) (fun k => a (ix2 k f)) (fun k => b (ix2 k f)) := by
  pointwise [k0_pay18, k0_pay13, k0_pay14, act, silu]
  simp only [zero_sub]

/-- … of the third, -/
theorem act2_at (h : FVec Ideal S512x1024 .bf16) (a b : Vec Ideal S1024x512 .bf16) (f : Fin 512) :
    k0_pay20 (F := Ideal) (k0_pay16 h a) (k0_pay17 h b) (ix2 r f)
      = act (fun k => h (ix2 r k)) (fun k => a (ix2 k f)) (fun k => b (ix2 k f)) := by
  pointwise [k0_pay20, k0_pay16, k0_pay17, act, silu]
  simp only [zero_sub]

/-- … of the fourth, -/
theorem act3_at (h : FVec Ideal S512x1024 .bf16) (a b : Vec Ideal S1024x512 .bf16) (f : Fin 512) :
    k0_pay23 (F := Ideal) h (k0_pay19 h a) b (ix2 r f)
      = act (fun k => h (ix2 r k)) (fun k => a (ix2 k f)) (fun k => b (ix2 k f)) := by
  pointwise [k0_pay23, k0_pay19, act, silu]
  simp only [zero_sub]

/-- … of the last. -/
theorem act4_at (h : FVec Ideal S512x1024 .bf16) (a b : Vec Ideal S1024x768 .bf16) (f : Fin 768) :
    k0_pay1 (F := Ideal) (k0_pay21 h a) (k0_pay22 h b) (k0_pay24 h a) (ix2 r f)
      = act (fun k => h (ix2 r k)) (fun k => a (ix2 k f)) (fun k => b (ix2 k f)) := by
  pointwise [k0_pay1, k0_pay21, k0_pay22, k0_pay24, act, silu]
  simp only [zero_sub]

end payloads

/-! ## The block as one term -/

section block
variable (x0 x1 : Vec Ideal S1x512x512 .bf16) (x2 : Vec Ideal S1x512x1024 .f32) (x3 : Vec Ideal S1x6x1024 .f32)
  (x4 : Vec Ideal S1024x1024 .bf16) (x5 : Vec Ideal S3x1024 .f32) (x6 x7 : Vec Ideal S1024x2816 .bf16) (x8 : Vec Ideal S2816x1024 .bf16)

/-- The first residual over the input blocks. -/
def X1 : FVec Ideal S512x1024 .f32 :=
  k0_pay9 (k0_pay7 x2) (k0_pay8 x3 x0 (View.ld x4 (Rect.unit ![0, 0] ![512, 1024] inb_S1024x1024_S512x1024_0_0)) x1
    (View.ld x4 (Rect.unit ![512, 0] ![512, 1024] inb_S1024x1024_S512x1024_512_0)) (View.ld x5 (Rect.unit ![0, 0] ![1, 1024] inb_S3x1024_S1x1024_0_0)))

/-- The gain row of the second norm. -/
def G1 : Vec Ideal S1x1024 .f32 := View.ld x5 (Rect.unit ![1, 0] ![1, 1024] inb_S3x1024_S1x1024_1_0)

/-- The feed-forward part's input. -/
def H (y : FVec Ideal S512x1024 .f32) : FVec Ideal S512x1024 .bf16 := k0_pay10 (k0_pay4 x3) (k0_pay5 x3) y (G1 x5)

/-- The stores of the activations, the last first. -/
def ACTS (y : FVec Ideal S512x1024 .f32) : List (View.Piece (Elt Ideal) S512x2816 .bf16) :=
  [⟨Rect.unit ![0, 2048] ![512, 768] inb_S512x2816_S512x768_0_2048,
      k0_pay1 (k0_pay21 (H x3 x5 y) (View.ld x6 (Rect.unit ![0, 2048] ![1024, 768] inb_S1024x2816_S1024x768_0_2048)))
        (k0_pay22 (H x3 x5 y) (View.ld x7 (Rect.unit ![0, 2048] ![1024, 768] inb_S1024x2816_S1024x768_0_2048)))
        (k0_pay24 (H x3 x5 y) (View.ld x6 (Rect.unit ![0, 2048] ![1024, 768] inb_S1024x2816_S1024x768_0_2048)))⟩,
   ⟨Rect.unit ![0, 1536] ![512, 512] inb_S512x2816_S512x512_0_1536,
      k0_pay23 (H x3 x5 y) (k0_pay19 (H x3 x5 y) (View.ld x6 (Rect.unit ![0, 1536] ![1024, 512] inb_S1024x2816_S1024x512_0_1536)))
        (View.ld x7 (Rect.unit ![0, 1536] ![1024, 512] inb_S1024x2816_S1024x512_0_1536))⟩,
   ⟨Rect.unit ![0, 1024] ![512, 512] inb_S512x2816_S512x512_0_1024,
      k0_pay20 (k0_pay16 (H x3 x5 y) (View.ld x6 (Rect.unit ![0, 1024] ![1024, 512] inb_S1024x2816_S1024x512_0_1024)))
        (k0_pay17 (H x3 x5 y) (View.ld x7 (Rect.unit ![0, 1024] ![1024, 512] inb_S1024x2816_S1024x512_0_1024)))⟩,
   ⟨Rect.unit ![0, 512] ![512, 512] inb_S512x2816_S512x512_0_512,
      k0_pay18 (H x3 x5 y) (k0_pay13 (k0_pay4 x3) (k0_pay5 x3) y (G1 x5) (View.ld x6 (Rect.unit ![0, 512] ![1024, 512] inb_S1024x2816_S1024x512_0_512)))
        (k0_pay14 (View.ld x7 (Rect.unit ![0, 512] ![1024, 512] inb_S1024x2816_S1024x512_0_512))) (constant S512x512 FTy.f32 0#32)⟩,
   ⟨Rect.unit ![0, 0] ![512, 512] inb_S512x2816_S512x512_0_0,
      k0_pay15 (k0_pay11 (k0_pay4 x3) (k0_pay5 x3) y (G1 x5) (View.ld x6 (Rect.unit ![0, 0] ![1024, 512] inb_S1024x2816_S1024x512_0_0)))
        (k0_pay12 (k0_pay4 x3) (k0_pay5 x3) y (G1 x5) (View.ld x7 (Rect.unit ![0, 0] ![1024, 512] inb_S1024x2816_S1024x512_0_0)))⟩]

/-- The activations, as the product with the last weight reads them. -/
def ACT (y : FVec Ideal S512x1024 .f32) : Vec Ideal S512x2816 .bf16 :=
  fun j => View.canon (ACTS x3 x5 x6 x7 y) ((Rect.unit (s := S512x2816) ![0, 0] ![512, 2816] inb_S512x2816_S512x2816_0_0).toLoadRect.idx j)

/-- The output block over the input blocks. -/
def OUT : FVec Ideal S1x512x1024 .f32 :=
  k0_pay2 (k0_pay6 x3) (ACT x3 x5 x6 x7 (X1 x0 x1 x2 x3 x4 x5)) x8 (X1 x0 x1 x2 x3 x4 x5)
    (View.ld x5 (Rect.unit ![2, 0] ![1, 1024] inb_S3x1024_S1x1024_2_0))

theorem X1_at (r : Fin 512) (j : Fin 1024) :
    X1 x0 x1 x2 x3 x4 x5 (ix2 r j) = resid (fun k => x2 (ix3 0 r k)) (fun k => x3 (ix3 0 2 k))
      (proj (fun k => x0 (ix3 0 r k)) (fun k => x1 (ix3 0 r k)) (fun k j => x4 (ix2 k j))) (fun k => x5 (ix2 0 k)) j := by
  unfold X1
  rw [x1_at]
  congr 1
  · funext j
    unfold proj
    congr 1 <;> refine Finset.sum_congr rfl fun x _ => ?_ <;> pointwise
  · funext j
    pointwise

theorem H_at (y : FVec Ideal S512x1024 .f32) (r : Fin 512) (j : Fin 1024) :
    H x3 x5 y (ix2 r j) = modnorm (fun k => y (ix2 r k)) (fun k => x5 (ix2 1 k)) (fun k => x3 (ix3 0 4 k)) (fun k => x3 (ix3 0 3 k)) j := by
  unfold H G1
  rw [h_at]
  congr 1
  funext j
  pointwise

/-- A chunk of a weight's columns read at a place is the weight there. -/
theorem ld_cols {n : ℕ} (w : Vec Ideal S1024x2816 .bf16) (o : ℕ) (inb) (k : Fin 1024) (b : Fin n) (f : Fin 2816) (e : (f : ℕ) = o + b) :
    View.ld w (Rect.unit (s := S1024x2816) ![0, o] ![1024, n] inb) (ix2 k b) = w (ix2 k f) := by
  have hlt : o + (b : ℕ) < 2816 := e ▸ f.isLt
  have hf : f = ⟨o + b, hlt⟩ := Fin.ext e
  rw [hf]
  pointwise

/-- The whole activation buffer's rectangle places an index at itself. -/
theorem idx_whole (r : Fin 512) (f : Fin 2816) :
    (((Rect.unit (s := S512x2816) ![0, 0] ![512, 2816] inb_S512x2816_S512x2816_0_0).idx (ix2 r f) 0 : ℕ) = r)
    ∧ (((Rect.unit (s := S512x2816) ![0, 0] ![512, 2816] inb_S512x2816_S512x2816_0_0).idx (ix2 r f) 1 : ℕ) = f) := by
  constructor <;> rw [Rect.idx_unit_val] <;> simp

theorem ACT_at (y : FVec Ideal S512x1024 .f32) (r : Fin 512) (f : Fin 2816) :
    ACT x3 x5 x6 x7 y (ix2 r f) = act (fun k => H x3 x5 y (ix2 r k)) (fun k => x6 (ix2 k f)) (fun k => x7 (ix2 k f)) := by
  have hc := View.cover_of_tiledBy (ACTS x3 x5 x6 x7 y) ![512, 256] (by sl_kernel_rfl)
  unfold ACT ACTS
  canon_tiles x h using (hc _)
  all_goals
    obtain ⟨a, b, rfl⟩ : ∃ a b, x = ix2 a b := ⟨x 0, x 1, eq_ix2 x⟩
    obtain rfl : r = a := Fin.ext ((idx_whole r f).1.symm.trans h0)
    have e := (idx_whole r f).2.symm.trans h1
  · exact (act4_at r _ _ _ b).trans (congrArg₂ (act _) (funext fun k => ld_cols _ 2048 _ k b f e) (funext fun k => ld_cols _ 2048 _ k b f e))
  · exact (act3_at r _ _ _ b).trans (congrArg₂ (act _) (funext fun k => ld_cols _ 1536 _ k b f e) (funext fun k => ld_cols _ 1536 _ k b f e))
  · exact (act2_at r _ _ _ b).trans (congrArg₂ (act _) (funext fun k => ld_cols _ 1024 _ k b f e) (funext fun k => ld_cols _ 1024 _ k b f e))
  · exact (act1_at r _ _ _ _ _ _ b).trans (congrArg₂ (act _) (funext fun k => ld_cols _ 512 _ k b f e) (funext fun k => ld_cols _ 512 _ k b f e))
  · exact (act0_at r _ _ _ _ _ _ b).trans (congrArg₂ (act _) (funext fun k => ld_cols _ 0 _ k b f (e.trans (zero_add _).symm)) (funext fun k => ld_cols _ 0 _ k b f (e.trans (zero_add _).symm)))

theorem OUT_at (r : Fin 512) (j : Fin 1024) :
    OUT x0 x1 x2 x3 x4 x5 x6 x7 x8 (ix3 0 r j) = mix (fun k => x0 (ix3 0 r k)) (fun k => x1 (ix3 0 r k)) (fun k => x2 (ix3 0 r k))
      (fun a k => x3 (ix3 0 a k)) (fun k j => x4 (ix2 k j)) (fun a k => x5 (ix2 a k))
      (fun k f => x6 (ix2 k f)) (fun k f => x7 (ix2 k f)) (fun f j => x8 (ix2 f j)) j := by
  unfold OUT mix
  rw [out_at]
  simp only [ACT_at, H_at, X1_at]
  unfold ffn
  congr 1
  funext j
  pointwise

end block

set_option maxHeartbeats 2000000 in
/-- What a point leaves in the output's buffer is that term. -/
theorem out_eq  (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x1024 .f32) (harg4 : arg4.IsWhole) (arg5 : Memref sig .tc .vmem S1x6x1024 .f32) (harg5 : arg5.IsWhole) (arg6 : Memref sig .tc .vmem S1024x1024 .bf16) (harg6 : arg6.IsWhole) (arg7 : Memref sig .tc .vmem S3x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S512x1024 .f32) (harg12 : arg12.IsWhole) (arg13 : Memref sig .tc .vmem S512x2816 .bf16) (harg13 : arg13.IsWhole)
    (x0 : Vec Ideal S1x512x512 .bf16) (x1 : Vec Ideal S1x512x512 .bf16) (x2 : Vec Ideal S1x512x1024 .f32) (x3 : Vec Ideal S1x6x1024 .f32) (x4 : Vec Ideal S1024x1024 .bf16) (x5 : Vec Ideal S3x1024 .f32) (x6 : Vec Ideal S1024x2816 .bf16) (x7 : Vec Ideal S1024x2816 .bf16) (x8 : Vec Ideal S2816x1024 .bf16)  :
    out0_A_9 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 = OUT x0 x1 x2 x3 x4 x5 x6 x7 x8 := by
  frame_out
  rw [View.readCov_eq_canon']
  rfl

end Cert.Proof.ChannelBlock
-- ==== Proof.ChannelRef.lean ====
/- The channel mixer's reference, stage by stage: its composed term is named in a few stages, and each stage is read at an
   index as the one-token mathematics of ChannelSpec. -/
module

public import proofs.«01_k».proof.Proof.Gen.ChannelReferenceIdeal.Run
public import proofs.«01_k».proof.Proof.ChannelSpec

@[expose] public section
set_option maxRecDepth 16384
noncomputable section
open Idealize.ShloMosaic Idealize.ShloMosaic.TcCoe Idealize.SL.Sem
namespace Cert.Proof.ChannelRef
open Cert.ChannelReferenceIdeal Cert.ChannelReferenceIdeal.Gen Cert.Proof.ChannelSpec

/-- The output projection of the joined halves. -/
def projV (yd yr : FVec Ideal S8x4096x512 .bf16) (w : FVec Ideal S1x1024x1024 .f32) : FVec Ideal S8x4096x1024 .f32 :=
  Host.dotGeneral dot_S8x4096x1024_S1024x1024_S8x4096x1024_2_0_01_1_n_n none
    (extf .f32 (concatenate S8x4096x1024 2 [⟨S8x4096x512, yd⟩, ⟨S8x4096x512, yr⟩] concatenates_S8x4096x512_S8x4096x512_S8x4096x1024_d2) bitsLt_bf16_f32)
    (shapeCast _ w shapeCasts_S1x1024x1024_S1024x1024)

/-- The norm with a gain vector. -/
def rmsV (y : FVec Ideal S8x4096x1024 .f32) (g : FVec Ideal S1x1024 .f32) : FVec Ideal S8x4096x1024 .f32 :=
  mulf (mulf y (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf y y) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ g shapeCasts_S1x1024_S1024)))

/-- A modulation row for every token of its sequence. -/
def rowV (a : FVec Ideal S8x1024 .f32) : FVec Ideal S8x4096x1024 .f32 :=
  broadcastInDim S8x4096x1024 ![0, 1, 2] bcast_S8x1x1024_S8x4096x1024_0_1_2 (broadcastInDim S8x1x1024 ![0, 2] bcast_S8x1024_S8x1x1024_0_2 a)

/-- The gated residual. -/
def residV (x : FVec Ideal S8x4096x1024 .f32) (a : FVec Ideal S8x1024 .f32) (u : FVec Ideal S8x4096x1024 .f32) (g : FVec Ideal S1x1024 .f32) : FVec Ideal S8x4096x1024 .f32 :=
  addf x (mulf (rowV a) (rmsV u g))

/-- The modulated norm. -/
def hV (x1 : FVec Ideal S8x4096x1024 .f32) (g : FVec Ideal S1x1024 .f32) (a4 a3 : FVec Ideal S8x1024 .f32) : FVec Ideal S8x4096x1024 .f32 :=
  addf (mulf (rmsV x1 g) (broadcastInDim S8x4096x1024 ![0, 1, 2] bcast_S8x1x1024_S8x4096x1024_0_1_2
    (addf (broadcastInDim S8x1x1024 ![] bcast_S_S8x1x1024 (constant S_ .f32 0x3F800000#32)) (broadcastInDim S8x1x1024 ![0, 2] bcast_S8x1024_S8x1x1024_0_2 a4)))) (rowV a3)

/-- One of the two wide products. -/
def wideV (h : FVec Ideal S8x4096x1024 .f32) (w : FVec Ideal S1x1024x2816 .f32) : FVec Ideal S8x4096x2816 .f32 :=
  Host.dotGeneral dot_S8x4096x1024_S1024x2816_S8x4096x2816_2_0_01_1_n_n none h (shapeCast _ w shapeCasts_S1x1024x2816_S1024x2816)

/-- The activations. -/
def actV (h : FVec Ideal S8x4096x1024 .f32) (wg wu : FVec Ideal S1x1024x2816 .f32) : FVec Ideal S8x4096x2816 .f32 :=
  mulf (mulf (wideV h wg) (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf (wideV h wg)))))) (wideV h wu)

/-- The feed-forward update. -/
def ffnV (h : FVec Ideal S8x4096x1024 .f32) (wg wu : FVec Ideal S1x1024x2816 .f32) (wd : FVec Ideal S1x2816x1024 .f32) : FVec Ideal S8x4096x1024 .f32 :=
  Host.dotGeneral dot_S8x4096x2816_S2816x1024_S8x4096x1024_2_0_01_1_n_n none (actV h wg wu) (shapeCast _ wd shapeCasts_S1x2816x1024_S2816x1024)

/-- The first residual's result. -/
def x1V (yd yr : FVec Ideal S8x4096x512 .bf16) (x : FVec Ideal S8x4096x1024 .f32) (ada : FVec Ideal S8x6144 .f32) (g0 : FVec Ideal S1x1024 .f32)
    (w : FVec Ideal S1x1024x1024 .f32) : FVec Ideal S8x4096x1024 .f32 :=
  residV x (extractStridedSlice S8x1024 ![0, 2048] ada slices_S8x6144_S8x1024_0_2048) (projV yd yr w) g0

/-- The feed-forward part's input. -/
def hinV (yd yr : FVec Ideal S8x4096x512 .bf16) (x : FVec Ideal S8x4096x1024 .f32) (ada : FVec Ideal S8x6144 .f32) (g0 g1 : FVec Ideal S1x1024 .f32)
    (w : FVec Ideal S1x1024x1024 .f32) : FVec Ideal S8x4096x1024 .f32 :=
  hV (x1V yd yr x ada g0 w) g1 (extractStridedSlice S8x1024 ![0, 4096] ada slices_S8x6144_S8x1024_0_4096) (extractStridedSlice S8x1024 ![0, 3072] ada slices_S8x6144_S8x1024_0_3072)

/-- The whole reference. -/
def outV (yd yr : FVec Ideal S8x4096x512 .bf16) (x : FVec Ideal S8x4096x1024 .f32) (ada : FVec Ideal S8x6144 .f32) (g0 g1 g2 : FVec Ideal S1x1024 .f32)
    (w : FVec Ideal S1x1024x1024 .f32) (wg wu : FVec Ideal S1x1024x2816 .f32) (wd : FVec Ideal S1x2816x1024 .f32) : FVec Ideal S8x4096x1024 .f32 :=
  residV (x1V yd yr x ada g0 w) (extractStridedSlice S8x1024 ![0, 5120] ada slices_S8x6144_S8x1024_0_5120) (ffnV (hinV yd yr x ada g0 g1 w) wg wu wd) g2

set_option maxHeartbeats 4000000 in
/-- The reference's composed term is the stages put together. -/
theorem res_eq (m : (ℓ : Loc nD τ sig) → Buf (Elt Ideal) ℓ) (c : Dev nD) :
    Value.res_out0 m c = outV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) := by
  unfold Value.res_out0 Value.res_main_v75
  rfl

variable (b : Fin 8) (t : Fin 4096) (j : Fin 1024)

theorem rmsV_at (y : FVec Ideal S8x4096x1024 .f32) (g : FVec Ideal S1x1024 .f32) :
    rmsV y g (ix3 b t j) = rms (fun k => y (ix3 b t k)) (fun k => g (ix2 0 k)) j := by
  pointwise [rmsV, rms]

theorem residV_at (x : FVec Ideal S8x4096x1024 .f32) (a : FVec Ideal S8x1024 .f32) (u : FVec Ideal S8x4096x1024 .f32) (g : FVec Ideal S1x1024 .f32) :
    residV x a u g (ix3 b t j) = resid (fun k => x (ix3 b t k)) (fun k => a (ix2 b k)) (fun k => u (ix3 b t k)) (fun k => g (ix2 0 k)) j := by
  pointwise [residV, resid, rowV, rmsV, rms]

theorem hV_at (x1 : FVec Ideal S8x4096x1024 .f32) (g : FVec Ideal S1x1024 .f32) (a4 a3 : FVec Ideal S8x1024 .f32) :
    hV x1 g a4 a3 (ix3 b t j) = modnorm (fun k => x1 (ix3 b t k)) (fun k => g (ix2 0 k)) (fun k => a4 (ix2 b k)) (fun k => a3 (ix2 b k)) j := by
  pointwise [hV, modnorm, rowV, rmsV, rms]

theorem actV_at (h : FVec Ideal S8x4096x1024 .f32) (wg wu : FVec Ideal S1x1024x2816 .f32) (f : Fin 2816) :
    actV h wg wu (ix3 b t f) = act (fun k => h (ix3 b t k)) (fun k => wg (ix3 0 k f)) (fun k => wu (ix3 0 k f)) := by
  pointwise [actV, act, silu, wideV]

theorem ffnV_at (h : FVec Ideal S8x4096x1024 .f32) (wg wu : FVec Ideal S1x1024x2816 .f32) (wd : FVec Ideal S1x2816x1024 .f32) :
    ffnV h wg wu wd (ix3 b t j) = ffn (fun k => h (ix3 b t k)) (fun k f => wg (ix3 0 k f)) (fun k f => wu (ix3 0 k f)) (fun f j => wd (ix3 0 f j)) j := by
  unfold ffn
  simp only [← actV_at b t h wg wu]
  pointwise [ffnV]

theorem projV_at (yd yr : FVec Ideal S8x4096x512 .bf16) (w : FVec Ideal S1x1024x1024 .f32) :
    projV yd yr w (ix3 b t j) = proj (fun k => yd (ix3 b t k)) (fun k => yr (ix3 b t k)) (fun k j => w (ix3 0 k j)) j := by
  pointwise [projV, proj]

/-- The first residual, of one token. -/
theorem x1V_at (yd yr : FVec Ideal S8x4096x512 .bf16) (x : FVec Ideal S8x4096x1024 .f32) (ada : FVec Ideal S8x6144 .f32) (g0 : FVec Ideal S1x1024 .f32)
    (w : FVec Ideal S1x1024x1024 .f32) :
    x1V yd yr x ada g0 w (ix3 b t j) = resid (fun k => x (ix3 b t k)) (fun k => ada (ix2 b ⟨2 * 1024 + k, by omega⟩))
      (proj (fun k => yd (ix3 b t k)) (fun k => yr (ix3 b t k)) (fun k j => w (ix3 0 k j))) (fun k => g0 (ix2 0 k)) j := by
  unfold x1V
  rw [residV_at]
  simp only [projV_at]
  congr 1
  funext k
  pointwise

/-- The whole reference, of one token. -/
theorem outV_at (yd yr : FVec Ideal S8x4096x512 .bf16) (x : FVec Ideal S8x4096x1024 .f32) (ada : FVec Ideal S8x6144 .f32) (g0 g1 g2 : FVec Ideal S1x1024 .f32)
    (w : FVec Ideal S1x1024x1024 .f32) (wg wu : FVec Ideal S1x1024x2816 .f32) (wd : FVec Ideal S1x2816x1024 .f32) :
    outV yd yr x ada g0 g1 g2 w wg wu wd (ix3 b t j)
      = mix (fun k => yd (ix3 b t k)) (fun k => yr (ix3 b t k)) (fun k => x (ix3 b t k)) (fun a k => ada (ix2 b ⟨a * 1024 + k, by omega⟩))
          (fun k j => w (ix3 0 k j)) (fun a k => (![g0, g1, g2] a : FVec Ideal S1x1024 .f32) (ix2 0 k)) (fun k f => wg (ix3 0 k f)) (fun k f => wu (ix3 0 k f)) (fun f j => wd (ix3 0 f j)) j := by
  unfold outV mix
  rw [residV_at]
  simp only [ffnV_at, hinV, hV_at, x1V_at]
  have e (a : ℕ) (ha : a + 1024 ≤ 6144) (h) : (fun k : Fin 1024 => extractStridedSlice S8x1024 ![0, a] ada h (ix2 b k)) = fun k : Fin 1024 => ada (ix2 b ⟨a + k, by omega⟩) := by
    funext k
    pointwise
  rw [e 5120 (by omega), e 4096 (by omega), e 3072 (by omega)]
  rfl
end Cert.Proof.ChannelRef
-- ==== Proof.ChannelValue.lean ====
/- The channel mixer's result array: block by block it is the one-token mathematics of the argument arrays, which is what the
   reference computes. -/
module

public import proofs.«01_k».proof.Proof.ChannelBlock
public import proofs.«01_k».proof.Proof.ChannelRef

@[expose] public section
set_option maxRecDepth 16384
noncomputable section
open Idealize.ShloMosaic Idealize.ShloMosaic.TcCoe Idealize.SL.Sem
namespace Cert.Proof.ChannelValue
open Cert.ChannelIdeal Cert.ChannelIdeal.Gen Cert.Proof.ChannelSpec

variable (m : (ℓ : Loc nD τ sig) → Buf (Elt Ideal) ℓ)

/-- The windows' block indices, at every grid point. -/
theorem idx : ∀ t : Fin cfg0.N,
    win0_0.index t = ![(grid0.coords t 0).val, (grid0.coords t 1).val, 0] ∧ win0_1.index t = ![(grid0.coords t 0).val, (grid0.coords t 1).val, 0]
    ∧ win0_2.index t = ![(grid0.coords t 0).val, (grid0.coords t 1).val, 0] ∧ win0_3.index t = ![(grid0.coords t 0).val, 0, 0]
    ∧ win0_4.index t = ![0, 0] ∧ win0_5.index t = ![0, 0] ∧ win0_6.index t = ![0, 0] ∧ win0_7.index t = ![0, 0] ∧ win0_8.index t = ![0, 0]
    ∧ win0_9.index t = ![(grid0.coords t 0).val, (grid0.coords t 1).val, 0] :=
  (by decide +kernel : ∀ t : Fin grid0.N, _)

/-- The stack of three gains the region finds. -/
def gains (g0 g1 g2 : FVec Ideal S1x1024 .f32) : FVec Ideal S3x1024 .f32 :=
  concatenate S3x1024 0 [⟨S1x1024, (broadcastInDim S1x1024 ![1] bcast_S1024_S1x1024_1 (shapeCast S1024 g0 shapeCasts_S1x1024_S1024 : FVec Ideal S1024 .f32) : FVec Ideal S1x1024 .f32)⟩, ⟨S1x1024, (broadcastInDim S1x1024 ![1] bcast_S1024_S1x1024_1 (shapeCast S1024 g1 shapeCasts_S1x1024_S1024 : FVec Ideal S1024 .f32) : FVec Ideal S1x1024 .f32)⟩, ⟨S1x1024, (broadcastInDim S1x1024 ![1] bcast_S1024_S1x1024_1 (shapeCast S1024 g2 shapeCasts_S1x1024_S1024 : FVec Ideal S1024 .f32) : FVec Ideal S1x1024 .f32)⟩] concatenates_S1x1024_S1x1024_S1x1024_S3x1024_d0
theorem V7 (c : Dev nD) : V m c main_v7 = gains (m ((c : Thread nD τ).loc main_arg4)) (m ((c : Thread nD τ).loc main_arg5)) (m ((c : Thread nD τ).loc main_arg6)) := by
  unfold V
  sl_kernel_rfl
theorem gains_at (g0 g1 g2 : FVec Ideal S1x1024 .f32) (a : Fin 3) (k : Fin 1024) : gains g0 g1 g2 (ix2 a k) = (![g0, g1, g2] a) (ix2 0 k) := by
  fin_cases a <;> pointwise [gains]

section reads
variable (c : Dev nD) (t : Fin cfg0.N)

/-- The sequence a grid point works on. -/
def bat : Fin 8 := grid0.coords t 0
/-- The token of row `r` of a grid point's blocks. -/
def tok (r : Fin 512) : Fin 4096 := ⟨(grid0.coords t 1).val * 512 + r, by have h : (grid0.coords t 1).val < 8 := (grid0.coords t 1).isLt; omega⟩

theorem read0 (r : Fin 512) (k : Fin 512) : iblk m c 0 t (ix3 0 r k) = m ((c : Thread nD τ).loc main_arg0) (ix3 (bat t) (tok t r) k) := by
  blk_ext! [iblk, V, idx t, bat, tok]
theorem read1 (r : Fin 512) (k : Fin 512) : iblk m c 1 t (ix3 0 r k) = m ((c : Thread nD τ).loc main_arg1) (ix3 (bat t) (tok t r) k) := by
  blk_ext! [iblk, V, idx t, bat, tok]
theorem read2 (r : Fin 512) (k : Fin 1024) : iblk m c 2 t (ix3 0 r k) = m ((c : Thread nD τ).loc main_arg2) (ix3 (bat t) (tok t r) k) := by
  blk_ext! [iblk, V, idx t, bat, tok]
theorem read3 (a : Fin 6) (k : Fin 1024) : iblk m c 3 t (ix3 0 a k) = m ((c : Thread nD τ).loc main_arg3) (ix2 (bat t) ⟨a * 1024 + k, by omega⟩) := by
  blk_ext! [iblk, V, idx t, bat, tok]
theorem read4 (k j : Fin 1024) : iblk m c 4 t (ix2 k j) = m ((c : Thread nD τ).loc main_arg7) (ix3 0 k j) := by
  blk_ext! [iblk, V, idx t]
theorem read5 (a : Fin 3) (k : Fin 1024) : iblk m c 5 t (ix2 a k)
    = (![m ((c : Thread nD τ).loc main_arg4), m ((c : Thread nD τ).loc main_arg5), m ((c : Thread nD τ).loc main_arg6)] a : FVec Ideal S1x1024 .f32) (ix2 0 k) := by
  have h : iblk m c 5 t (ix2 a k) = V m c main_v7 (ix2 a k) := by blk_ext [iblk, idx t]
  rw [h, V7]
  exact gains_at _ _ _ a k
theorem read6 (k : Fin 1024) (f : Fin 2816) : iblk m c 6 t (ix2 k f) = m ((c : Thread nD τ).loc main_arg8) (ix3 0 k f) := by
  blk_ext! [iblk, V, idx t]
theorem read7 (k : Fin 1024) (f : Fin 2816) : iblk m c 7 t (ix2 k f) = m ((c : Thread nD τ).loc main_arg9) (ix3 0 k f) := by
  blk_ext! [iblk, V, idx t]
theorem read8 (f : Fin 2816) (k : Fin 1024) : iblk m c 8 t (ix2 f k) = m ((c : Thread nD τ).loc main_arg10) (ix3 0 f k) := by
  blk_ext! [iblk, V, idx t]
end reads

/-- The reference's function of this program's argument arrays. -/
def G (c : Dev nD) : FVec Ideal S8x4096x1024 .f32 :=
  ChannelRef.outV (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))

/-- The result array after the run. -/
theorem final (c : Dev nD) : (dats m 0 c).arrAt 9 (cfgs 0).N = G m c := by
  refine (dats m 0 c).arrAt_eq_of_covers 9 _ (by decide +kernel) fun t _ y => ?_
  blk_simp
  rw [after0_9]
  unfold outsAt0
  rw [ChannelBlock.out_eq]
  obtain ⟨a, r, j, rfl⟩ : ∃ a r j, y = ix3 a r j := ⟨y 0, y 1, y 2, eq_ix3 y⟩
  obtain rfl : a = 0 := Subsingleton.elim _ _
  rw [ChannelBlock.OUT_at]
  simp only [read0, read1, read2, read3, read4, read5, read6, read7, read8]
  have e : ((cfg0.win 9).blk t).view.emb (ix3 0 r j) = ix3 (bat t) (tok t r) j := by
    blk_ext [idx t, bat, tok]
  rw [e]
  exact (ChannelRef.outV_at (bat t) (tok t r) j _ _ _ _ _ _ _ _ _ _ _).symm
end Cert.Proof.ChannelValue
-- ==== Proof.Channel.lean ====
/- The channel mixer's claims: the program and its idealisation run and keep their arguments, so does the plain reference, and
   over the extended reals both give the same array. -/
module

public import proofs.«01_k».proof.Defs
public import proofs.«01_k».proof.Proof.Gen.Channel.Frame
public import proofs.«01_k».proof.Proof.ChannelValue
public import Idealize.ShloMosaic.Lib.Quiescent

@[expose] public section
noncomputable section
open Idealize.ShloMosaic Idealize.ShloMosaic.TcCoe Idealize.SL.Sem
namespace Cert.Proof.Channel

/-- The program runs, its arguments unchanged. -/
theorem frame : Cert.quiescent_Channel (hChannel := Cert.Channel.Gen.facts) := fun m ρ _ => Cert.Channel.Gen.frame m ρ
/-- Its idealisation runs, its arguments unchanged. -/
theorem frame_ideal : Cert.quiescent_ChannelIdeal (hChannelIdeal := Cert.ChannelIdeal.Gen.facts) := fun m ρ _ => Cert.ChannelIdeal.Gen.frame m ρ
/-- The reference runs, its arguments unchanged. -/
theorem frame_reference : Cert.quiescent_ChannelReferenceIdeal (hChannelReferenceIdeal := Cert.ChannelReferenceIdeal.Gen.facts) := fun m ρ _ =>
  (θ_run Cert.ChannelReferenceIdeal.defs _ _).mono (fun r h => ⟨fun c => (h c).2, sem_eq_zero_of_no_sems (by decide) r.2⟩) (Cert.ChannelReferenceIdeal.Value.run m ρ)
/-- The idealisation rewrote nothing. -/
theorem preserved : Cert.preserves_Channel_ChannelIdeal := trivial
/-- Over the extended reals the program computes the reference's array. -/
theorem value : Cert.algebraic_ChannelIdeal_ChannelReferenceIdeal (hChannelIdeal := Cert.ChannelIdeal.Gen.facts)
    (hChannelReferenceIdeal := Cert.ChannelReferenceIdeal.Gen.facts) := by
  intro m ρ m' ρ' _ h
  refine ⟨fun c => ChannelValue.G m c, ?_, ?_⟩
  · exact (θ_run Cert.ChannelIdeal.defs _ _).mono (fun r k c => ⟨(k c).1.trans (ChannelValue.final m c), (k c).2⟩) (Cert.ChannelIdeal.Value.run_blocks m ρ)
  · refine (θ_run Cert.ChannelReferenceIdeal.defs _ _).mono (fun r k c => ⟨(k c).1.trans ?_, (k c).2⟩) (Cert.ChannelReferenceIdeal.Value.run m' ρ')
    obtain ⟨h0, h1, h2, h3, h4, h5, h6, h7, h8, h9, h10⟩ := h c
    refine (ChannelRef.res_eq m' c).trans ?_
    rw [h0, h1, h2, h3, h4, h5, h6, h7, h8, h9, h10]
    rfl

end Cert.Proof.Channel
-- ==== Proof.PremixSpec.lean ====
/- The mathematics of the mixer's front end for one token, over the extended reals: the token-shift interpolation, the scaled
   and the plain projections, and the low-rank features with their three activations. The modulated norm is the channel
   mixer's. The kernel and the reference are each read, element by element, as these functions. -/
module

public import proofs.«01_k».proof.Proof.ChannelSpec

@[expose] public section
noncomputable section
open Idealize.ShloMosaic Idealize.SL.Sem
namespace Cert.Proof.PremixSpec

/-- One entry of a projection. -/
def dot (h w : Fin 1024 → EReal) : EReal := ∑ k, h k * w k

/-- The value of a sequence one token earlier, zero before its start. -/
def before (p : Fin 4096 → EReal) (t : Fin 4096) : EReal := if t.val = 0 then 0 else p ⟨t.val - 1, by omega⟩

/-- The interpolation of a token's value with the earlier one. -/
def lerp (p prev mu : EReal) : EReal := p + (prev - p) * mu

/-- The logistic function. -/
def sigm (z : EReal) : EReal := Ideal.div 1 (1 + Ideal.exp (-z))

/-- The low-rank features: 64 columns through the hyperbolic tangent, 64 as they are, 128 through the logistic function. -/
def low (xw xa xg : Fin 1024 → EReal) (w1 a1 : Fin 1024 → Fin 64 → EReal) (g1 : Fin 1024 → Fin 128 → EReal) (l : Fin 256) : EReal :=
  if hl : l.val < 64 then Ideal.tanh (dot xw fun k => w1 k ⟨l.val, hl⟩)
  else if h2 : l.val < 128 then dot xa fun k => a1 k ⟨l.val - 64, by omega⟩
  else sigm (dot xg fun k => g1 k ⟨l.val - 128, by omega⟩)

end Cert.Proof.PremixSpec
-- ==== Proof.PremixBlock.lean ====
/- What one grid point of the mixer's front end leaves in its output blocks and in its carried rows, element by element. -/
module

public import proofs.«01_k».proof.Proof.Gen.PremixIdeal.Value
public import proofs.«01_k».proof.Proof.PremixSpec
public import Idealize.ShloMosaic.Lib.Pipeline.ReadBack
public import Idealize.ShloMosaic.Lib.KernelVsHost

@[expose] public section
set_option maxRecDepth 16384
noncomputable section
open Idealize.ShloMosaic Idealize.ShloMosaic.TcCoe Idealize.SL.Sem
namespace Cert.Proof.PremixBlock
open Cert.PremixIdeal Cert.PremixIdeal.Gen Cert.Proof.ChannelSpec Cert.Proof.PremixSpec

/-- The value one row earlier in a block, `c` before the block's first row. -/
def prevRow (c : EReal) (p : Fin 1024 → EReal) (r : Fin 1024) : EReal := if r.val = 0 then c else p ⟨r.val - 1, by omega⟩

/-- The activation of a feature's column. -/
def feature (l : Fin 256) (z : EReal) : EReal := if l.val < 64 then Ideal.tanh z else if l.val < 128 then z else sigm z

/-! ## The payloads, one element at a time -/

section payloads
variable (r : Fin 1024)

theorem h_at (x0 : Vec Ideal S1x1024x1024 .f32) (x1 : Vec Ideal S1x6x1024 .f32) (x2 : Vec Ideal S1x1024 .f32) (k : Fin 1024) :
    k0_pay4 (F := Ideal) x0 x1 x2 (ix2 r k) = modnorm (fun k => x0 (ix3 0 r k)) (fun k => x2 (ix2 0 k)) (fun k => x1 (ix3 0 1 k)) (fun k => x1 (ix3 0 0 k)) k := by
  pointwise [k0_pay4, modnorm, rms]

/-- A block's rows rotated by one, the first replaced by a given one: the choice at one element. -/
theorem rows_before (c : EReal) (p : Fin 1024 → EReal) :
    Scalar.select (IntOp.cmpi CmpIPredicate.eq (BitVec.ofNat 32 r.val) 0#32) c (p ⟨(r.val + 1024 - 1) % 1024, Nat.mod_lt _ (by omega)⟩) = prevRow c p r := by
  have e := (by decide +kernel : ∀ r : Fin 1024, IntOp.cmpi CmpIPredicate.eq (BitVec.ofNat 32 r.val) 0#32 = if r.val = 0 then 1#1 else 0#1) r
  unfold prevRow
  rw [e]
  by_cases h : r.val = 0
  · rw [if_pos h, if_pos h]; rfl
  · rw [if_neg h, if_neg h]
    refine congrArg p (Fin.ext ?_)
    show (r.val + 1024 - 1) % 1024 = r.val - 1
    omega

theorem dh_at (h : FVec Ideal S1024x1024 .f32) (v : Vec Ideal S1x1024 .f32) (k : Fin 1024) :
    k0_pay11 (F := Ideal) h v (ix2 r k) = prevRow (v (ix2 0 k)) (fun r => h (ix2 r k)) r - h (ix2 r k) := by
  rw [← rows_before]
  pointwise [k0_pay11]

theorem mixh_at (h : FVec Ideal S1024x1024 .f32) (v mu : Vec Ideal S1x1024 .f32) (k : Fin 1024) :
    k0_pay12 (F := Ideal) h v mu (ix2 r k) = lerp (h (ix2 r k)) (prevRow (v (ix2 0 k)) (fun r => h (ix2 r k)) r) (mu (ix2 0 k)) := by
  unfold lerp
  rw [← dh_at]
  pointwise [k0_pay12]

theorem q_at (x0 : Vec Ideal S1x1024x1024 .f32) (x1 : Vec Ideal S1x6x1024 .f32) (x2 : Vec Ideal S1x1024 .f32) (w : Vec Ideal S1024x512 .bf16) (j : Fin 512) :
    k0_pay7 (F := Ideal) (k0_pay6 x0 x1 x2 w) (ix3 0 r j) = dot (fun k => k0_pay4 (F := Ideal) x0 x1 x2 (ix2 r k)) (fun k => w (ix2 k j)) * Ideal.ofBits FTy.f32 0x3E000000#32 := by
  pointwise [k0_pay7, k0_pay6, k0_pay5, dot]

theorem p_at (h : FVec Ideal S1024x1024 .bf16) (w : Vec Ideal S1024x512 .bf16) (j : Fin 512) :
    k0_pay21 (F := Ideal) h w (ix2 r j) = dot (fun k => h (ix2 r k)) (fun k => w (ix2 k j)) := by
  pointwise [k0_pay21, dot]

theorem kv_at (h : FVec Ideal S1024x1024 .bf16) (w : Vec Ideal S1024x512 .bf16) (j : Fin 512) :
    k0_pay8 (F := Ideal) h w (ix3 0 r j) = dot (fun k => h (ix2 r k)) (fun k => w (ix2 k j)) := by
  pointwise [k0_pay8, dot]

theorem pb_at (h : FVec Ideal S1024x1024 .bf16) (w : Vec Ideal S1024x512 .bf16) (v : Vec Ideal S1x512 .f32) (j : Fin 512) :
    k0_pay22 (F := Ideal) h w v (ix2 r j) = prevRow (v (ix2 0 j)) (fun r => k0_pay21 (F := Ideal) h w (ix2 r j)) r := by
  rw [← rows_before]
  pointwise [k0_pay22]

theorem mixp_at (p s : FVec Ideal S1024x512 .f32) (mu : Vec Ideal S1x512 .f32) (j : Fin 512) :
    k0_pay25 (F := Ideal) p s mu (ix3 0 r j) = lerp (p (ix2 r j)) (s (ix2 r j)) (mu (ix2 0 j)) := by
  pointwise [k0_pay25, lerp]

theorem z_at (a b c : FVec Ideal S1024x1024 .bf16) (w0 w1 w2 : Vec Ideal S1x1024x256 .bf16) (l : Fin 256) :
    k0_pay26 (F := Ideal) a b c w0 w1 w2 (ix2 r l) = dot (fun k => a (ix2 r k)) (fun k => w0 (ix3 0 k l)) + dot (fun k => b (ix2 r k)) (fun k => w1 (ix3 0 k l))
      + dot (fun k => c (ix2 r k)) (fun k => w2 (ix3 0 k l)) := by
  pointwise [k0_pay26, dot]

theorem low_at (a b c : FVec Ideal S1024x1024 .bf16) (w0 w1 w2 : Vec Ideal S1x1024x256 .bf16) (l : Fin 256) :
    k0_pay1 (F := Ideal) (k0_pay26 a b c w0 w1 w2) k0_pay27 (k0_pay28 a b c w0 w1 w2) k0_pay29 (k0_pay30 a b c w0 w1 w2) (ix3 0 r l)
      = feature l (k0_pay26 (F := Ideal) a b c w0 w1 w2 (ix2 r l)) := by
  generalize hz : k0_pay26 (F := Ideal) a b c w0 w1 w2 = z
  unfold k0_pay28 k0_pay30
  rw [hz]
  have e := (by decide +kernel : ∀ l : Fin 256, IntOp.cmpi CmpIPredicate.slt (BitVec.ofNat 32 l.val) 64#32 = (if l.val < 64 then 1#1 else 0#1)
    ∧ IntOp.cmpi CmpIPredicate.slt (BitVec.ofNat 32 l.val) 128#32 = if l.val < 128 then 1#1 else 0#1) l
  pointwise [k0_pay1, k0_pay27, k0_pay29, feature, sigm]
  rw [e.1, e.2, zero_sub]
  by_cases h : l.val < 64
  · rw [if_pos h, if_pos h]; rfl
  · rw [if_neg h, if_neg h]
    by_cases h2 : l.val < 128
    · rw [if_pos h2, if_pos h2]; rfl
    · rw [if_neg h2, if_neg h2]; rfl

end payloads

/-! ## Rows of the carried buffers -/

section rows
variable {n : ℕ}

theorem row_emb (a : Fin 8) (inb) (j : Fin n) : (Rect.unit (s := ⟨2, ![8, n]⟩) ![a.val, 0] ![1, n] inb).emb (ix2 (0 : Fin 1) j) = ix2 a j := by
  refine Rect.emb_eq_of_coords _ _ _ fun b => ?_
  fin_cases b
  · show a.val = a.val + 1 * 0; omega
  · show j.val = 0 + 1 * j.val; omega

theorem row_mem (a : Fin 8) (inb) (j : Fin n) : ix2 a j ∈ (Rect.unit (s := ⟨2, ![8, n]⟩) ![a.val, 0] ![1, n] inb).set := by
  rw [← row_emb a inb j, ← Rect.map_emb_univ]
  exact Finset.mem_map_of_mem _ (Finset.mem_univ _)

theorem row_hit (a : Fin 8) (inb) (w : FVec Ideal ⟨2, ![1, n]⟩ .f32) (L : List (View.Piece (Elt Ideal) ⟨2, ![8, n]⟩ .f32)) (j : Fin n) :
    View.canon (⟨Rect.unit (s := ⟨2, ![8, n]⟩) ![a.val, 0] ![1, n] inb, w⟩ :: L) (ix2 a j) = w (ix2 0 j) := by
  rw [← row_emb a inb j]
  exact View.canon_cons_emb _ _ _ _

theorem row_miss (a b : Fin 8) (hab : a ≠ b) (inb) (w : FVec Ideal ⟨2, ![1, n]⟩ .f32) (L : List (View.Piece (Elt Ideal) ⟨2, ![8, n]⟩ .f32)) (j : Fin n) :
    View.canon (⟨Rect.unit (s := ⟨2, ![8, n]⟩) ![a.val, 0] ![1, n] inb, w⟩ :: L) (ix2 b j) = View.canon L (ix2 b j) := by
  refine View.canon_cons_of_not_mem _ _ (Rect.not_mem_set_of_axis _ _ (0 : Fin 2) a.val 1 rfl rfl rfl ?_)
  have : a.val ≠ b.val := fun h => hab (Fin.ext h)
  show b.val < a.val ∨ a.val + 1 ≤ b.val
  omega

/-- A load of a row reads what the stores left there. -/
theorem load_row {κ : Kind} {sp : Space} (v : View sig κ sp ⟨2, ![8, n]⟩ .f32) (a : Fin 8) (inb) (L : List (View.Piece (Elt Ideal) ⟨2, ![8, n]⟩ .f32)) (j : Fin n) :
    v.readCov L (Rect.unit (s := ⟨2, ![8, n]⟩) ![a.val, 0] ![1, n] inb).toLoadRect (ix2 (0 : Fin 1) j) = View.canon L (ix2 a j) := by
  rw [View.readCov_eq_canon']
  exact congrArg (View.canon L) (row_emb a inb j)

theorem fill_at (inb) (Z : FVec Ideal ⟨2, ![8, n]⟩ .f32) (y) :
    View.canon ([⟨Rect.unit (s := ⟨2, ![8, n]⟩) ![0, 0] ![8, n] inb, Z⟩] : List (View.Piece (Elt Ideal) ⟨2, ![8, n]⟩ .f32)) y = Z y := by
  have h : ∀ a, (![0, 0] : Fin 2 → ℕ) a = 0 := fun a => by fin_cases a <;> rfl
  exact congrFun (View.canon_cons_unit_lit (Val := Elt Ideal) (e := .f32) (S := ⟨2, ![8, n]⟩) inb Z [] h) y

theorem pay2_at (y) : k0_pay2 (F := Ideal) y = 0 := by pointwise [k0_pay2]
theorem pay3_at (y) : k0_pay3 (F := Ideal) y = 0 := by pointwise [k0_pay3]

end rows

/-! ## A point's results over its input blocks -/

section block
variable (x0 : Vec Ideal S1x1024x1024 .f32) (x1 : Vec Ideal S1x6x1024 .f32) (x2 : Vec Ideal S1x1024 .f32) (x3 : Vec Ideal S1024x3072 .bf16)
  (x4 : Vec Ideal S3x1024x256 .bf16) (x5 : Vec Ideal S3x1024 .f32) (x6 : Vec Ideal S3x512 .f32)

/-- The modulated norm of a block's row. -/
def HR (r k : Fin 1024) : EReal := modnorm (fun k => x0 (ix3 0 r k)) (fun k => x2 (ix2 0 k)) (fun k => x1 (ix3 0 1 k)) (fun k => x1 (ix3 0 0 k)) k

/-- One entry of the wide product of a block's row. -/
def PR (r : Fin 1024) (l : Fin 3072) : EReal := dot (HR x0 x1 x2 r) (fun k => x3 (ix2 k l))

/-- A projection's entry interpolated with the earlier row's, `c` before the block. -/
def MIX (o : ℕ) (ho : o + 512 ≤ 3072) (i : Fin 3) (c : Fin 512 → EReal) (r : Fin 1024) (j : Fin 512) : EReal :=
  lerp (PR x0 x1 x2 x3 r ⟨o + j, by omega⟩) (prevRow (c j) (fun r => PR x0 x1 x2 x3 r ⟨o + j, by omega⟩) r) (x6 (ix2 i j))

/-- The same of the normed row. -/
def HX (i : Fin 3) (c : Fin 1024 → EReal) (r k : Fin 1024) : EReal :=
  lerp (HR x0 x1 x2 r k) (prevRow (c k) (fun r => HR x0 x1 x2 r k) r) (x5 (ix2 i k))

/-- The low-rank features of a row. -/
def LOW (c : Fin 1024 → EReal) (r : Fin 1024) (l : Fin 256) : EReal :=
  feature l (dot (HX x0 x1 x2 x5 0 c r) (fun k => x4 (ix3 0 k l)) + dot (HX x0 x1 x2 x5 1 c r) (fun k => x4 (ix3 1 k l)) + dot (HX x0 x1 x2 x5 2 c r) (fun k => x4 (ix3 2 k l)))

theorem q_blk (inb) (r : Fin 1024) (j : Fin 512) :
    k0_pay7 (F := Ideal) (k0_pay6 x0 x1 x2 (View.ld x3 (Rect.unit (s := S1024x3072) ![0, 0] ![1024, 512] inb))) (ix3 0 r j) = PR x0 x1 x2 x3 r ⟨j, by omega⟩ * Ideal.ofBits FTy.f32 0x3E000000#32 := by
  rw [q_at]
  simp only [h_at]
  unfold PR
  congr 2
  funext k
  pointwise

theorem hb_at (r k : Fin 1024) : k0_pay5 (F := Ideal) x0 x1 x2 (ix2 r k) = HR x0 x1 x2 r k := by
  unfold HR
  rw [← h_at]
  pointwise [k0_pay5]

theorem p_blk (o : ℕ) (ho : o + 512 ≤ 3072) (inb) (r : Fin 1024) (j : Fin 512) :
    k0_pay21 (F := Ideal) (k0_pay5 x0 x1 x2) (View.ld x3 (Rect.unit (s := S1024x3072) ![0, o] ![1024, 512] inb)) (ix2 r j) = PR x0 x1 x2 x3 r ⟨o + j, by omega⟩ := by
  rw [p_at]
  simp only [hb_at]
  unfold PR
  congr 1
  funext k
  pointwise

theorem kv_blk (o : ℕ) (ho : o + 512 ≤ 3072) (inb) (r : Fin 1024) (j : Fin 512) :
    k0_pay8 (F := Ideal) (k0_pay5 x0 x1 x2) (View.ld x3 (Rect.unit (s := S1024x3072) ![0, o] ![1024, 512] inb)) (ix3 0 r j) = PR x0 x1 x2 x3 r ⟨o + j, by omega⟩ := by
  rw [kv_at, ← p_at, p_blk _ _ _ _ o ho]

theorem mix_blk (o : ℕ) (ho : o + 512 ≤ 3072) (inb) (i : Fin 3) (inb') (v : Vec Ideal S1x512 .f32) (c : Fin 512 → EReal) (hv : ∀ j, v (ix2 0 j) = c j) (r : Fin 1024) (j : Fin 512) :
    k0_pay17 (F := Ideal) (k0_pay5 x0 x1 x2) (View.ld x3 (Rect.unit (s := S1024x3072) ![0, o] ![1024, 512] inb)) v
      (View.ld x6 (Rect.unit (s := S3x512) ![i.val, 0] ![1, 512] inb')) (ix3 0 r j) = MIX x0 x1 x2 x3 x6 o ho i c r j := by
  refine (mixp_at r (k0_pay21 (F := Ideal) (k0_pay5 x0 x1 x2) (View.ld x3 (Rect.unit (s := S1024x3072) ![0, o] ![1024, 512] inb)))
    (k0_pay22 (k0_pay5 x0 x1 x2) (View.ld x3 (Rect.unit (s := S1024x3072) ![0, o] ![1024, 512] inb)) v) _ j).trans ?_
  rw [pb_at]
  simp only [p_blk _ _ _ _ o ho, hv]
  unfold MIX
  congr 1
  pointwise

theorem hx_blk (i : Fin 3) (inb') (v : Vec Ideal S1x1024 .f32) (c : Fin 1024 → EReal) (hv : ∀ k, v (ix2 0 k) = c k) (r k : Fin 1024) :
    k0_pay12 (F := Ideal) (k0_pay4 x0 x1 x2) v (View.ld x5 (Rect.unit (s := S3x1024) ![i.val, 0] ![1, 1024] inb')) (ix2 r k) = HX x0 x1 x2 x5 i c r k := by
  rw [mixh_at]
  simp only [h_at, hv]
  unfold HX HR
  congr 1
  pointwise

theorem ld_low (i : Fin 3) (inb') (k : Fin 1024) (l : Fin 256) :
    View.ld x4 (Rect.unit (s := S3x1024x256) ![i.val, 0, 0] ![1, 1024, 256] inb') (ix3 0 k l) = x4 (ix3 i k l) := by
  pointwise

/-- The features' block, from the row before the block. -/
def LOWB (v : Vec Ideal S1x1024 .f32) : FVec Ideal S1x1024x256 .bf16 :=
  let a := k0_pay12 (F := Ideal) (k0_pay4 x0 x1 x2) v (View.ld x5 (Rect.unit ![0, 0] ![1, 1024] inb_S3x1024_S1x1024_0_0))
  let b := k0_pay13 (F := Ideal) (k0_pay4 x0 x1 x2) (k0_pay11 (k0_pay4 x0 x1 x2) v) (View.ld x5 (Rect.unit ![1, 0] ![1, 1024] inb_S3x1024_S1x1024_1_0))
  let c := k0_pay14 (F := Ideal) (k0_pay4 x0 x1 x2) (k0_pay11 (k0_pay4 x0 x1 x2) v) (View.ld x5 (Rect.unit ![2, 0] ![1, 1024] inb_S3x1024_S1x1024_2_0))
  let w0 := View.ld x4 (Rect.unit ![0, 0, 0] ![1, 1024, 256] inb_S3x1024x256_S1x1024x256_0_0_0)
  let w1 := View.ld x4 (Rect.unit ![1, 0, 0] ![1, 1024, 256] inb_S3x1024x256_S1x1024x256_1_0_0)
  let w2 := View.ld x4 (Rect.unit ![2, 0, 0] ![1, 1024, 256] inb_S3x1024x256_S1x1024x256_2_0_0)
  k0_pay1 (k0_pay26 a b c w0 w1 w2) k0_pay27 (k0_pay28 a b c w0 w1 w2) k0_pay29 (k0_pay30 a b c w0 w1 w2)

theorem low_blk (v : Vec Ideal S1x1024 .f32) (c : Fin 1024 → EReal) (hv : ∀ k, v (ix2 0 k) = c k) (r : Fin 1024) (l : Fin 256) :
    LOWB x0 x1 x2 x4 x5 v (ix3 0 r l) = LOW x0 x1 x2 x4 x5 c r l := by
  unfold LOWB
  rw [low_at, z_at]
  unfold LOW
  congr 1
  congr 1
  · congr 1
    · exact congrArg₂ dot (funext fun k => hx_blk x0 x1 x2 x5 0 _ v c hv r k) (funext fun k => ld_low x4 0 _ k l)
    · exact congrArg₂ dot (funext fun k => hx_blk x0 x1 x2 x5 1 _ v c hv r k) (funext fun k => ld_low x4 1 _ k l)
  · exact congrArg₂ dot (funext fun k => hx_blk x0 x1 x2 x5 2 _ v c hv r k) (funext fun k => ld_low x4 2 _ k l)

theorem hc_blk (k : Fin 1024) : k0_pay10 (F := Ideal) (k0_pay4 x0 x1 x2) (ix2 0 k) = HR x0 x1 x2 1023 k := by
  unfold HR
  rw [← h_at]
  pointwise [k0_pay10]

theorem pc_blk (o : ℕ) (ho : o + 512 ≤ 3072) (inb) (j : Fin 512) :
    k0_pay16 (F := Ideal) (k0_pay5 x0 x1 x2) (View.ld x3 (Rect.unit (s := S1024x3072) ![0, o] ![1024, 512] inb)) (ix2 0 j) = PR x0 x1 x2 x3 1023 ⟨o + j, by omega⟩ := by
  rw [← p_blk _ _ _ _ o ho inb]
  pointwise [k0_pay16, k0_pay15, k0_pay21]

/-- The rows of projections carried over, the stores from the last on. -/
def PC (L : List (View.Piece (Elt Ideal) S8x512 .f32)) : List (View.Piece (Elt Ideal) S8x512 .f32) :=
  ⟨Rect.unit ![2, 0] ![1, 512] inb_S8x512_S1x512_2_0, k0_pay24 (k0_pay23 (k0_pay5 x0 x1 x2) (View.ld x3 (Rect.unit ![0, 2560] ![1024, 512] inb_S1024x3072_S1024x512_0_2560)))⟩ ::
  ⟨Rect.unit ![1, 0] ![1, 512] inb_S8x512_S1x512_1_0, k0_pay19 (k0_pay5 x0 x1 x2) (View.ld x3 (Rect.unit ![0, 2048] ![1024, 512] inb_S1024x3072_S1024x512_0_2048))⟩ ::
  ⟨Rect.unit ![0, 0] ![1, 512] inb_S8x512_S1x512_0_0, k0_pay16 (k0_pay5 x0 x1 x2) (View.ld x3 (Rect.unit ![0, 1536] ![1024, 512] inb_S1024x3072_S1024x512_0_1536))⟩ :: L

theorem PC_mem (L) (j : Fin 512) :
    (∃ q ∈ PC x0 x1 x2 x3 L, ix2 0 j ∈ q.1.set) ∧ (∃ q ∈ PC x0 x1 x2 x3 L, ix2 1 j ∈ q.1.set) ∧ ∃ q ∈ PC x0 x1 x2 x3 L, ix2 2 j ∈ q.1.set := by
  unfold PC
  exact ⟨⟨_, .tail _ (.tail _ (.head _)), row_mem 0 inb_S8x512_S1x512_0_0 j⟩, ⟨_, .tail _ (.head _), row_mem 1 inb_S8x512_S1x512_1_0 j⟩,
    ⟨_, .head _, row_mem 2 inb_S8x512_S1x512_2_0 j⟩⟩

theorem PC_at (L) (j : Fin 512) :
    View.canon (PC x0 x1 x2 x3 L) (ix2 0 j) = PR x0 x1 x2 x3 1023 ⟨1536 + j, by omega⟩
    ∧ View.canon (PC x0 x1 x2 x3 L) (ix2 1 j) = PR x0 x1 x2 x3 1023 ⟨2048 + j, by omega⟩
    ∧ View.canon (PC x0 x1 x2 x3 L) (ix2 2 j) = PR x0 x1 x2 x3 1023 ⟨2560 + j, by omega⟩ := by
  unfold PC
  refine ⟨?_, ?_, ?_⟩
  · exact (row_miss 2 0 (by decide) _ _ _ j).trans <| (row_miss 1 0 (by decide) _ _ _ j).trans <| (row_hit 0 _ _ _ j).trans (pc_blk x0 x1 x2 x3 1536 (by decide) _ j)
  · exact (row_miss 2 1 (by decide) _ _ _ j).trans <| (row_hit 1 _ _ _ j).trans (pc_blk x0 x1 x2 x3 2048 (by decide) _ j)
  · exact (row_hit 2 _ _ _ j).trans (pc_blk x0 x1 x2 x3 2560 (by decide) _ j)

end block

/-! ## What a point leaves, at a sequence's first block and at the others -/

/-- The rows carried over after a point: the normed row, and the three projections' rows. -/
structure Carried (x0 : Vec Ideal S1x1024x1024 .f32) (x1 : Vec Ideal S1x6x1024 .f32) (x2 : Vec Ideal S1x1024 .f32) (x3 : Vec Ideal S1024x3072 .bf16)
    (s0 : Vec Ideal S8x1024 .f32) (s1 : Vec Ideal S8x512 .f32) : Prop where
  h : ∀ k, s0 (ix2 0 k) = HR x0 x1 x2 1023 k
  p : ∀ j : Fin 512, s1 (ix2 0 j) = PR x0 x1 x2 x3 1023 ⟨1536 + j, by omega⟩ ∧ s1 (ix2 1 j) = PR x0 x1 x2 x3 1023 ⟨2048 + j, by omega⟩
    ∧ s1 (ix2 2 j) = PR x0 x1 x2 x3 1023 ⟨2560 + j, by omega⟩

section cases
variable (c : Dev nD) (i : grid0.Coords) (arg2 : Memref sig .tc .vmem S1x1024x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S3x1024x256 .bf16) (harg6 : arg6.IsWhole) (arg7 : Memref sig .tc .vmem S3x1024 .f32) (harg7 : arg7.IsWhole) (arg8 : Memref sig .tc .vmem S3x512 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1024x512 .bf16) (harg14 : arg14.IsWhole) (arg15 : Memref sig .tc .vmem S1x1024x256 .bf16) (harg15 : arg15.IsWhole) (arg16 : Memref sig .tc .vmem S8x1024 .f32) (harg16 : arg16.IsWhole) (arg17 : Memref sig .tc .vmem S8x512 .f32) (harg17 : arg17.IsWhole)
  (x0 : Vec Ideal S1x1024x1024 .f32) (x1 : Vec Ideal S1x6x1024 .f32) (x2 : Vec Ideal S1x1024 .f32) (x3 : Vec Ideal S1024x3072 .bf16) (x4 : Vec Ideal S3x1024x256 .bf16) (x5 : Vec Ideal S3x1024 .f32) (x6 : Vec Ideal S3x512 .f32)
  (xs0 : Vec Ideal S8x1024 .f32) (xs1 : Vec Ideal S8x512 .f32)

set_option maxHeartbeats 2000000 in
theorem out_A_7 (hc0 : cond0_0 i) (r : Fin 1024) (j : Fin 512) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = PR x0 x1 x2 x3 r ⟨j, by omega⟩ * Ideal.ofBits FTy.f32 0x3E000000#32 := by
  frame_out
  exact q_blk x0 x1 x2 x3 _ r j

set_option maxHeartbeats 2000000 in
theorem out_A_8 (hc0 : cond0_0 i) (r : Fin 1024) (j : Fin 512) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = PR x0 x1 x2 x3 r ⟨512 + j, by omega⟩ := by
  frame_out
  exact kv_blk x0 x1 x2 x3 512 (by decide) _ r j

set_option maxHeartbeats 2000000 in
theorem out_A_9 (hc0 : cond0_0 i) (r : Fin 1024) (j : Fin 512) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = PR x0 x1 x2 x3 r ⟨1024 + j, by omega⟩ := by
  frame_out
  exact kv_blk x0 x1 x2 x3 1024 (by decide) _ r j

set_option maxHeartbeats 2000000 in
theorem out_A_10 (hc0 : cond0_0 i) (r : Fin 1024) (j : Fin 512) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = MIX x0 x1 x2 x3 x6 1536 (by decide) 0 (fun _ => 0) r j := by
  frame_out
  refine mix_blk x0 x1 x2 x3 x6 1536 (by decide) _ 0 _ _ _ (fun j => ?_) r j
  exact (load_row _ 0 _ _ j).trans ((fill_at _ _ _).trans (pay3_at _))

set_option maxHeartbeats 2000000 in
theorem out_A_11 (hc0 : cond0_0 i) (r : Fin 1024) (j : Fin 512) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = MIX x0 x1 x2 x3 x6 2048 (by decide) 1 (fun _ => 0) r j := by
  frame_out
  refine mix_blk x0 x1 x2 x3 x6 2048 (by decide) _ 1 _ _ _ (fun j => ?_) r j
  exact (load_row _ 1 _ _ j).trans ((row_miss 0 1 (by decide) _ _ _ j).trans ((fill_at _ _ _).trans (pay3_at _)))

set_option maxHeartbeats 2000000 in
theorem out_A_12 (hc0 : cond0_0 i) (r : Fin 1024) (j : Fin 512) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = MIX x0 x1 x2 x3 x6 2560 (by decide) 2 (fun _ => 0) r j := by
  frame_out
  refine mix_blk x0 x1 x2 x3 x6 2560 (by decide) _ 2 _ _ _ (fun j => ?_) r j
  exact (load_row _ 2 _ _ j).trans ((row_miss 1 2 (by decide) _ _ _ j).trans ((row_miss 0 2 (by decide) _ _ _ j).trans ((fill_at _ _ _).trans (pay3_at _))))

set_option maxHeartbeats 2000000 in
theorem out_A_13 (hc0 : cond0_0 i) (r : Fin 1024) (j : Fin 256) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 (ix3 0 r j) = LOW x0 x1 x2 x4 x5 (fun _ => 0) r j := by
  frame_out
  refine low_blk x0 x1 x2 x4 x5 _ _ (fun k => ?_) r j
  exact (load_row _ 0 _ _ k).trans ((fill_at _ _ _).trans (pay2_at _))

set_option maxHeartbeats 2000000 in
theorem carried_A (hc0 : cond0_0 i) : Carried x0 x1 x2 x3 (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6) := by
  constructor
  · intro k
    frame_out
    exact (row_hit 0 _ _ _ k).trans (hc_blk x0 x1 x2 k)
  · intro j
    frame_out
    exact PC_at x0 x1 x2 x3 _ j

set_option maxHeartbeats 2000000 in
theorem out_B_7 (hc0 : ¬ cond0_0 i) (r : Fin 1024) (j : Fin 512) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = PR x0 x1 x2 x3 r ⟨j, by omega⟩ * Ideal.ofBits FTy.f32 0x3E000000#32 := by
  frame_out
  exact q_blk x0 x1 x2 x3 _ r j

set_option maxHeartbeats 2000000 in
theorem out_B_8 (hc0 : ¬ cond0_0 i) (r : Fin 1024) (j : Fin 512) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = PR x0 x1 x2 x3 r ⟨512 + j, by omega⟩ := by
  frame_out
  exact kv_blk x0 x1 x2 x3 512 (by decide) _ r j

set_option maxHeartbeats 2000000 in
theorem out_B_9 (hc0 : ¬ cond0_0 i) (r : Fin 1024) (j : Fin 512) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = PR x0 x1 x2 x3 r ⟨1024 + j, by omega⟩ := by
  frame_out
  exact kv_blk x0 x1 x2 x3 1024 (by decide) _ r j

set_option maxHeartbeats 2000000 in
theorem out_B_10 (hc0 : ¬ cond0_0 i) (r : Fin 1024) (j : Fin 512) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = MIX x0 x1 x2 x3 x6 1536 (by decide) 0 (fun j => xs1 (ix2 0 j)) r j := by
  frame_out
  refine mix_blk x0 x1 x2 x3 x6 1536 (by decide) _ 0 _ _ _ (fun j => ?_) r j
  pointwise

set_option maxHeartbeats 2000000 in
theorem out_B_11 (hc0 : ¬ cond0_0 i) (r : Fin 1024) (j : Fin 512) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = MIX x0 x1 x2 x3 x6 2048 (by decide) 1 (fun j => xs1 (ix2 1 j)) r j := by
  frame_out
  refine mix_blk x0 x1 x2 x3 x6 2048 (by decide) _ 1 _ _ _ (fun j => ?_) r j
  pointwise

set_option maxHeartbeats 2000000 in
theorem out_B_12 (hc0 : ¬ cond0_0 i) (r : Fin 1024) (j : Fin 512) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = MIX x0 x1 x2 x3 x6 2560 (by decide) 2 (fun j => xs1 (ix2 2 j)) r j := by
  frame_out
  refine mix_blk x0 x1 x2 x3 x6 2560 (by decide) _ 2 _ _ _ (fun j => ?_) r j
  pointwise

set_option maxHeartbeats 2000000 in
theorem out_B_13 (hc0 : ¬ cond0_0 i) (r : Fin 1024) (j : Fin 256) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1 (ix3 0 r j) = LOW x0 x1 x2 x4 x5 (fun k => xs0 (ix2 0 k)) r j := by
  frame_out
  refine low_blk x0 x1 x2 x4 x5 _ _ (fun k => ?_) r j
  pointwise

set_option maxHeartbeats 2000000 in
theorem carried_B (hc0 : ¬ cond0_0 i) : Carried x0 x1 x2 x3 (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0 xs1) := by
  constructor
  · intro k
    frame_out
    exact (View.read_writes_apply_eq_canon _ _ _ _ ⟨_, .head _, row_mem 0 inb_S8x1024_S1x1024_0_0 k⟩).trans ((row_hit 0 _ _ _ k).trans (hc_blk x0 x1 x2 k))
  · intro j
    frame_out
    have hp := PC_at x0 x1 x2 x3 [] j
    have hm := PC_mem x0 x1 x2 x3 [] j
    exact ⟨(View.read_writes_apply_eq_canon arg17.view (harg17.unread xs1) (ix2 0 j) (PC x0 x1 x2 x3 []) hm.1).trans hp.1,
      (View.read_writes_apply_eq_canon arg17.view (harg17.unread xs1) (ix2 1 j) (PC x0 x1 x2 x3 []) hm.2.1).trans hp.2.1,
      (View.read_writes_apply_eq_canon arg17.view (harg17.unread xs1) (ix2 2 j) (PC x0 x1 x2 x3 []) hm.2.2).trans hp.2.2⟩

end cases

end Cert.Proof.PremixBlock
-- ==== Proof.PremixRef.lean ====
/- The front end's reference, stage by stage: its composed terms are named in a few stages, and each stage is read at an index
   as the one-token mathematics of PremixSpec. -/
module

public import proofs.«01_k».proof.Proof.Gen.PremixReferenceIdeal.Run
public import proofs.«01_k».proof.Proof.ChannelRef
public import proofs.«01_k».proof.Proof.PremixSpec
public import Idealize.ShloMosaic.Lib.KernelVsHost

@[expose] public section
set_option maxRecDepth 16384
noncomputable section
open Idealize.ShloMosaic Idealize.ShloMosaic.TcCoe Idealize.SL.Sem
namespace Cert.Proof.PremixRef
open Cert.PremixReferenceIdeal Cert.PremixReferenceIdeal.Gen Cert.Proof.ChannelSpec Cert.Proof.PremixSpec

/-- The modulated norm of the input. -/
def hV (x : FVec Ideal S8x4096x1024 .f32) (ada : FVec Ideal S8x6144 .f32) (g : FVec Ideal S1x1024 .f32) : FVec Ideal S8x4096x1024 .f32 :=
  ChannelRef.hV x g (extractStridedSlice S8x1024 ![0, 1024] ada slices_S8x6144_S8x1024_0_1024) (extractStridedSlice S8x1024 ![0, 0] ada slices_S8x6144_S8x1024_0_0)

/-- One of the six projections: 512 columns of the wide product, from column `o`. -/
def pV (h : FVec Ideal S8x4096x1024 .f32) (w : FVec Ideal S1x1024x3072 .f32) (o : ℕ) (hs : S8x4096x3072.Slices ![0, 0, o] S8x4096x512) : FVec Ideal S8x4096x512 .f32 :=
  extractStridedSlice S8x4096x512 ![0, 0, o] (Host.dotGeneral dot_S8x4096x1024_S1024x3072_S8x4096x3072_2_0_01_1_n_n none h (shapeCast _ w shapeCasts_S1x1024x3072_S1024x3072)) hs

/-- The scaled queries. -/
def qV (p : FVec Ideal S8x4096x512 .f32) : FVec Ideal S8x4096x512 .bf16 :=
  truncf .bf16 (mulf p (broadcastInDim S8x4096x512 ![] bcast_S_S8x4096x512 (constant S_ .f32 0x3E000000#32))) bitsLt_bf16_f32

/-- An array of rows one token earlier. -/
def shiftV {n : ℕ} (p : FVec Ideal ⟨3, ![8, 4096, n]⟩ .f32) (hp : (⟨3, ![8, 4096, n]⟩ : Shape).Pads ![0, 1, 0] ![0, 0, 0] ![0, 0, 0] ⟨3, ![8, 4097, n]⟩)
    (hs : (⟨3, ![8, 4097, n]⟩ : Shape).Slices ![0, 0, 0] ⟨3, ![8, 4096, n]⟩) : FVec Ideal ⟨3, ![8, 4096, n]⟩ .f32 :=
  extractStridedSlice ⟨3, ![8, 4096, n]⟩ ![0, 0, 0] (pad ⟨3, ![8, 4097, n]⟩ ![0, 1, 0] ![0, 0, 0] ![0, 0, 0] p (sitofp .f32 (constantI S_ 32 0#32)) hp h_S_) hs

/-- The difference of the earlier rows and the rows of a projection, interpolated. -/
def mixV (p : FVec Ideal S8x4096x512 .f32) (mu : FVec Ideal S1x512 .f32) : FVec Ideal S8x4096x512 .bf16 :=
  truncf .bf16 (addf p (mulf (subf (shiftV p pads_S8x4096x512_S8x4097x512_000_100_000 slices_S8x4097x512_S8x4096x512_0_0_0) p)
    (broadcastInDim S8x4096x512 ![0, 1, 2] bcast_S1x1x512_S8x4096x512_0_1_2 (broadcastInDim S1x1x512 ![2] bcast_S512_S1x1x512_2 (shapeCast _ mu shapeCasts_S1x512_S512))))) bitsLt_bf16_f32

/-- The same of the input rows. -/
def mixH (h : FVec Ideal S8x4096x1024 .f32) (mu : FVec Ideal S1x1024 .f32) : FVec Ideal S8x4096x1024 .f32 :=
  addf h (mulf (subf (shiftV h pads_S8x4096x1024_S8x4097x1024_000_100_000 slices_S8x4097x1024_S8x4096x1024_0_0_0) h)
    (broadcastInDim S8x4096x1024 ![0, 1, 2] bcast_S1x1x1024_S8x4096x1024_0_1_2 (broadcastInDim S1x1x1024 ![2] bcast_S1024_S1x1x1024_2 (shapeCast _ mu shapeCasts_S1x1024_S1024))))

/-- The products with the 64-column weights. -/
def d64 (x : FVec Ideal S8x4096x1024 .f32) (w : FVec Ideal S1x1024x64 .f32) : FVec Ideal S8x4096x64 .f32 :=
  Host.dotGeneral dot_S8x4096x1024_S1024x64_S8x4096x64_2_0_01_1_n_n none x (shapeCast _ w shapeCasts_S1x1024x64_S1024x64)
/-- The product with the 128-column weight. -/
def d128 (x : FVec Ideal S8x4096x1024 .f32) (w : FVec Ideal S1x1024x128 .f32) : FVec Ideal S8x4096x128 .f32 :=
  Host.dotGeneral dot_S8x4096x1024_S1024x128_S8x4096x128_2_0_01_1_n_n none x (shapeCast _ w shapeCasts_S1x1024x128_S1024x128)

/-- The low-rank features. -/
def lowV (xw xa xg : FVec Ideal S8x4096x1024 .f32) (w1 a1 : FVec Ideal S1x1024x64 .f32) (g1 : FVec Ideal S1x1024x128 .f32) : FVec Ideal S8x4096x256 .bf16 :=
  truncf .bf16 (concatenate S8x4096x256 2 [⟨S8x4096x64, Host.tanh (d64 xw w1)⟩, ⟨S8x4096x64, d64 xa a1⟩,
    ⟨S8x4096x128, Host.divf (broadcastInDim S8x4096x128 ![] bcast_S_S8x4096x128 (constant S_ .f32 0x3F800000#32))
      (addf (broadcastInDim S8x4096x128 ![] bcast_S_S8x4096x128 (constant S_ .f32 0x3F800000#32)) (Host.exp (Host.negf (d128 xg g1))))⟩]
    concatenates_S8x4096x64_S8x4096x64_S8x4096x128_S8x4096x256_d2) bitsLt_bf16_f32

variable (b : Fin 8) (t : Fin 4096)

theorem hV_at (x : FVec Ideal S8x4096x1024 .f32) (ada : FVec Ideal S8x6144 .f32) (g : FVec Ideal S1x1024 .f32) (j : Fin 1024) :
    hV x ada g (ix3 b t j) = modnorm (fun k => x (ix3 b t k)) (fun k => g (ix2 0 k)) (fun k => ada (ix2 b ⟨1 * 1024 + k, by omega⟩)) (fun k => ada (ix2 b ⟨0 * 1024 + k, by omega⟩)) j := by
  unfold hV
  rw [ChannelRef.hV_at]
  congr 1 <;> funext k <;> pointwise

theorem pV_at (h : FVec Ideal S8x4096x1024 .f32) (w : FVec Ideal S1x1024x3072 .f32) (o : ℕ) (ho : o + 512 ≤ 3072) (hs) (j : Fin 512) :
    pV h w o hs (ix3 b t j) = dot (fun k => h (ix3 b t k)) (fun k => w (ix3 0 k ⟨o + j, by omega⟩)) := by
  pointwise [pV, dot]

theorem qV_at (p : FVec Ideal S8x4096x512 .f32) (j : Fin 512) : qV p (ix3 b t j) = p (ix3 b t j) * Ideal.ofBits FTy.f32 0x3E000000#32 := by
  pointwise [qV]

theorem shiftV_at {n : ℕ} (p : FVec Ideal ⟨3, ![8, 4096, n]⟩ .f32) (hp hs) (j : Fin n) :
    shiftV p hp hs (ix3 b t j) = before (fun t => p (ix3 b t j)) t := by
  unfold shiftV before
  have e : extractStridedSlice ⟨3, ![8, 4096, n]⟩ ![0, 0, 0] (pad ⟨3, ![8, 4097, n]⟩ ![0, 1, 0] ![0, 0, 0] ![0, 0, 0] p (sitofp .f32 (constantI S_ 32 0#32)) hp h_S_) hs (ix3 b t j)
      = pad ⟨3, ![8, 4097, n]⟩ ![0, 1, 0] ![0, 0, 0] ![0, 0, 0] p (sitofp .f32 (constantI S_ 32 0#32)) hp h_S_ (ix3 b ⟨t.val, by omega⟩ j) := by
    refine congrArg (pad _ _ _ _ p _ hp h_S_) (funext fun a => Fin.ext ?_)
    fin_cases a <;> exact Nat.zero_add _
  rw [e]
  by_cases h0 : t.val = 0
  · rw [if_pos h0]
    refine (pad_apply_of_not_inside _ _ _ _ _ hp h_S_ (ix3 b ⟨t.val, by omega⟩ j) (1 : Fin 3) fun h => absurd (show 1 ≤ t.val from h.1) (by omega)).trans ?_
    pointwise
    show (((0#32 : BitVec 32).toInt : ℝ) : EReal) = 0
    simp
  · rw [if_neg h0]
    refine pad_apply_of_inside _ _ _ _ _ _ _ _ (ix3 b ⟨t.val - 1, by omega⟩ j) fun a => ?_
    fin_cases a
    · show b.val = 0 + b.val * 1; omega
    · show t.val = 1 + (t.val - 1) * 1; omega
    · show j.val = 0 + j.val * 1; omega

theorem mixV_at (p : FVec Ideal S8x4096x512 .f32) (mu : FVec Ideal S1x512 .f32) (j : Fin 512) :
    mixV p mu (ix3 b t j) = lerp (p (ix3 b t j)) (before (fun t => p (ix3 b t j)) t) (mu (ix2 0 j)) := by
  unfold lerp
  rw [← shiftV_at b t p pads_S8x4096x512_S8x4097x512_000_100_000 slices_S8x4097x512_S8x4096x512_0_0_0 j]
  pointwise [mixV]

theorem mixH_at (p : FVec Ideal S8x4096x1024 .f32) (mu : FVec Ideal S1x1024 .f32) (j : Fin 1024) :
    mixH p mu (ix3 b t j) = lerp (p (ix3 b t j)) (before (fun t => p (ix3 b t j)) t) (mu (ix2 0 j)) := by
  unfold lerp
  rw [← shiftV_at b t p pads_S8x4096x1024_S8x4097x1024_000_100_000 slices_S8x4097x1024_S8x4096x1024_0_0_0 j]
  pointwise [mixH]

theorem lowV_at (xw xa xg : FVec Ideal S8x4096x1024 .f32) (w1 a1 : FVec Ideal S1x1024x64 .f32) (g1 : FVec Ideal S1x1024x128 .f32) (l : Fin 256) :
    lowV xw xa xg w1 a1 g1 (ix3 b t l) = low (fun k => xw (ix3 b t k)) (fun k => xa (ix3 b t k)) (fun k => xg (ix3 b t k))
      (fun k l => w1 (ix3 0 k l)) (fun k l => a1 (ix3 0 k l)) (fun k l => g1 (ix3 0 k l)) l := by
  unfold low
  by_cases h : l.val < 64
  · rw [dif_pos h]
    pointwise [lowV, sigm, dot, d64, d128]
    rw [dif_pos h]
  · rw [dif_neg h]
    by_cases h2 : l.val < 128
    · rw [dif_pos h2]
      pointwise [lowV, sigm, dot, d64, d128]
      rw [dif_neg h, dif_pos (by omega)]
    · rw [dif_neg h2]
      pointwise [lowV, sigm, dot, d64, d128]
      rw [dif_neg h, dif_neg (by omega)]
      simp only [Nat.sub_sub]

/-! ## The seven results -/

section results
variable (x : FVec Ideal S8x4096x1024 .f32) (ada : FVec Ideal S8x6144 .f32) (g : FVec Ideal S1x1024 .f32) (w : FVec Ideal S1x1024x3072 .f32)

/-- The queries. -/
def out0 : FVec Ideal S8x4096x512 .bf16 := qV (pV (hV x ada g) w 0 slices_S8x4096x3072_S8x4096x512_0_0_0)
/-- The keys. -/
def out1 : FVec Ideal S8x4096x512 .bf16 := truncf .bf16 (pV (hV x ada g) w 512 slices_S8x4096x3072_S8x4096x512_0_0_512) bitsLt_bf16_f32
/-- The values. -/
def out2 : FVec Ideal S8x4096x512 .bf16 := truncf .bf16 (pV (hV x ada g) w 1024 slices_S8x4096x3072_S8x4096x512_0_0_1024) bitsLt_bf16_f32
/-- One of the three shifted projections. -/
def outS (o : ℕ) (hs : S8x4096x3072.Slices ![0, 0, o] S8x4096x512) (mu : FVec Ideal S1x512 .f32) : FVec Ideal S8x4096x512 .bf16 := mixV (pV (hV x ada g) w o hs) mu
/-- The features. -/
def outL (mw ma mg : FVec Ideal S1x1024 .f32) (w1 a1 : FVec Ideal S1x1024x64 .f32) (g1 : FVec Ideal S1x1024x128 .f32) : FVec Ideal S8x4096x256 .bf16 :=
  lowV (mixH (hV x ada g) mw) (mixH (hV x ada g) ma) (mixH (hV x ada g) mg) w1 a1 g1

/-- The modulated norm of a token. -/
def HT (b : Fin 8) (t : Fin 4096) (k : Fin 1024) : EReal :=
  modnorm (fun k => x (ix3 b t k)) (fun k => g (ix2 0 k)) (fun k => ada (ix2 b ⟨1 * 1024 + k, by omega⟩)) (fun k => ada (ix2 b ⟨0 * 1024 + k, by omega⟩)) k
/-- One entry of the wide product. -/
def PT (b : Fin 8) (t : Fin 4096) (l : Fin 3072) : EReal := dot (HT x ada g b t) (fun k => w (ix3 0 k l))

theorem p_at (o : ℕ) (ho : o + 512 ≤ 3072) (hs) (j : Fin 512) : pV (hV x ada g) w o hs (ix3 b t j) = PT x ada g w b t ⟨o + j, by omega⟩ := by
  rw [pV_at b t _ _ o ho]
  simp only [hV_at]
  rfl
theorem trunc_at (p : FVec Ideal S8x4096x512 .f32) (j : Fin 512) : truncf .bf16 p bitsLt_bf16_f32 (ix3 b t j) = p (ix3 b t j) := by
  pointwise
theorem out0_at (j : Fin 512) : out0 x ada g w (ix3 b t j) = PT x ada g w b t ⟨j, by omega⟩ * Ideal.ofBits FTy.f32 0x3E000000#32 := by
  unfold out0
  rw [qV_at, p_at b t x ada g w 0 (by decide)]
  simp only [Nat.zero_add]
theorem out1_at (j : Fin 512) : out1 x ada g w (ix3 b t j) = PT x ada g w b t ⟨512 + j, by omega⟩ := (trunc_at b t _ j).trans (p_at b t x ada g w 512 (by decide) _ j)
theorem out2_at (j : Fin 512) : out2 x ada g w (ix3 b t j) = PT x ada g w b t ⟨1024 + j, by omega⟩ := (trunc_at b t _ j).trans (p_at b t x ada g w 1024 (by decide) _ j)
theorem outS_at (o : ℕ) (ho : o + 512 ≤ 3072) (hs) (mu : FVec Ideal S1x512 .f32) (j : Fin 512) :
    outS x ada g w o hs mu (ix3 b t j) = lerp (PT x ada g w b t ⟨o + j, by omega⟩) (before (fun t => PT x ada g w b t ⟨o + j, by omega⟩) t) (mu (ix2 0 j)) := by
  unfold outS
  rw [mixV_at]
  simp only [p_at b _ x ada g w o ho hs]
theorem outL_at (mw ma mg : FVec Ideal S1x1024 .f32) (w1 a1 : FVec Ideal S1x1024x64 .f32) (g1 : FVec Ideal S1x1024x128 .f32) (l : Fin 256) :
    outL x ada g mw ma mg w1 a1 g1 (ix3 b t l) = low (fun k => lerp (HT x ada g b t k) (before (fun t => HT x ada g b t k) t) (mw (ix2 0 k)))
      (fun k => lerp (HT x ada g b t k) (before (fun t => HT x ada g b t k) t) (ma (ix2 0 k))) (fun k => lerp (HT x ada g b t k) (before (fun t => HT x ada g b t k) t) (mg (ix2 0 k)))
      (fun k l => w1 (ix3 0 k l)) (fun k l => a1 (ix3 0 k l)) (fun k l => g1 (ix3 0 k l)) l := by
  unfold outL
  rw [lowV_at]
  simp only [mixH_at, hV_at]
  rfl
end results

section run
variable (m : (ℓ : Loc nD τ sig) → Buf (Elt Ideal) ℓ) (c : Dev nD)

theorem res97 : Value.res_main_v97 m c = outS (m ((c.tc : Thread nD τ).loc main_arg0)) (m ((c.tc : Thread nD τ).loc main_arg1)) (m ((c.tc : Thread nD τ).loc main_arg2))
    (m ((c.tc : Thread nD τ).loc main_arg3)) 1536 slices_S8x4096x3072_S8x4096x512_0_0_1536 (m ((c.tc : Thread nD τ).loc main_arg4)) := by
  unfold Value.res_main_v97; rfl
theorem res98 : Value.res_main_v98 m c = outS (m ((c.tc : Thread nD τ).loc main_arg0)) (m ((c.tc : Thread nD τ).loc main_arg1)) (m ((c.tc : Thread nD τ).loc main_arg2))
    (m ((c.tc : Thread nD τ).loc main_arg3)) 2048 slices_S8x4096x3072_S8x4096x512_0_0_2048 (m ((c.tc : Thread nD τ).loc main_arg5)) := by
  unfold Value.res_main_v98; rfl
theorem res99 : Value.res_main_v99 m c = outS (m ((c.tc : Thread nD τ).loc main_arg0)) (m ((c.tc : Thread nD τ).loc main_arg1)) (m ((c.tc : Thread nD τ).loc main_arg2))
    (m ((c.tc : Thread nD τ).loc main_arg3)) 2560 slices_S8x4096x3072_S8x4096x512_0_0_2560 (m ((c.tc : Thread nD τ).loc main_arg6)) := by
  unfold Value.res_main_v99; rfl
theorem res100 : Value.res_main_v100 m c = outL (m ((c.tc : Thread nD τ).loc main_arg0)) (m ((c.tc : Thread nD τ).loc main_arg1)) (m ((c.tc : Thread nD τ).loc main_arg2))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) := by
  unfold Value.res_main_v100; rfl
end run

end Cert.Proof.PremixRef
-- ==== Proof.PremixPad.lean ====
/- A matrix set into a wider zero matrix at a literal column, read at an entry. -/
module

public import Idealize.ShloMosaic.Lib.Routing.OpsOne
public import Idealize.ShloMosaic.Lib.Routing.OpsPair
public import Idealize.ShloMosaic.Lib.Pointwise

@[expose] public section
noncomputable section
open Idealize.ShloMosaic Idealize.ShloMosaic.Routing
namespace Cert.Proof.PremixPad

variable {n : ℕ} (wf : ScatterDims.WF ⟨2, ![1024, 256]⟩ ⟨1, ![1]⟩ ⟨2, ![1024, n]⟩ [0, 1] [] [1] 0)

/-- The set of a block of columns: one index word, an update as tall as the matrix. -/
def dims : ScatterDims ⟨2, ![1024, 256]⟩ ⟨1, ![1]⟩ ⟨2, ![1024, n]⟩ where
  updateWindowDims := [0, 1]
  insertedWindowDims := []
  scatterDimsToOperandDims := [1]
  indexVectorDim := 0
  wf := wf

/-- Where an element of the update lands. -/
theorem lands (idx : IVec ⟨1, ![1]⟩ 32) (o : ℕ) (ho : (idx (ix1 0)).toInt = (o : Int)) (p : Fin 1024) (q : Fin n) (k : Fin 1024) (l : Fin 256) :
    (dims wf).resultIdx? (ix2 p q) idx = some (ix2 k l) ↔ p.val = k.val ∧ o + q.val = l.val := by
  have w0 : (dims wf).window (ix2 p q) 0 = p.val := rfl
  have w1 : (dims wf).window (ix2 p q) 1 = q.val := rfl
  have s0 : (dims wf).start (ix2 p q) idx 0 = 0 := rfl
  have s1 : (dims wf).start (ix2 p q) idx 1 = (o : Int) := by
    have hm : (1 : Fin 2) ∈ (dims wf).scatterDimsToOperandDims := List.mem_singleton.2 rfl
    unfold ScatterDims.start
    rw [dif_pos hm]
    have hsi : (dims wf).siIdx (ix2 p q) ⟨(dims wf).scatterDimsToOperandDims.idxOf 1, List.idxOf_lt_length_iff.2 hm⟩ = ix1 (0 : Fin 1) := by
      funext b
      match b with
      | ⟨0, _⟩ => exact Subsingleton.elim (α := Fin 1) _ _
    rw [hsi, ho]
  refine (resultIdx?_ix2 (dims wf) (ix2 p q) idx k l).trans ?_
  rw [w0, w1, s0, s1]
  omega

/-- The wider matrix at an entry. -/
theorem pad_at (x : FVec Ideal ⟨2, ![1024, 256]⟩ .f32) (hx : ∀ y, x y = 0) (idx : IVec ⟨1, ![1]⟩ 32) (o : ℕ) (ho : (idx (ix1 0)).toInt = (o : Int))
    (u : FVec Ideal ⟨2, ![1024, n]⟩ .f32) (k : Fin 1024) (l : Fin 256) :
    Host.scatter (dims wf) (fun _ b => b) x idx u (ix2 k l) = if h : o ≤ l.val ∧ l.val < o + n then u (ix2 k ⟨l.val - o, by omega⟩) else 0 := by
  have hl : ∀ j : (⟨2, ![1024, n]⟩ : Shape).Idx, (dims wf).resultIdx? j idx = some (ix2 k l) → (j 0).val = k.val ∧ o + (j 1).val = l.val := fun j hj =>
    (lands wf idx o ho (j 0) (j 1) k l).1 ((congrArg (fun t => (dims wf).resultIdx? t idx) (eq_ix2 j).symm).trans hj)
  by_cases h : o ≤ l.val ∧ l.val < o + n
  · rw [dif_pos h]
    refine scatter_set_hit _ x idx u _ _ (fun j hj => ?_) (ix2 k ⟨l.val - o, by omega⟩) ((lands wf idx o ho _ _ k l).2 ⟨rfl, by show o + (l.val - o) = l.val; omega⟩)
    have e := hl j hj
    refine (congrArg u (eq_ix2 j)).trans ?_
    have e0 : j 0 = k := Fin.ext e.1
    have e1 : j 1 = (⟨l.val - o, by omega⟩ : Fin n) := Fin.ext (by show (j 1).val = l.val - o; omega)
    rw [e0, e1]
  · rw [dif_neg h, scatter_set_miss _ x idx u _ (fun j hj => h ?_), hx]
    have e := hl j hj
    have : (j 1).val < n := (j 1).isLt
    omega

end Cert.Proof.PremixPad
-- ==== Proof.PremixHost.lean ====
/- The arrays the front end's region finds in place of its arguments: the stacked interpolation rows and the stacked low-rank weights. -/
module

public import proofs.«01_k».proof.Proof.Gen.PremixIdeal.Value
public import proofs.«01_k».proof.Proof.PremixPad

@[expose] public section
set_option maxRecDepth 16384
noncomputable section
open Idealize.ShloMosaic Idealize.ShloMosaic.TcCoe Idealize.SL.Sem
namespace Cert.Proof.PremixHost
open Cert.PremixIdeal Cert.PremixIdeal.Gen

variable (m : (ℓ : Loc nD τ sig) → Buf (Elt Ideal) ℓ)

/-! ## The arrays the region finds -/

/-- A stack of three rows. -/
def stackH (g0 g1 g2 : FVec Ideal S1x1024 .f32) : FVec Ideal S3x1024 .f32 :=
  concatenate S3x1024 0 [⟨S1x1024, (broadcastInDim S1x1024 ![1] bcast_S1024_S1x1024_1 (shapeCast S1024 g0 shapeCasts_S1x1024_S1024 : FVec Ideal S1024 .f32) : FVec Ideal S1x1024 .f32)⟩, ⟨S1x1024, (broadcastInDim S1x1024 ![1] bcast_S1024_S1x1024_1 (shapeCast S1024 g1 shapeCasts_S1x1024_S1024 : FVec Ideal S1024 .f32) : FVec Ideal S1x1024 .f32)⟩, ⟨S1x1024, (broadcastInDim S1x1024 ![1] bcast_S1024_S1x1024_1 (shapeCast S1024 g2 shapeCasts_S1x1024_S1024 : FVec Ideal S1024 .f32) : FVec Ideal S1x1024 .f32)⟩] concatenates_S1x1024_S1x1024_S1x1024_S3x1024_d0
/-- … of 512 entries each. -/
def stackP (g0 g1 g2 : FVec Ideal S1x512 .f32) : FVec Ideal S3x512 .f32 :=
  concatenate S3x512 0 [⟨S1x512, (broadcastInDim S1x512 ![1] bcast_S512_S1x512_1 (shapeCast S512 g0 shapeCasts_S1x512_S512 : FVec Ideal S512 .f32) : FVec Ideal S1x512 .f32)⟩, ⟨S1x512, (broadcastInDim S1x512 ![1] bcast_S512_S1x512_1 (shapeCast S512 g1 shapeCasts_S1x512_S512 : FVec Ideal S512 .f32) : FVec Ideal S1x512 .f32)⟩, ⟨S1x512, (broadcastInDim S1x512 ![1] bcast_S512_S1x512_1 (shapeCast S512 g2 shapeCasts_S1x512_S512 : FVec Ideal S512 .f32) : FVec Ideal S1x512 .f32)⟩] concatenates_S1x512_S1x512_S1x512_S3x512_d0

theorem stackH_at (g0 g1 g2 : FVec Ideal S1x1024 .f32) (a : Fin 3) (k : Fin 1024) : stackH g0 g1 g2 (ix2 a k) = (![g0, g1, g2] a) (ix2 0 k) := by
  fin_cases a <;> pointwise [stackH]
theorem stackP_at (g0 g1 g2 : FVec Ideal S1x512 .f32) (a : Fin 3) (k : Fin 512) : stackP g0 g1 g2 (ix2 a k) = (![g0, g1, g2] a) (ix2 0 k) := by
  fin_cases a <;> pointwise [stackP]

/-- The zero matrix the low-rank weights are set into. -/
def zeros : FVec Ideal S1024x256 .f32 := broadcastInDim S1024x256 ![] bcast_S_S1024x256 (constant S_ .f32 0x00000000#32)
/-- The column they are set at. -/
def col (o : BitVec 32) : IVec S1 32 := broadcastInDim S1 ![] bcast_S_S1 (constantI S_ 32 o)
/-- A 64-column weight set into the zeros. -/
def wide64 (o : BitVec 32) (w : FVec Ideal S1x1024x64 .f32) : FVec Ideal S1024x256 .f32 :=
  Host.scatter scatter_S1024x256_S1_S1024x64_01_n_1_0 (fun _ b => b) zeros (col o) (shapeCast S1024x64 w shapeCasts_S1x1024x64_S1024x64)
/-- The 128-column weight set into the zeros. -/
def wide128 (o : BitVec 32) (w : FVec Ideal S1x1024x128 .f32) : FVec Ideal S1024x256 .f32 :=
  Host.scatter scatter_S1024x256_S1_S1024x128_01_n_1_0 (fun _ b => b) zeros (col o) (shapeCast S1024x128 w shapeCasts_S1x1024x128_S1024x128)
/-- The stack of the three weights. -/
def stackW (a b c : FVec Ideal S1024x256 .f32) : FVec Ideal S3x1024x256 .bf16 :=
  truncf .bf16 (concatenate S3x1024x256 0 [⟨S1x1024x256, (broadcastInDim S1x1024x256 ![1, 2] bcast_S1024x256_S1x1024x256_1_2 a : FVec Ideal S1x1024x256 .f32)⟩,
    ⟨S1x1024x256, (broadcastInDim S1x1024x256 ![1, 2] bcast_S1024x256_S1x1024x256_1_2 b : FVec Ideal S1x1024x256 .f32)⟩,
    ⟨S1x1024x256, (broadcastInDim S1x1024x256 ![1, 2] bcast_S1024x256_S1x1024x256_1_2 c : FVec Ideal S1x1024x256 .f32)⟩] concatenates_S1x1024x256_S1x1024x256_S1x1024x256_S3x1024x256_d0) bitsLt_bf16_f32

theorem zeros_at (y) : zeros y = 0 := by pointwise [zeros]
theorem col_at (o : ℕ) (ho : o < 2 ^ 31) : (col (BitVec.ofNat 32 o) (ix1 0)).toInt = (o : Int) := by
  have e : col (BitVec.ofNat 32 o) (ix1 0) = BitVec.ofNat 32 o := by pointwise [col]
  rw [e, StableHlo.Predicate.toInt_ofNat_small _ ho]
theorem wide64_at (o : ℕ) (ho : o < 2 ^ 31) (w : FVec Ideal S1x1024x64 .f32) (k : Fin 1024) (l : Fin 256) :
    wide64 (BitVec.ofNat 32 o) w (ix2 k l) = if h : o ≤ l.val ∧ l.val < o + 64 then w (ix3 0 k ⟨l.val - o, by omega⟩) else 0 := by
  refine (PremixPad.pad_at _ zeros zeros_at (col (BitVec.ofNat 32 o)) o (col_at o ho) _ k l).trans ?_
  refine dite_congr rfl (fun h => ?_) fun _ => rfl
  pointwise
theorem wide128_at (o : ℕ) (ho : o < 2 ^ 31) (w : FVec Ideal S1x1024x128 .f32) (k : Fin 1024) (l : Fin 256) :
    wide128 (BitVec.ofNat 32 o) w (ix2 k l) = if h : o ≤ l.val ∧ l.val < o + 128 then w (ix3 0 k ⟨l.val - o, by omega⟩) else 0 := by
  refine (PremixPad.pad_at _ zeros zeros_at (col (BitVec.ofNat 32 o)) o (col_at o ho) _ k l).trans ?_
  refine dite_congr rfl (fun h => ?_) fun _ => rfl
  pointwise
theorem stackW_at (a b c : FVec Ideal S1024x256 .f32) (i : Fin 3) (k : Fin 1024) (l : Fin 256) : stackW a b c (ix3 i k l) = (![a, b, c] i) (ix2 k l) := by
  fin_cases i <;> pointwise [stackW]

section found
variable (c : Dev nD)
theorem V24 : V m c main_v24 = stackH (m ((c : Thread nD τ).loc main_arg7)) (m ((c : Thread nD τ).loc main_arg8)) (m ((c : Thread nD τ).loc main_arg9)) := by
  unfold V
  sl_kernel_rfl
theorem V31 : V m c main_v31 = stackP (m ((c : Thread nD τ).loc main_arg4)) (m ((c : Thread nD τ).loc main_arg5)) (m ((c : Thread nD τ).loc main_arg6)) := by
  unfold V
  sl_kernel_rfl
/-- Equal pieces give equal stacks. -/
theorem stackW_congr {x y z : FVec Ideal S1x1024x256 .f32} {a b d : FVec Ideal S1024x256 .f32}
    (hx : x = broadcastInDim S1x1024x256 ![1, 2] bcast_S1024x256_S1x1024x256_1_2 a) (hy : y = broadcastInDim S1x1024x256 ![1, 2] bcast_S1024x256_S1x1024x256_1_2 b)
    (hz : z = broadcastInDim S1x1024x256 ![1, 2] bcast_S1024x256_S1x1024x256_1_2 d) :
    (truncf .bf16 (concatenate S3x1024x256 0 [⟨S1x1024x256, x⟩, ⟨S1x1024x256, y⟩, ⟨S1x1024x256, z⟩] concatenates_S1x1024x256_S1x1024x256_S1x1024x256_S3x1024x256_d0) bitsLt_bf16_f32 : FVec Ideal S3x1024x256 .bf16)
      = stackW a b d := by
  subst hx hy hz; rfl
set_option maxHeartbeats 4000000 in
theorem V17 : V m c main_v17 = stackW (wide64 0#32 (m ((c : Thread nD τ).loc main_arg10))) (wide64 64#32 (m ((c : Thread nD τ).loc main_arg11))) (wide128 128#32 (m ((c : Thread nD τ).loc main_arg12))) := by
  unfold V
  simp only [hostOps0]
  after_results_simp
  refine stackW_congr ?_ ?_ ?_ <;> dsimp only [Matrix.cons_val] <;> after_results_simp <;> rfl
end found

end Cert.Proof.PremixHost
-- ==== Proof.PremixValue.lean ====
/- The front end's result arrays: block by block they are the one-token mathematics of the argument arrays, which is what the
   reference computes. -/
module

public import proofs.«01_k».proof.Proof.PremixBlock
public import proofs.«01_k».proof.Proof.PremixRef
public import proofs.«01_k».proof.Proof.PremixHost

@[expose] public section
set_option maxRecDepth 16384
noncomputable section
open Idealize.ShloMosaic Idealize.ShloMosaic.TcCoe Idealize.SL.Sem
namespace Cert.Proof.PremixValue
open Cert.PremixIdeal Cert.PremixIdeal.Gen Cert.Proof.ChannelSpec Cert.Proof.PremixSpec Cert.Proof.PremixBlock Cert.Proof.PremixHost

variable (m : (ℓ : Loc nD τ sig) → Buf (Elt Ideal) ℓ)

/-- The windows' block indices, at every grid point. -/
theorem idx : ∀ t : Fin cfg0.N,
    win0_0.index t = ![(grid0.coords t 0).val, (grid0.coords t 1).val, 0] ∧ win0_1.index t = ![(grid0.coords t 0).val, 0, 0]
    ∧ win0_2.index t = ![0, 0] ∧ win0_3.index t = ![0, 0] ∧ win0_4.index t = ![0, 0, 0] ∧ win0_5.index t = ![0, 0] ∧ win0_6.index t = ![0, 0]
    ∧ win0_7.index t = ![(grid0.coords t 0).val, (grid0.coords t 1).val, 0] ∧ win0_8.index t = ![(grid0.coords t 0).val, (grid0.coords t 1).val, 0]
    ∧ win0_9.index t = ![(grid0.coords t 0).val, (grid0.coords t 1).val, 0] ∧ win0_10.index t = ![(grid0.coords t 0).val, (grid0.coords t 1).val, 0]
    ∧ win0_11.index t = ![(grid0.coords t 0).val, (grid0.coords t 1).val, 0] ∧ win0_12.index t = ![(grid0.coords t 0).val, (grid0.coords t 1).val, 0]
    ∧ win0_13.index t = ![(grid0.coords t 0).val, (grid0.coords t 1).val, 0] :=
  (by decide +kernel : ∀ t : Fin grid0.N, _)

/-- A point's coordinates. -/
theorem coords : ∀ t : Fin cfg0.N, (grid0.coords t 0).val = t.val / 4 ∧ (grid0.coords t 1).val = t.val % 4 :=
  (by decide +kernel : ∀ t : Fin grid0.N, _)

section reads
variable (c : Dev nD) (t : Fin cfg0.N)

/-- The sequence a grid point works on. -/
def bat : Fin 8 := grid0.coords t 0
/-- The token of row `r` of a grid point's blocks. -/
def tok (r : Fin 1024) : Fin 4096 := ⟨(grid0.coords t 1).val * 1024 + r, by have h : (grid0.coords t 1).val < 4 := (grid0.coords t 1).isLt; omega⟩

theorem read0 (r : Fin 1024) (k : Fin 1024) : iblk m c 0 t (ix3 0 r k) = m ((c : Thread nD τ).loc main_arg0) (ix3 (bat t) (tok t r) k) := by
  blk_ext! [iblk, V, idx t, bat, tok]
theorem read1 (a : Fin 6) (k : Fin 1024) : iblk m c 1 t (ix3 0 a k) = m ((c : Thread nD τ).loc main_arg1) (ix2 (bat t) ⟨a * 1024 + k, by omega⟩) := by
  blk_ext! [iblk, V, idx t, bat, tok]
theorem read2 (k : Fin 1024) : iblk m c 2 t (ix2 0 k) = m ((c : Thread nD τ).loc main_arg2) (ix2 0 k) := by
  blk_ext! [iblk, V, idx t]
theorem read3 (k : Fin 1024) (j : Fin 3072) : iblk m c 3 t (ix2 k j) = m ((c : Thread nD τ).loc main_arg3) (ix3 0 k j) := by
  blk_ext! [iblk, V, idx t]
theorem read4 (i : Fin 3) (k : Fin 1024) (l : Fin 256) : iblk m c 4 t (ix3 i k l)
    = (![wide64 (BitVec.ofNat 32 0) (m ((c : Thread nD τ).loc main_arg10)), wide64 (BitVec.ofNat 32 64) (m ((c : Thread nD τ).loc main_arg11)),
        wide128 (BitVec.ofNat 32 128) (m ((c : Thread nD τ).loc main_arg12))] i : FVec Ideal S1024x256 .f32) (ix2 k l) := by
  have h : iblk m c 4 t (ix3 i k l) = V m c main_v17 (ix3 i k l) := by blk_ext [iblk, idx t]
  rw [h, V17]
  exact stackW_at _ _ _ i k l
theorem read5 (a : Fin 3) (k : Fin 1024) : iblk m c 5 t (ix2 a k)
    = (![m ((c : Thread nD τ).loc main_arg7), m ((c : Thread nD τ).loc main_arg8), m ((c : Thread nD τ).loc main_arg9)] a : FVec Ideal S1x1024 .f32) (ix2 0 k) := by
  have h : iblk m c 5 t (ix2 a k) = V m c main_v24 (ix2 a k) := by blk_ext [iblk, idx t]
  rw [h, V24]
  exact stackH_at _ _ _ a k
theorem read6 (a : Fin 3) (k : Fin 512) : iblk m c 6 t (ix2 a k)
    = (![m ((c : Thread nD τ).loc main_arg4), m ((c : Thread nD τ).loc main_arg5), m ((c : Thread nD τ).loc main_arg6)] a : FVec Ideal S1x512 .f32) (ix2 0 k) := by
  have h : iblk m c 6 t (ix2 a k) = V m c main_v31 (ix2 a k) := by blk_ext [iblk, idx t]
  rw [h, V31]
  exact stackP_at _ _ _ a k

/-- The norm of a block's row is the token's. -/
theorem HR_eq (r k : Fin 1024) : HR (iblk m c 0 t) (iblk m c 1 t) (iblk m c 2 t) r k
    = PremixRef.HT (m ((c : Thread nD τ).loc main_arg0)) (m ((c : Thread nD τ).loc main_arg1)) (m ((c : Thread nD τ).loc main_arg2)) (bat t) (tok t r) k := by
  unfold HR PremixRef.HT
  simp only [read0, read1, read2]
  rfl

/-- So is the wide product of it. -/
theorem PR_eq (r : Fin 1024) (l : Fin 3072) : PR (iblk m c 0 t) (iblk m c 1 t) (iblk m c 2 t) (iblk m c 3 t) r l
    = PremixRef.PT (m ((c : Thread nD τ).loc main_arg0)) (m ((c : Thread nD τ).loc main_arg1)) (m ((c : Thread nD τ).loc main_arg2)) (m ((c : Thread nD τ).loc main_arg3)) (bat t) (tok t r) l := by
  unfold PR PremixRef.PT
  exact congrArg₂ dot (funext fun k => HR_eq m c t r k) (funext fun k => read3 m c t k l)

/-! ## The row before a block's first -/

/-- `v` stands before the point's block of the sequence `f`: the block's rows moved down by one, under `v`, are the sequence's tokens moved by one. -/
def Follows (v : EReal) (f : Fin 4096 → EReal) : Prop := ∀ r, prevRow v (fun r => f (tok t r)) r = before f (tok t r)

/-- At a sequence's first block it is zero. -/
theorem follows_start (h0 : t.val % 4 = 0) (f : Fin 4096 → EReal) : Follows t 0 f := by
  intro r
  have ht := (coords t).2
  unfold prevRow before
  by_cases hr : r.val = 0
  · rw [if_pos hr, if_pos (show (tok t r).val = 0 by show (grid0.coords t 1).val * 1024 + r.val = 0; omega)]
  · rw [if_neg hr, if_neg (show ¬ (tok t r).val = 0 by show ¬ (grid0.coords t 1).val * 1024 + r.val = 0; omega)]
    refine congrArg f (Fin.ext ?_)
    show (grid0.coords t 1).val * 1024 + (r.val - 1) = (grid0.coords t 1).val * 1024 + r.val - 1
    omega

/-- The point before. -/
def prior : Fin cfg0.N := ⟨t.val - 1, Nat.lt_of_le_of_lt (Nat.sub_le _ _) t.isLt⟩

theorem bat_prior (h0 : ¬ t.val % 4 = 0) : bat (prior t) = bat t := by
  have h := (coords t).1
  have h' := (coords (prior t)).1
  have e : (prior t).val = t.val - 1 := rfl
  refine Fin.ext ?_
  show (grid0.coords (prior t) 0).val = (grid0.coords t 0).val
  omega

/-- Elsewhere it is the last row of the block before. -/
theorem follows_next (h0 : ¬ t.val % 4 = 0) (f : Fin 4096 → EReal) (v : EReal) (hv : v = f (tok (prior t) 1023)) : Follows t v f := by
  intro r
  have ht := (coords t).2
  have ht' := (coords (prior t)).2
  have e : (prior t).val = t.val - 1 := rfl
  unfold prevRow before
  rw [if_neg (show ¬ (tok t r).val = 0 by show ¬ (grid0.coords t 1).val * 1024 + r.val = 0; omega)]
  by_cases hr : r.val = 0
  · rw [if_pos hr, hv]
    refine congrArg f (Fin.ext ?_)
    show (grid0.coords (prior t) 1).val * 1024 + 1023 = (grid0.coords t 1).val * 1024 + r.val - 1
    omega
  · rw [if_neg hr]
    refine congrArg f (Fin.ext ?_)
    show (grid0.coords t 1).val * 1024 + (r.val - 1) = (grid0.coords t 1).val * 1024 + r.val - 1
    omega

/-- What a point leaves for the next: the last rows of its blocks. -/
theorem carried : Carried (iblk m c 0 t) (iblk m c 1 t) (iblk m c 2 t) (iblk m c 3 t)
    (outsAt0 m c t.val t.isLt).2.2.2.2.2.2.2.1 (outsAt0 m c t.val t.isLt).2.2.2.2.2.2.2.2 := by
  by_cases h0 : t.val % 4 = 0
  · rw [outsAt0_A m c t h0]; dsimp only; exact carried_A ..
  · rw [outsAt0_B m c t h0]; dsimp only; exact carried_B ..

/-! ## The blocks of the results -/

/-- A shifted projection's block. -/
theorem mix_eq (o : ℕ) (ho : o + 512 ≤ 3072) (i : Fin 3) (v : Fin 512 → EReal) (r : Fin 1024) (j : Fin 512)
    (hv : Follows t (v j) (fun s => PremixRef.PT (m ((c : Thread nD τ).loc main_arg0)) (m ((c : Thread nD τ).loc main_arg1)) (m ((c : Thread nD τ).loc main_arg2)) (m ((c : Thread nD τ).loc main_arg3)) (bat t) s ⟨o + j, by omega⟩)) :
    MIX (iblk m c 0 t) (iblk m c 1 t) (iblk m c 2 t) (iblk m c 3 t) (iblk m c 6 t) o ho i v r j
      = lerp (PremixRef.PT (m ((c : Thread nD τ).loc main_arg0)) (m ((c : Thread nD τ).loc main_arg1)) (m ((c : Thread nD τ).loc main_arg2)) (m ((c : Thread nD τ).loc main_arg3)) (bat t) (tok t r) ⟨o + j, by omega⟩)
        (before (fun s => PremixRef.PT (m ((c : Thread nD τ).loc main_arg0)) (m ((c : Thread nD τ).loc main_arg1)) (m ((c : Thread nD τ).loc main_arg2)) (m ((c : Thread nD τ).loc main_arg3)) (bat t) s ⟨o + j, by omega⟩) (tok t r))
        ((![m ((c : Thread nD τ).loc main_arg4), m ((c : Thread nD τ).loc main_arg5), m ((c : Thread nD τ).loc main_arg6)] i : FVec Ideal S1x512 .f32) (ix2 0 j)) := by
  unfold MIX
  simp only [PR_eq, read6]
  rw [hv r]

/-- A shifted row's block. -/
theorem hx_eq (i : Fin 3) (v : Fin 1024 → EReal) (r k : Fin 1024) (hv : Follows t (v k) (fun s => PremixRef.HT (m ((c : Thread nD τ).loc main_arg0)) (m ((c : Thread nD τ).loc main_arg1)) (m ((c : Thread nD τ).loc main_arg2)) (bat t) s k)) :
    HX (iblk m c 0 t) (iblk m c 1 t) (iblk m c 2 t) (iblk m c 5 t) i v r k
      = lerp (PremixRef.HT (m ((c : Thread nD τ).loc main_arg0)) (m ((c : Thread nD τ).loc main_arg1)) (m ((c : Thread nD τ).loc main_arg2)) (bat t) (tok t r) k) (before (fun s => PremixRef.HT (m ((c : Thread nD τ).loc main_arg0)) (m ((c : Thread nD τ).loc main_arg1)) (m ((c : Thread nD τ).loc main_arg2)) (bat t) s k) (tok t r))
        ((![m ((c : Thread nD τ).loc main_arg7), m ((c : Thread nD τ).loc main_arg8), m ((c : Thread nD τ).loc main_arg9)] i : FVec Ideal S1x1024 .f32) (ix2 0 k)) := by
  unfold HX
  simp only [HR_eq, read5]
  rw [hv r]

theorem dot_zero (a : Fin 1024 → EReal) : dot a (fun _ => 0) = 0 := by simp [dot]

/-- The widened weights' products are the features' products, each in its columns. -/
theorem feature_eq (a b d : Fin 1024 → EReal) (w1 a1 : FVec Ideal S1x1024x64 .f32) (g1 : FVec Ideal S1x1024x128 .f32) (l : Fin 256) :
    feature l (dot a (fun k => wide64 (BitVec.ofNat 32 0) w1 (ix2 k l)) + dot b (fun k => wide64 (BitVec.ofNat 32 64) a1 (ix2 k l)) + dot d (fun k => wide128 (BitVec.ofNat 32 128) g1 (ix2 k l)))
      = low a b d (fun k l => w1 (ix3 0 k l)) (fun k l => a1 (ix3 0 k l)) (fun k l => g1 (ix3 0 k l)) l := by
  simp only [wide64_at 0 (by decide), wide64_at 64 (by decide), wide128_at 128 (by decide)]
  unfold feature low
  by_cases h1 : l.val < 64
  · simp only [dif_pos h1, if_pos h1, dif_pos (show 0 ≤ l.val ∧ l.val < 0 + 64 by omega), dif_neg (show ¬ (64 ≤ l.val ∧ l.val < 64 + 64) by omega),
      dif_neg (show ¬ (128 ≤ l.val ∧ l.val < 128 + 128) by omega), dot_zero, add_zero]
    rfl
  by_cases h2 : l.val < 128
  · simp only [dif_neg h1, if_neg h1, dif_pos h2, if_pos h2, dif_neg (show ¬ (0 ≤ l.val ∧ l.val < 0 + 64) by omega), dif_pos (show 64 ≤ l.val ∧ l.val < 64 + 64 by omega),
      dif_neg (show ¬ (128 ≤ l.val ∧ l.val < 128 + 128) by omega), dot_zero, add_zero, zero_add]
  · simp only [dif_neg h1, if_neg h1, dif_neg h2, if_neg h2, dif_neg (show ¬ (0 ≤ l.val ∧ l.val < 0 + 64) by omega), dif_neg (show ¬ (64 ≤ l.val ∧ l.val < 64 + 64) by omega),
      dif_pos (show 128 ≤ l.val ∧ l.val < 128 + 128 by omega), dot_zero, zero_add]

/-- The features' block. -/
theorem low_eq (v : Fin 1024 → EReal) (r : Fin 1024) (l : Fin 256) (hv : ∀ k, Follows t (v k) (fun s => PremixRef.HT (m ((c : Thread nD τ).loc main_arg0)) (m ((c : Thread nD τ).loc main_arg1)) (m ((c : Thread nD τ).loc main_arg2)) (bat t) s k)) :
    LOW (iblk m c 0 t) (iblk m c 1 t) (iblk m c 2 t) (iblk m c 4 t) (iblk m c 5 t) v r l
      = PremixRef.outL (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bat t) (tok t r) l) := by
  rw [PremixRef.outL_at]
  unfold LOW
  have e (i : Fin 3) := funext fun k => hx_eq m c t i v r k (hv k)
  have w (i : Fin 3) := funext fun k => read4 m c t i k l
  rw [e 0, e 1, e 2, w 0, w 1, w 2]
  dsimp only [Matrix.cons_val]
  rw [feature_eq]

/-- The row carried into a later block is the projection's at the token before it. -/
theorem carried_p (h0 : ¬ t.val % 4 = 0) (o : ℕ) (ho : o + 512 ≤ 3072) (j : Fin 512) (v : EReal)
    (hv : v = PR (iblk m c 0 (prior t)) (iblk m c 1 (prior t)) (iblk m c 2 (prior t)) (iblk m c 3 (prior t)) 1023 ⟨o + j, by omega⟩) :
    Follows t v (fun s => PremixRef.PT (m ((c : Thread nD τ).loc main_arg0)) (m ((c : Thread nD τ).loc main_arg1)) (m ((c : Thread nD τ).loc main_arg2)) (m ((c : Thread nD τ).loc main_arg3)) (bat t) s ⟨o + j, by omega⟩) := by
  refine follows_next t h0 _ v ?_
  rw [hv, PR_eq, bat_prior t h0]

theorem carried_h (h0 : ¬ t.val % 4 = 0) (k : Fin 1024) (v : EReal) (hv : v = HR (iblk m c 0 (prior t)) (iblk m c 1 (prior t)) (iblk m c 2 (prior t)) 1023 k) :
    Follows t v (fun s => PremixRef.HT (m ((c : Thread nD τ).loc main_arg0)) (m ((c : Thread nD τ).loc main_arg1)) (m ((c : Thread nD τ).loc main_arg2)) (bat t) s k) := by
  refine follows_next t h0 _ v ?_
  rw [hv, HR_eq, bat_prior t h0]

/-- The scaled queries. -/
theorem blk_7 (r : Fin 1024) (j : Fin 512) : (outsAt0 m c t.val t.isLt).1 (ix3 0 r j) = PremixRef.out0 (m ((c : Thread nD τ).loc main_arg0)) (m ((c : Thread nD τ).loc main_arg1)) (m ((c : Thread nD τ).loc main_arg2)) (m ((c : Thread nD τ).loc main_arg3)) (ix3 (bat t) (tok t r) j) := by
  rw [PremixRef.out0_at, ← PR_eq]
  by_cases h0 : t.val % 4 = 0
  · rw [outsAt0_A m c t h0]; dsimp only; exact out_A_7 ..
  · rw [outsAt0_B m c t h0]; dsimp only; exact out_B_7 ..

/-- The keys. -/
theorem blk_8 (r : Fin 1024) (j : Fin 512) : (outsAt0 m c t.val t.isLt).2.1 (ix3 0 r j) = PremixRef.out1 (m ((c : Thread nD τ).loc main_arg0)) (m ((c : Thread nD τ).loc main_arg1)) (m ((c : Thread nD τ).loc main_arg2)) (m ((c : Thread nD τ).loc main_arg3)) (ix3 (bat t) (tok t r) j) := by
  rw [PremixRef.out1_at, ← PR_eq]
  by_cases h0 : t.val % 4 = 0
  · rw [outsAt0_A m c t h0]; dsimp only; exact out_A_8 ..
  · rw [outsAt0_B m c t h0]; dsimp only; exact out_B_8 ..

/-- The values. -/
theorem blk_9 (r : Fin 1024) (j : Fin 512) : (outsAt0 m c t.val t.isLt).2.2.1 (ix3 0 r j) = PremixRef.out2 (m ((c : Thread nD τ).loc main_arg0)) (m ((c : Thread nD τ).loc main_arg1)) (m ((c : Thread nD τ).loc main_arg2)) (m ((c : Thread nD τ).loc main_arg3)) (ix3 (bat t) (tok t r) j) := by
  rw [PremixRef.out2_at, ← PR_eq]
  by_cases h0 : t.val % 4 = 0
  · rw [outsAt0_A m c t h0]; dsimp only; exact out_A_9 ..
  · rw [outsAt0_B m c t h0]; dsimp only; exact out_B_9 ..

/-- The first shifted projection. -/
theorem blk_10 (r : Fin 1024) (j : Fin 512) : (outsAt0 m c t.val t.isLt).2.2.2.1 (ix3 0 r j)
    = PremixRef.outS (m ((c : Thread nD τ).loc main_arg0)) (m ((c : Thread nD τ).loc main_arg1)) (m ((c : Thread nD τ).loc main_arg2)) (m ((c : Thread nD τ).loc main_arg3)) 1536 Cert.PremixReferenceIdeal.Gen.slices_S8x4096x3072_S8x4096x512_0_0_1536 (m ((c : Thread nD τ).loc main_arg4)) (ix3 (bat t) (tok t r) j) := by
  rw [PremixRef.outS_at _ _ _ _ _ _ 1536 (by decide)]
  by_cases h0 : t.val % 4 = 0
  · rw [outsAt0_A m c t h0]; dsimp only
    exact (out_A_10 ..).trans (mix_eq m c t 1536 (by decide) 0 _ r j (follows_start t h0 _))
  · rw [outsAt0_B m c t h0]; dsimp only
    exact (out_B_10 ..).trans (mix_eq m c t 1536 (by decide) 0 _ r j (carried_p m c t h0 1536 (by decide) j _ ((carried m c (prior t)).p j).1))

/-- The second. -/
theorem blk_11 (r : Fin 1024) (j : Fin 512) : (outsAt0 m c t.val t.isLt).2.2.2.2.1 (ix3 0 r j)
    = PremixRef.outS (m ((c : Thread nD τ).loc main_arg0)) (m ((c : Thread nD τ).loc main_arg1)) (m ((c : Thread nD τ).loc main_arg2)) (m ((c : Thread nD τ).loc main_arg3)) 2048 Cert.PremixReferenceIdeal.Gen.slices_S8x4096x3072_S8x4096x512_0_0_2048 (m ((c : Thread nD τ).loc main_arg5)) (ix3 (bat t) (tok t r) j) := by
  rw [PremixRef.outS_at _ _ _ _ _ _ 2048 (by decide)]
  by_cases h0 : t.val % 4 = 0
  · rw [outsAt0_A m c t h0]; dsimp only
    exact (out_A_11 ..).trans (mix_eq m c t 2048 (by decide) 1 _ r j (follows_start t h0 _))
  · rw [outsAt0_B m c t h0]; dsimp only
    exact (out_B_11 ..).trans (mix_eq m c t 2048 (by decide) 1 _ r j (carried_p m c t h0 2048 (by decide) j _ ((carried m c (prior t)).p j).2.1))

/-- The third. -/
theorem blk_12 (r : Fin 1024) (j : Fin 512) : (outsAt0 m c t.val t.isLt).2.2.2.2.2.1 (ix3 0 r j)
    = PremixRef.outS (m ((c : Thread nD τ).loc main_arg0)) (m ((c : Thread nD τ).loc main_arg1)) (m ((c : Thread nD τ).loc main_arg2)) (m ((c : Thread nD τ).loc main_arg3)) 2560 Cert.PremixReferenceIdeal.Gen.slices_S8x4096x3072_S8x4096x512_0_0_2560 (m ((c : Thread nD τ).loc main_arg6)) (ix3 (bat t) (tok t r) j) := by
  rw [PremixRef.outS_at _ _ _ _ _ _ 2560 (by decide)]
  by_cases h0 : t.val % 4 = 0
  · rw [outsAt0_A m c t h0]; dsimp only
    exact (out_A_12 ..).trans (mix_eq m c t 2560 (by decide) 2 _ r j (follows_start t h0 _))
  · rw [outsAt0_B m c t h0]; dsimp only
    exact (out_B_12 ..).trans (mix_eq m c t 2560 (by decide) 2 _ r j (carried_p m c t h0 2560 (by decide) j _ ((carried m c (prior t)).p j).2.2))

/-- The features. -/
theorem blk_13 (r : Fin 1024) (j : Fin 256) : (outsAt0 m c t.val t.isLt).2.2.2.2.2.2.1 (ix3 0 r j)
    = PremixRef.outL (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix3 (bat t) (tok t r) j) := by
  by_cases h0 : t.val % 4 = 0
  · rw [outsAt0_A m c t h0]; dsimp only
    exact (out_A_13 ..).trans (low_eq m c t _ r j fun k => follows_start t h0 _)
  · rw [outsAt0_B m c t h0]; dsimp only
    exact (out_B_13 ..).trans (low_eq m c t _ r j fun k => carried_h m c t h0 k _ ((carried m c (prior t)).h k))
end reads

/-! ## The whole arrays -/

theorem final_7 (c : Dev nD) : (dats m 0 c).arrAt 7 (cfgs 0).N = PremixRef.out0 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  obtain ⟨a, r, j, rfl⟩ : ∃ a r j, y = ix3 a r j := ⟨y 0, y 1, y 2, eq_ix3 y⟩
  obtain rfl : a = 0 := Subsingleton.elim _ _
  have e : ((cfg0.win 7).blk t).view.emb (ix3 0 r j) = ix3 (bat t) (tok t r) j := by blk_ext [idx t, bat, tok]
  rw [e]
  exact blk_7 m c t r j

theorem final_8 (c : Dev nD) : (dats m 0 c).arrAt 8 (cfgs 0).N = PremixRef.out1 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  obtain ⟨a, r, j, rfl⟩ : ∃ a r j, y = ix3 a r j := ⟨y 0, y 1, y 2, eq_ix3 y⟩
  obtain rfl : a = 0 := Subsingleton.elim _ _
  have e : ((cfg0.win 8).blk t).view.emb (ix3 0 r j) = ix3 (bat t) (tok t r) j := by blk_ext [idx t, bat, tok]
  rw [e]
  exact blk_8 m c t r j

theorem final_9 (c : Dev nD) : (dats m 0 c).arrAt 9 (cfgs 0).N = PremixRef.out2 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  obtain ⟨a, r, j, rfl⟩ : ∃ a r j, y = ix3 a r j := ⟨y 0, y 1, y 2, eq_ix3 y⟩
  obtain rfl : a = 0 := Subsingleton.elim _ _
  have e : ((cfg0.win 9).blk t).view.emb (ix3 0 r j) = ix3 (bat t) (tok t r) j := by blk_ext [idx t, bat, tok]
  rw [e]
  exact blk_9 m c t r j

theorem final_10 (c : Dev nD) : (dats m 0 c).arrAt 10 (cfgs 0).N = PremixRef.outS (m ((c : Thread nD τ).loc main_arg0)) (m ((c : Thread nD τ).loc main_arg1)) (m ((c : Thread nD τ).loc main_arg2)) (m ((c : Thread nD τ).loc main_arg3)) 1536 Cert.PremixReferenceIdeal.Gen.slices_S8x4096x3072_S8x4096x512_0_0_1536 (m ((c : Thread nD τ).loc main_arg4)) := by
  refine (dats m 0 c).arrAt_eq_of_covers 10 _ (by decide +kernel) fun t _ y => ?_
  blk_simp
  rw [after0_10]
  obtain ⟨a, r, j, rfl⟩ : ∃ a r j, y = ix3 a r j := ⟨y 0, y 1, y 2, eq_ix3 y⟩
  obtain rfl : a = 0 := Subsingleton.elim _ _
  have e : ((cfg0.win 10).blk t).view.emb (ix3 0 r j) = ix3 (bat t) (tok t r) j := by blk_ext [idx t, bat, tok]
  rw [e]
  exact blk_10 m c t r j

theorem final_11 (c : Dev nD) : (dats m 0 c).arrAt 11 (cfgs 0).N = PremixRef.outS (m ((c : Thread nD τ).loc main_arg0)) (m ((c : Thread nD τ).loc main_arg1)) (m ((c : Thread nD τ).loc main_arg2)) (m ((c : Thread nD τ).loc main_arg3)) 2048 Cert.PremixReferenceIdeal.Gen.slices_S8x4096x3072_S8x4096x512_0_0_2048 (m ((c : Thread nD τ).loc main_arg5)) := by
  refine (dats m 0 c).arrAt_eq_of_covers 11 _ (by decide +kernel) fun t _ y => ?_
  blk_simp
  rw [after0_11]
  obtain ⟨a, r, j, rfl⟩ : ∃ a r j, y = ix3 a r j := ⟨y 0, y 1, y 2, eq_ix3 y⟩
  obtain rfl : a = 0 := Subsingleton.elim _ _
  have e : ((cfg0.win 11).blk t).view.emb (ix3 0 r j) = ix3 (bat t) (tok t r) j := by blk_ext [idx t, bat, tok]
  rw [e]
  exact blk_11 m c t r j

theorem final_12 (c : Dev nD) : (dats m 0 c).arrAt 12 (cfgs 0).N = PremixRef.outS (m ((c : Thread nD τ).loc main_arg0)) (m ((c : Thread nD τ).loc main_arg1)) (m ((c : Thread nD τ).loc main_arg2)) (m ((c : Thread nD τ).loc main_arg3)) 2560 Cert.PremixReferenceIdeal.Gen.slices_S8x4096x3072_S8x4096x512_0_0_2560 (m ((c : Thread nD τ).loc main_arg6)) := by
  refine (dats m 0 c).arrAt_eq_of_covers 12 _ (by decide +kernel) fun t _ y => ?_
  blk_simp
  rw [after0_12]
  obtain ⟨a, r, j, rfl⟩ : ∃ a r j, y = ix3 a r j := ⟨y 0, y 1, y 2, eq_ix3 y⟩
  obtain rfl : a = 0 := Subsingleton.elim _ _
  have e : ((cfg0.win 12).blk t).view.emb (ix3 0 r j) = ix3 (bat t) (tok t r) j := by blk_ext [idx t, bat, tok]
  rw [e]
  exact blk_12 m c t r j

theorem final_13 (c : Dev nD) : (dats m 0 c).arrAt 13 (cfgs 0).N = PremixRef.outL (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t _ y => ?_
  blk_simp
  rw [after0_13]
  obtain ⟨a, r, j, rfl⟩ : ∃ a r j, y = ix3 a r j := ⟨y 0, y 1, y 2, eq_ix3 y⟩
  obtain rfl : a = 0 := Subsingleton.elim _ _
  have e : ((cfg0.win 13).blk t).view.emb (ix3 0 r j) = ix3 (bat t) (tok t r) j := by blk_ext [idx t, bat, tok]
  rw [e]
  exact blk_13 m c t r j

end Cert.Proof.PremixValue
-- ==== Proof.Premix.lean ====
/- The input projections' claims: the program and its idealisation run and keep their arguments, so does the plain reference, and
   over the extended reals both give the same seven arrays. -/
module

public import proofs.«01_k».proof.Defs
public import proofs.«01_k».proof.Proof.Gen.Premix.Frame
public import proofs.«01_k».proof.Proof.Gen.PremixIdeal.Value
public import proofs.«01_k».proof.Proof.Gen.PremixReferenceIdeal.Run
public import Idealize.ShloMosaic.Lib.Quiescent
public import proofs.«01_k».proof.Proof.PremixValue

@[expose] public section
noncomputable section
open Idealize.ShloMosaic Idealize.ShloMosaic.TcCoe Idealize.SL.Sem
namespace Cert.Proof.Premix

/-- The program runs, its arguments unchanged. -/
theorem frame : Cert.quiescent_Premix (hPremix := Cert.Premix.Gen.facts) := fun m ρ _ => Cert.Premix.Gen.frame m ρ
/-- Its idealisation runs, its arguments unchanged. -/
theorem frame_ideal : Cert.quiescent_PremixIdeal (hPremixIdeal := Cert.PremixIdeal.Gen.facts) := fun m ρ _ => Cert.PremixIdeal.Gen.frame m ρ
/-- The reference runs, its arguments unchanged. -/
theorem frame_reference : Cert.quiescent_PremixReferenceIdeal (hPremixReferenceIdeal := Cert.PremixReferenceIdeal.Gen.facts) := fun m ρ _ =>
  (θ_run Cert.PremixReferenceIdeal.defs _ _).mono (fun r h => ⟨fun c => (h c).2.2.2.2.2.2.2, sem_eq_zero_of_no_sems (by decide) r.2⟩) (Cert.PremixReferenceIdeal.Value.run m ρ)
/-- The idealisation rewrote nothing. -/
theorem preserved : Cert.preserves_Premix_PremixIdeal := trivial

/-- Over the extended reals the program and the reference give the same seven arrays. -/
theorem value : Cert.algebraic_PremixIdeal_PremixReferenceIdeal (hPremixIdeal := Cert.PremixIdeal.Gen.facts) (hPremixReferenceIdeal := Cert.PremixReferenceIdeal.Gen.facts) := by
  intro m ρ m' ρ' _ h
  refine ⟨fun c => PremixRef.out0 (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)),
    fun c => PremixRef.out1 (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)),
    fun c => PremixRef.out2 (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)),
    fun c => PremixRef.outS (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)) 1536 Cert.PremixReferenceIdeal.Gen.slices_S8x4096x3072_S8x4096x512_0_0_1536 (m ((c.tc : Thread Cert.PremixIdeal.nD Cert.PremixIdeal.τ).loc Cert.PremixIdeal.main_arg4)),
    fun c => PremixRef.outS (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)) 2048 Cert.PremixReferenceIdeal.Gen.slices_S8x4096x3072_S8x4096x512_0_0_2048 (m ((c.tc : Thread Cert.PremixIdeal.nD Cert.PremixIdeal.τ).loc Cert.PremixIdeal.main_arg5)),
    fun c => PremixRef.outS (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg3)) 2560 Cert.PremixReferenceIdeal.Gen.slices_S8x4096x3072_S8x4096x512_0_0_2560 (m ((c.tc : Thread Cert.PremixIdeal.nD Cert.PremixIdeal.τ).loc Cert.PremixIdeal.main_arg6)),
    fun c => PremixRef.outL (m ((c.tc : Thread Cert.PremixIdeal.nD Cert.PremixIdeal.τ).loc Cert.PremixIdeal.main_arg0)) (m ((c.tc : Thread Cert.PremixIdeal.nD Cert.PremixIdeal.τ).loc Cert.PremixIdeal.main_arg1)) (m ((c.tc : Thread Cert.PremixIdeal.nD Cert.PremixIdeal.τ).loc Cert.PremixIdeal.main_arg2)) (m ((c.tc : Thread Cert.PremixIdeal.nD Cert.PremixIdeal.τ).loc Cert.PremixIdeal.main_arg7)) (m ((c.tc : Thread Cert.PremixIdeal.nD Cert.PremixIdeal.τ).loc Cert.PremixIdeal.main_arg8)) (m ((c.tc : Thread Cert.PremixIdeal.nD Cert.PremixIdeal.τ).loc Cert.PremixIdeal.main_arg9)) (m ((c.tc : Thread Cert.PremixIdeal.nD Cert.PremixIdeal.τ).loc Cert.PremixIdeal.main_arg10)) (m ((c.tc : Thread Cert.PremixIdeal.nD Cert.PremixIdeal.τ).loc Cert.PremixIdeal.main_arg11)) (m ((c.tc : Thread Cert.PremixIdeal.nD Cert.PremixIdeal.τ).loc Cert.PremixIdeal.main_arg12)), ?_, ?_⟩
  · exact (θ_run Cert.PremixIdeal.defs _ _).mono (fun r k c => ⟨(k c).1.trans (PremixValue.final_7 m c),
      (k c).2.1.trans (PremixValue.final_8 m c),
      (k c).2.2.1.trans (PremixValue.final_9 m c),
      (k c).2.2.2.1.trans (PremixValue.final_10 m c),
      (k c).2.2.2.2.1.trans (PremixValue.final_11 m c),
      (k c).2.2.2.2.2.1.trans (PremixValue.final_12 m c),
      (k c).2.2.2.2.2.2.1.trans (PremixValue.final_13 m c), (k c).2.2.2.2.2.2.2⟩) (Cert.PremixIdeal.Value.run_blocks m ρ)
  · refine (θ_run Cert.PremixReferenceIdeal.defs _ _).mono (fun r k c => ?_) (Cert.PremixReferenceIdeal.Value.run m' ρ')
    obtain ⟨h0, h1, h2, h3, h4, h5, h6, h7, h8, h9, h10, h11, h12⟩ := h c
    beta_reduce
    rw [← h0, ← h1, ← h2, ← h3, ← h4, ← h5, ← h6, ← h7, ← h8, ← h9, ← h10, ← h11, ← h12]
    exact ⟨(k c).1.trans (rfl),
      (k c).2.1.trans (rfl),
      (k c).2.2.1.trans (rfl),
      (k c).2.2.2.1.trans (PremixRef.res97 m' c),
      (k c).2.2.2.2.1.trans (PremixRef.res98 m' c),
      (k c).2.2.2.2.2.1.trans (PremixRef.res99 m' c),
      (k c).2.2.2.2.2.2.1.trans (PremixRef.res100 m' c), (k c).2.2.2.2.2.2.2⟩

end Cert.Proof.Premix
-- ==== Proof.AdaValue.lean ====
/- The modulation's result array: the product of the activated conditioning vectors with the weight, plus the bias. The kernel
   splits both factors into a high and a low part; over the reals the low parts are zero. -/
module

public import proofs.«01_k».proof.Proof.Gen.AdaIdeal.Value
public import proofs.«01_k».proof.Proof.Gen.AdaReferenceIdeal.Run
public import proofs.«01_k».proof.Proof.Gen.Pre_ada_finite
public import proofs.«01_k».proof.Proof.AttnFinite
public import proofs.«01_k».proof.Proof.ChannelSpec
public import Idealize.ShloMosaic.Lib.Pipeline.ReadBack

@[expose] public section
set_option maxRecDepth 16384
noncomputable section
open Idealize.ShloMosaic Idealize.ShloMosaic.TcCoe Idealize.SL.Sem
namespace Cert.Proof.AdaValue
open Cert.Proof.ChannelSpec

/-! ## One element -/

/-- One element of the result: the activated row against a column of the weight, plus the bias. -/
def ada (c w : Fin 1024 → EReal) (b : EReal) : EReal := (∑ k, silu (c k) * w k) + b

/-- The same with both factors split into a high and a low part, the product of the low parts left out. -/
def split (c w : Fin 1024 → EReal) (b : EReal) : EReal :=
  (∑ k, silu (c k) * w k + (∑ k, silu (c k) * (w k - w k) + ∑ k, (silu (c k) - silu (c k)) * w k)) + b

/-- The activation of a real is real. -/
theorem silu_real (x : ℝ) : ∃ r : ℝ, silu (x : EReal) = r := by
  have hp : (1 + Real.exp (-x) : ℝ) ≠ 0 := by positivity
  refine ⟨x * (1 / (1 + Real.exp (-x))), ?_⟩
  unfold silu
  rw [← EReal.coe_neg, Ideal.exp_coe, ← EReal.coe_one, ← EReal.coe_add, Ideal.div_coe hp, EReal.coe_one, one_mul, EReal.coe_mul]

/-- Where the row and the column are real, the split changes nothing. -/
theorem split_eq (c w : Fin 1024 → ℝ) (b : EReal) : split (fun k => (c k : EReal)) (fun k => (w k : EReal)) b = ada (fun k => (c k : EReal)) (fun k => (w k : EReal)) b := by
  have hw (k : Fin 1024) : ((w k : ℝ) : EReal) - (w k : EReal) = 0 := by rw [← EReal.coe_sub, sub_self, EReal.coe_zero]
  have hs (k : Fin 1024) : silu (c k : EReal) - silu (c k : EReal) = 0 := by
    obtain ⟨r, h⟩ := silu_real (c k)
    rw [h, ← EReal.coe_sub, sub_self, EReal.coe_zero]
  unfold split ada
  simp only [hw, hs, mul_zero, zero_mul, Finset.sum_const_zero, add_zero]

/-! ## The precondition -/

/-- The conditioning vectors and the weight are real where the precondition holds. -/
theorem finite (c : FVec Ideal Cert.Pre_ada_finite.S8x1024 .f32) (w : FVec Ideal Cert.Pre_ada_finite.S1x1024x6144 .f32) (b : FVec Ideal Cert.Pre_ada_finite.S1x6144 .f32)
    [Cert.Pre_ada_finite.Facts] (h : Cert.Pre_ada_finite.fn c w b = fun _ => 1#1) :
    (∃ r : Cert.Pre_ada_finite.S8x1024.Idx → ℝ, c = fun i => ((r i : ℝ) : EReal)) ∧ (∃ r : Cert.Pre_ada_finite.S1x1024x6144.Idx → ℝ, w = fun i => ((r i : ℝ) : EReal)) := by
  have h' := congrFun h ix0
  unfold Cert.Pre_ada_finite.fn at h'
  obtain ⟨hc, hw⟩ := AttnFinite.both h'
  exact ⟨AttnFinite.reals hc fun _ => rfl, AttnFinite.reals hw fun _ => rfl⟩

/-! ## The reference -/

section reference
open Cert.AdaReferenceIdeal Cert.AdaReferenceIdeal.Gen

/-- The reference's array. -/
def out (c : FVec Ideal S8x1024 .f32) (w : FVec Ideal S1x1024x6144 .f32) (b : FVec Ideal S1x6144 .f32) : FVec Ideal S8x6144 .f32 :=
  addf (Host.dotGeneral dot_S8x1024_S1024x6144_S8x6144_1_0_0_1_n_n none
      (mulf c (Host.divf (broadcastInDim S8x1024 ![] bcast_S_S8x1024 (constant S_ .f32 0x3F800000#32))
        (addf (broadcastInDim S8x1024 ![] bcast_S_S8x1024 (constant S_ .f32 0x3F800000#32)) (Host.exp (Host.negf c)))))
      (shapeCast S1024x6144 w shapeCasts_S1x1024x6144_S1024x6144))
    (broadcastInDim S8x6144 ![0, 1] bcast_S1x6144_S8x6144_0_1 (broadcastInDim S1x6144 ![1] bcast_S6144_S1x6144_1 (shapeCast S6144 b shapeCasts_S1x6144_S6144)))

theorem out_at (c : FVec Ideal S8x1024 .f32) (w : FVec Ideal S1x1024x6144 .f32) (b : FVec Ideal S1x6144 .f32) (r : Fin 8) (j : Fin 6144) :
    out c w b (ix2 r j) = ada (fun k => c (ix2 r k)) (fun k => w (ix3 0 k j)) (b (ix2 0 j)) := by
  pointwise [out, ada, silu]
end reference

/-! ## The kernel -/

section kernel
open Cert.AdaIdeal Cert.AdaIdeal.Gen
variable (m : (ℓ : Loc nD τ sig) → Buf (Elt Ideal) ℓ)

/-- One element of a block of 1024 columns. -/
theorem pay_at (c : Vec Ideal S8x1024 .f32) (w : Vec Ideal S1024x1024 .f32) (b : Vec Ideal S1x1024 .f32) (r : Fin 8) (j : Fin 1024) :
    k0_pay1 (F := Ideal) c w b (ix2 r j) = split (fun k => c (ix2 r k)) (fun k => w (ix2 k j)) (b (ix2 0 j)) := by
  pointwise [k0_pay1, split, silu]
  simp only [zero_sub]

/-- The windows' block indices, at every grid point. -/
theorem idx : ∀ t : Fin cfg0.N, win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

section reads
variable (c : Dev nD) (t : Fin cfg0.N)

/-- The column of the result that column `j` of a grid point's block is. -/
def col (j : Fin 1024) : Fin 6144 := ⟨(grid0.coords t 0).val * 1024 + j, by have h : (grid0.coords t 0).val < 6 := (grid0.coords t 0).isLt; omega⟩

theorem read0 (r : Fin 8) (k : Fin 1024) : iblk m c 0 t (ix2 r k) = m ((c : Thread nD τ).loc main_arg0) (ix2 r k) := by
  blk_ext! [iblk, V, idx t]
theorem read1 (k j : Fin 1024) : iblk m c 1 t (ix2 k j) = m ((c : Thread nD τ).loc main_arg1) (ix3 0 k (col t j)) := by
  blk_ext! [iblk, V, idx t, col]
theorem read2 (j : Fin 1024) : iblk m c 2 t (ix2 0 j) = m ((c : Thread nD τ).loc main_arg2) (ix2 0 (col t j)) := by
  blk_ext! [iblk, V, idx t, col]
end reads

/-- The reference's function of this program's argument arrays. -/
def G (c : Dev nD) : FVec Ideal S8x6144 .f32 :=
  out (m ((c : Thread nD τ).loc main_arg0)) (m ((c : Thread nD τ).loc main_arg1)) (m ((c : Thread nD τ).loc main_arg2))

/-- The result array after the run, where the conditioning vectors and the weight are real. -/
theorem final (c : Dev nD) {x : S8x1024.Idx → ℝ} {w : S1x1024x6144.Idx → ℝ} (hx : m ((c : Thread nD τ).loc main_arg0) = fun i => ((x i : ℝ) : EReal))
    (hw : m ((c : Thread nD τ).loc main_arg1) = fun i => ((w i : ℝ) : EReal)) : (dats m 0 c).arrAt 3 (cfgs 0).N = G m c := by
  refine (dats m 0 c).arrAt_eq_of_covers 3 _ (by decide +kernel) fun t _ y => ?_
  blk_simp
  rw [after0_3]
  unfold out0_3
  have z : (![0, 0] : Fin 2 → ℕ) = fun _ => 0 := by decide
  rw [View.canon_unit_zero z, View.ld_unit_zero z, View.ld_unit_zero z, View.ld_unit_zero z]
  obtain ⟨r, j, rfl⟩ : ∃ r j, y = ix2 r j := ⟨y 0, y 1, eq_ix2 y⟩
  rw [pay_at]
  simp only [read0, read1, read2]
  have e : ((cfg0.win 3).blk t).view.emb (ix2 r j) = ix2 r (col t j) := by
    blk_ext [idx t, col]
  rw [e]
  refine Eq.trans ?_ (out_at _ _ _ r (col t j)).symm
  rw [hx, hw]
  exact split_eq _ _ _
end kernel
end Cert.Proof.AdaValue
-- ==== Proof.Ada.lean ====
/- The modulation's claims: the program and its idealisation run and keep their arguments, so does the plain reference, and
   over the extended reals both give the same array where the conditioning vectors and the weight are finite. -/
module

public import proofs.«01_k».proof.Defs
public import proofs.«01_k».proof.Proof.Gen.Ada.Frame
public import proofs.«01_k».proof.Proof.AdaValue
public import Idealize.ShloMosaic.Lib.Quiescent

@[expose] public section
noncomputable section
open Idealize.ShloMosaic Idealize.ShloMosaic.TcCoe Idealize.SL.Sem
namespace Cert.Proof.Ada

/-- The program runs, its arguments unchanged. -/
theorem frame : Cert.quiescent_Ada (hAda := Cert.Ada.Gen.facts) := fun m ρ _ => Cert.Ada.Gen.frame m ρ
/-- Its idealisation runs, its arguments unchanged, -/
theorem frame_ideal : Cert.quiescent_AdaIdeal (hAdaIdeal := Cert.AdaIdeal.Gen.facts) (hPre_ada_finite := Cert.Pre_ada_finite.Gen.facts) := fun m ρ _ => Cert.AdaIdeal.Gen.frame m ρ
/-- whatever the arguments hold. -/
theorem frame_ideal_any : Cert.quiescent_AdaIdeal_pre_none (hAdaIdeal := Cert.AdaIdeal.Gen.facts) := fun m ρ _ => Cert.AdaIdeal.Gen.frame m ρ
/-- The reference runs, its arguments unchanged. -/
theorem frame_reference : Cert.quiescent_AdaReferenceIdeal (hAdaReferenceIdeal := Cert.AdaReferenceIdeal.Gen.facts) (hPre_ada_finite := Cert.Pre_ada_finite.Gen.facts) := fun m ρ _ =>
  (θ_run Cert.AdaReferenceIdeal.defs _ _).mono (fun r h => ⟨fun c => (h c).2, sem_eq_zero_of_no_sems (by decide) r.2⟩) (Cert.AdaReferenceIdeal.Value.run m ρ)
/-- The idealisation rewrote nothing. -/
theorem preserved : Cert.preserves_Ada_AdaIdeal := trivial
/-- Where the conditioning vectors and the weight are finite the program computes, over the extended reals, the reference's array. -/
theorem value : Cert.algebraic_AdaIdeal_AdaReferenceIdeal (hAdaIdeal := Cert.AdaIdeal.Gen.facts) (hAdaReferenceIdeal := Cert.AdaReferenceIdeal.Gen.facts)
    (hPre_ada_finite := Cert.Pre_ada_finite.Gen.facts) := by
  intro m ρ m' ρ' hpre h
  refine ⟨fun c => AdaValue.G m c, ?_, ?_⟩
  · refine (θ_run Cert.AdaIdeal.defs _ _).mono (fun r k c => ⟨(k c).1.trans ?_, (k c).2⟩) (Cert.AdaIdeal.Value.run_blocks m ρ)
    obtain ⟨⟨x, hx⟩, ⟨w, hw⟩⟩ := AdaValue.finite _ _ _ (hpre c)
    exact AdaValue.final m c hx hw
  · refine (θ_run Cert.AdaReferenceIdeal.defs _ _).mono (fun r k c => ⟨(k c).1.trans ?_, (k c).2⟩) (Cert.AdaReferenceIdeal.Value.run m' ρ')
    obtain ⟨h0, h1, h2⟩ := h c
    beta_reduce
    rw [h0, h1, h2]
    rfl

end Cert.Proof.Ada
-- ==== Proof.lean ====
/- The certificate: the claims about the attention, about the channel mixer, the input projections and the modulation, each from its own module. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Channel
public import proofs.«01_k».proof.Proof.Gen.Channel.Skeleton
public import proofs.«01_k».proof.Proof.Gen.Channel.Launch
public import proofs.«01_k».proof.Proof.Gen.Channel.Points
public import proofs.«01_k».proof.Proof.Gen.Channel.Frame
public import proofs.«01_k».proof.Proof.Gen.ChannelIdeal
public import proofs.«01_k».proof.Proof.Gen.ChannelIdeal.Skeleton
public import proofs.«01_k».proof.Proof.Gen.ChannelIdeal.Launch
public import proofs.«01_k».proof.Proof.Gen.ChannelIdeal.Points
public import proofs.«01_k».proof.Proof.Gen.ChannelIdeal.Frame
public import proofs.«01_k».proof.Proof.Gen.ChannelIdeal.Value
public import proofs.«01_k».proof.Proof.Gen.ChannelReferenceIdeal
public import proofs.«01_k».proof.Proof.Gen.ChannelReferenceIdeal.Run
public import proofs.«01_k».proof.Proof.Gen.Premix
public import proofs.«01_k».proof.Proof.Gen.Premix.Skeleton
public import proofs.«01_k».proof.Proof.Gen.Premix.Launch
public import proofs.«01_k».proof.Proof.Gen.Premix.Points
public import proofs.«01_k».proof.Proof.Gen.Premix.Frame
public import proofs.«01_k».proof.Proof.Gen.PremixIdeal
public import proofs.«01_k».proof.Proof.Gen.PremixIdeal.Skeleton
public import proofs.«01_k».proof.Proof.Gen.PremixIdeal.Launch
public import proofs.«01_k».proof.Proof.Gen.PremixIdeal.Points
public import proofs.«01_k».proof.Proof.Gen.PremixIdeal.Frame
public import proofs.«01_k».proof.Proof.Gen.PremixIdeal.Value
public import proofs.«01_k».proof.Proof.Gen.PremixReferenceIdeal
public import proofs.«01_k».proof.Proof.Gen.PremixReferenceIdeal.Run
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaReferenceIdeal
public import proofs.«01_k».proof.Proof.Gen.AdaReferenceIdeal.Run
public import proofs.«01_k».proof.Proof.Gen.Pre_ada_finite
public import proofs.«01_k».proof.Proof.Gen.Pre_inputs_finite
public import proofs.«01_k».proof.Proof.Attention
public import proofs.«01_k».proof.Proof.Channel
public import proofs.«01_k».proof.Proof.Premix
public import proofs.«01_k».proof.Proof.Ada

@[expose] public section

noncomputable section
namespace Cert.Proof

open Idealize.ShloMosaic Idealize.SL.Sem

theorem claim : Cert.Claim :=
  ⟨Cert.Kernel.Gen.facts, Cert.KernelIdeal.Gen.facts, Cert.ReferenceIdeal.Gen.facts, Cert.Channel.Gen.facts, Cert.ChannelIdeal.Gen.facts,
    Cert.ChannelReferenceIdeal.Gen.facts, Cert.Premix.Gen.facts, Cert.PremixIdeal.Gen.facts, Cert.PremixReferenceIdeal.Gen.facts,
    Cert.Ada.Gen.facts, Cert.AdaIdeal.Gen.facts, Cert.AdaReferenceIdeal.Gen.facts, Cert.Pre_inputs_finite.Gen.facts, Cert.Pre_ada_finite.Gen.facts,
    Attention.frame, Attention.frame_ideal, Attention.frame_ideal_any, Attention.frame_reference,
    Channel.frame, Channel.frame_ideal, Channel.frame_reference,
    Premix.frame, Premix.frame_ideal, Premix.frame_reference,
    Ada.frame, Ada.frame_ideal, Ada.frame_ideal_any, Ada.frame_reference,
    Attention.preserved, Attention.value, Channel.preserved, Channel.value, Premix.preserved, Premix.value,
    Ada.preserved, Ada.value⟩

end Cert.Proof

end
